-- ==== Defs.lean ====
def Pre_Kernel [hPre_edges_in_range : Cert.Pre_edges_in_range.Facts] (m : (ℓ : Loc Cert.Kernel.nD Cert.Kernel.τ Cert.Kernel.sig) → Buf (Elt Bits) ℓ) : Prop :=
  ∀ c : Dev Cert.Kernel.nD,
    (Cert.Pre_edges_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_edges_in_range : Cert.Pre_edges_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_edges_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_KernelIdeal_items_in_order_edges_in_range_weights_finite [hPre_items_in_order_edges_in_range_weights_finite : Cert.Pre_items_in_order_edges_in_range_weights_finite.Facts] (m : (ℓ : Loc Cert.KernelIdeal.nD Cert.KernelIdeal.τ Cert.KernelIdeal.sig) → Buf (Elt Ideal) ℓ) : Prop :=
  ∀ c : Dev Cert.KernelIdeal.nD,
    (Cert.Pre_items_in_order_edges_in_range_weights_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_edges_in_range : Cert.Pre_edges_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_edges_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def Pre_ReferenceIdeal_items_in_order_edges_in_range_weights_finite [hPre_items_in_order_edges_in_range_weights_finite : Cert.Pre_items_in_order_edges_in_range_weights_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_items_in_order_edges_in_range_weights_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] [hPre_edges_in_range : Cert.Pre_edges_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] [hPre_edges_in_range : Cert.Pre_edges_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_items_in_order_edges_in_range_weights_finite [hKernelIdeal : Cert.KernelIdeal.Facts] [hPre_items_in_order_edges_in_range_weights_finite : Cert.Pre_items_in_order_edges_in_range_weights_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_items_in_order_edges_in_range_weights_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] [hPre_edges_in_range : Cert.Pre_edges_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_items_in_order_edges_in_range_weights_finite [hReferenceIdeal : Cert.ReferenceIdeal.Facts] [hPre_items_in_order_edges_in_range_weights_finite : Cert.Pre_items_in_order_edges_in_range_weights_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_items_in_order_edges_in_range_weights_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_items_in_order_edges_in_range_weights_finite [hKernelIdeal : Cert.KernelIdeal.Facts] [hReferenceIdeal : Cert.ReferenceIdeal.Facts] [hPre_items_in_order_edges_in_range_weights_finite : Cert.Pre_items_in_order_edges_in_range_weights_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_items_in_order_edges_in_range_weights_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v297) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_edges_in_range : Cert.Pre_edges_in_range.Facts) (hPre_items_in_order_edges_in_range_weights_finite : Cert.Pre_items_in_order_edges_in_range_weights_finite.Facts),
    quiescent_Kernel (hKernel := hKernel) (hPre_edges_in_range := hPre_edges_in_range)
    ∧ quiescent_KernelIdeal (hKernelIdeal := hKernelIdeal) (hPre_edges_in_range := hPre_edges_in_range)
    ∧ quiescent_KernelIdeal_pre_items_in_order_edges_in_range_weights_finite (hKernelIdeal := hKernelIdeal) (hPre_items_in_order_edges_in_range_weights_finite := hPre_items_in_order_edges_in_range_weights_finite)
    ∧ quiescent_ReferenceIdeal (hReferenceIdeal := hReferenceIdeal) (hPre_edges_in_range := hPre_edges_in_range)
    ∧ quiescent_ReferenceIdeal_pre_items_in_order_edges_in_range_weights_finite (hReferenceIdeal := hReferenceIdeal) (hPre_items_in_order_edges_in_range_weights_finite := hPre_items_in_order_edges_in_range_weights_finite)
    ∧ preserves_Kernel_KernelIdeal
    ∧ algebraic_KernelIdeal_ReferenceIdeal_pre_items_in_order_edges_in_range_weights_finite (hKernelIdeal := hKernelIdeal) (hReferenceIdeal := hReferenceIdeal) (hPre_items_in_order_edges_in_range_weights_finite := hPre_items_in_order_edges_in_range_weights_finite)
-- ==== Pre_edges_in_range.lean ====
abbrev S50000 : Shape := ⟨1, ![50000]⟩
abbrev S500000 : Shape := ⟨1, ![500000]⟩
abbrev S50000x128 : Shape := ⟨2, ![50000, 128]⟩
abbrev S100x128 : Shape := ⟨2, ![100, 128]⟩
abbrev S4x128x128 : Shape := ⟨3, ![4, 128, 128]⟩
abbrev S4x128 : Shape := ⟨2, ![4, 128]⟩
abbrev S128x128 : Shape := ⟨2, ![128, 128]⟩
abbrev S_ : Shape := ⟨0, ![]⟩

class Facts : Prop where
  bcast_S_S500000 : S_.BroadcastsInDim S500000 (![] : Fin 0 → Fin S500000.rank)
  reducesTo_S500000_S_d0 : S500000.ReducesTo [0] S_
  h_S_ : 0 < S_.numel

variable [Facts]

def fn {F : FTy → Type} [FloatOps F] (main_arg0 : IVec S50000 32) (main_arg1 : IVec S500000 32) (main_arg2 : IVec S500000 32) (main_arg3 : FVec F S50000x128 .f32) (main_arg4 : FVec F S100x128 .f32) (main_arg5 : FVec F S4x128x128 .f32) (main_arg6 : FVec F S4x128x128 .f32) (main_arg7 : FVec F S4x128 .f32) (main_arg8 : FVec F S4x128x128 .f32) (main_arg9 : FVec F S4x128x128 .f32) (main_arg10 : FVec F S4x128 .f32) (main_arg11 : FVec F S4x128 .f32) (main_arg12 : FVec F S4x128 .f32) (main_arg13 : FVec F S128x128 .f32) : IVec S_ 1 :=
  let main_c : IVec S_ 32 := constantI S_ 32 0#32
  let main_v0 : IVec S500000 32 := broadcastInDim S500000 ![] bcast_S_S500000 main_c
  let main_v1 : IVec S500000 1 := cmpi .sge main_arg1 main_v0
  let main_c_0 : IVec S_ 32 := constantI S_ 32 50000#32
  let main_v2 : IVec S500000 32 := broadcastInDim S500000 ![] bcast_S_S500000 main_c_0
  let main_v3 : IVec S500000 1 := cmpi .slt main_arg1 main_v2
  let main_v4 : IVec S500000 1 := andi main_v1 main_v3
  let main_c_1 : IVec S_ 1 := constantI S_ 1 1#1
  let main_v5 : IVec S_ 1 := (fun x v => Host.reduce IntOp.andi x v reducesTo_S500000_S_d0 h_S_) main_v4 main_c_1
  let main_c_2 : IVec S_ 32 := constantI S_ 32 0#32
  let main_v6 : IVec S500000 32 := broadcastInDim S500000 ![] bcast_S_S500000 main_c_2
  let main_v7 : IVec S500000 1 := cmpi .sge main_arg2 main_v6
  let main_c_3 : IVec S_ 32 := constantI S_ 32 100#32
  let main_v8 : IVec S500000 32 := broadcastInDim S500000 ![] bcast_S_S500000 main_c_3
  let main_v9 : IVec S500000 1 := cmpi .slt main_arg2 main_v8
  let main_v10 : IVec S500000 1 := andi main_v7 main_v9
  let main_c_4 : IVec S_ 1 := constantI S_ 1 1#1
  let main_v11 : IVec S_ 1 := (fun x v => Host.reduce IntOp.andi x v reducesTo_S500000_S_d0 h_S_) main_v10 main_c_4
  let main_v12 : IVec S_ 1 := andi main_v5 main_v11
  main_v12
-- ==== Pre_items_in_order_edges_in_range_weights_finite.lean ====
abbrev S50000 : Shape := ⟨1, ![50000]⟩
abbrev S500000 : Shape := ⟨1, ![500000]⟩
abbrev S50000x128 : Shape := ⟨2, ![50000, 128]⟩
abbrev S100x128 : Shape := ⟨2, ![100, 128]⟩
abbrev S4x128x128 : Shape := ⟨3, ![4, 128, 128]⟩
abbrev S4x128 : Shape := ⟨2, ![4, 128]⟩
abbrev S128x128 : Shape := ⟨2, ![128, 128]⟩
abbrev S_ : Shape := ⟨0, ![]⟩

class Facts : Prop where
  bcast_S_S500000 : S_.BroadcastsInDim S500000 (![] : Fin 0 → Fin S500000.rank)
  reducesTo_S500000_S_d0 : S500000.ReducesTo [0] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  reducesTo_S50000_S_d0 : S50000.ReducesTo [0] S_

variable [Facts]

def fn_part1 {F : FTy → Type} [FloatOps F] (main_arg0 : IVec S50000 32) (main_v12 : IVec S_ 1) (main_v15 : IVec S4x128x128 1) (main_c_5 : IVec S_ 1) : IVec S_ 1 :=
  let main_v16 : IVec S_ 1 := (fun x v => Host.reduce IntOp.andi x v reducesTo_S4x128x128_S_d0_1_2 h_S_) main_v15 main_c_5
  let main_v17 : IVec S_ 1 := andi main_v12 main_v16
  let main_v18 : IVec S50000 32 := iotaInDim S50000 32 0
  let main_v19 : IVec S50000 1 := cmpi .eq main_arg0 main_v18
  let main_c_6 : IVec S_ 1 := constantI S_ 1 1#1
  let main_v20 : IVec S_ 1 := (fun x v => Host.reduce IntOp.andi x v reducesTo_S50000_S_d0 h_S_) main_v19 main_c_6
  let main_v21 : IVec S_ 1 := andi main_v17 main_v20
  main_v21

def fn {F : FTy → Type} [FloatOps F] (main_arg0 : IVec S50000 32) (main_arg1 : IVec S500000 32) (main_arg2 : IVec S500000 32) (main_arg3 : FVec F S50000x128 .f32) (main_arg4 : FVec F S100x128 .f32) (main_arg5 : FVec F S4x128x128 .f32) (main_arg6 : FVec F S4x128x128 .f32) (main_arg7 : FVec F S4x128 .f32) (main_arg8 : FVec F S4x128x128 .f32) (main_arg9 : FVec F S4x128x128 .f32) (main_arg10 : FVec F S4x128 .f32) (main_arg11 : FVec F S4x128 .f32) (main_arg12 : FVec F S4x128 .f32) (main_arg13 : FVec F S128x128 .f32) : IVec S_ 1 :=
  let main_c : IVec S_ 32 := constantI S_ 32 0#32
  let main_v0 : IVec S500000 32 := broadcastInDim S500000 ![] bcast_S_S500000 main_c
  let main_v1 : IVec S500000 1 := cmpi .sge main_arg1 main_v0
  let main_c_0 : IVec S_ 32 := constantI S_ 32 50000#32
  let main_v2 : IVec S500000 32 := broadcastInDim S500000 ![] bcast_S_S500000 main_c_0
  let main_v3 : IVec S500000 1 := cmpi .slt main_arg1 main_v2
  let main_v4 : IVec S500000 1 := andi main_v1 main_v3
  let main_c_1 : IVec S_ 1 := constantI S_ 1 1#1
  let main_v5 : IVec S_ 1 := (fun x v => Host.reduce IntOp.andi x v reducesTo_S500000_S_d0 h_S_) main_v4 main_c_1
  let main_c_2 : IVec S_ 32 := constantI S_ 32 0#32
  let main_v6 : IVec S500000 32 := broadcastInDim S500000 ![] bcast_S_S500000 main_c_2
  let main_v7 : IVec S500000 1 := cmpi .sge main_arg2 main_v6
  let main_c_3 : IVec S_ 32 := constantI S_ 32 100#32
  let main_v8 : IVec S500000 32 := broadcastInDim S500000 ![] bcast_S_S500000 main_c_3
  let main_v9 : IVec S500000 1 := cmpi .slt main_arg2 main_v8
  let main_v10 : IVec S500000 1 := andi main_v7 main_v9
  let main_c_4 : IVec S_ 1 := constantI S_ 1 1#1
  let main_v11 : IVec S_ 1 := (fun x v => Host.reduce IntOp.andi x v reducesTo_S500000_S_d0 h_S_) main_v10 main_c_4
  let main_v12 : IVec S_ 1 := andi main_v5 main_v11
  let main_v13 : FVec F S4x128x128 .f32 := Host.absf main_arg9
  let main_cst : FVec F S_ .f32 := constant S_ .f32 0x7F800000#32
  let main_v14 : FVec F S4x128x128 .f32 := broadcastInDim S4x128x128 ![] bcast_S_S4x128x128 main_cst
  let main_v15 : IVec S4x128x128 1 := cmpf .olt main_v13 main_v14
  let main_c_5 : IVec S_ 1 := constantI S_ 1 1#1
  fn_part1 (F := F) main_arg0 main_v12 main_v15 main_c_5
-- ==== Kernel.lean ====
abbrev S50000 : Shape := ⟨1, ![50000]⟩
abbrev S500000 : Shape := ⟨1, ![500000]⟩
abbrev S50000x128 : Shape := ⟨2, ![50000, 128]⟩
abbrev S100x128 : Shape := ⟨2, ![100, 128]⟩
abbrev S4x128x128 : Shape := ⟨3, ![4, 128, 128]⟩
abbrev S4x128 : Shape := ⟨2, ![4, 128]⟩
abbrev S128x128 : Shape := ⟨2, ![128, 128]⟩
abbrev S_ : Shape := ⟨0, ![]⟩
abbrev S120000 : Shape := ⟨1, ![120000]⟩
abbrev S5000000 : Shape := ⟨1, ![5000000]⟩
abbrev S2048 : Shape := ⟨1, ![2048]⟩
abbrev S2000 : Shape := ⟨1, ![2000]⟩
abbrev S16 : Shape := ⟨1, ![16]⟩
abbrev S80000 : Shape := ⟨1, ![80000]⟩
abbrev S50000x100 : Shape := ⟨2, ![50000, 100]⟩
abbrev S4x1x128 : Shape := ⟨3, ![4, 1, 128]⟩
abbrev S2000x100 : Shape := ⟨2, ![2000, 100]⟩
abbrev S2000x128 : Shape := ⟨2, ![2000, 128]⟩
abbrev S1x128x128 : Shape := ⟨3, ![1, 128, 128]⟩
abbrev S1x1x128 : Shape := ⟨3, ![1, 1, 128]⟩
abbrev S100x1 : Shape := ⟨2, ![100, 1]⟩
abbrev S2000x1 : Shape := ⟨2, ![2000, 1]⟩
abbrev S1x128 : Shape := ⟨2, ![1, 128]⟩

abbrev nBuf : Table → Nat
  | .hbm => 23
  | .local .tc .vmem => 28
  | .local .scVector .vmem => 5
  | _ => 0

abbrev bufTy : (tb : Table) → Fin (nBuf tb) → BufTy
  | .hbm, ⟨0, _⟩ => ⟨S50000, .i32⟩
  | .hbm, ⟨1, _⟩ => ⟨S500000, .i32⟩
  | .hbm, ⟨2, _⟩ => ⟨S500000, .i32⟩
  | .hbm, ⟨3, _⟩ => ⟨S50000x128, .f32⟩
  | .hbm, ⟨4, _⟩ => ⟨S100x128, .f32⟩
  | .hbm, ⟨5, _⟩ => ⟨S4x128x128, .f32⟩
  | .hbm, ⟨6, _⟩ => ⟨S4x128x128, .f32⟩
  | .hbm, ⟨7, _⟩ => ⟨S4x128, .f32⟩
  | .hbm, ⟨8, _⟩ => ⟨S4x128x128, .f32⟩
  | .hbm, ⟨9, _⟩ => ⟨S4x128x128, .f32⟩
  | .hbm, ⟨10, _⟩ => ⟨S4x128, .f32⟩
  | .hbm, ⟨11, _⟩ => ⟨S4x128, .f32⟩
  | .hbm, ⟨12, _⟩ => ⟨S4x128, .f32⟩
  | .hbm, ⟨13, _⟩ => ⟨S128x128, .f32⟩
  | .hbm, ⟨14, _⟩ => ⟨S_, .f32⟩
  | .hbm, ⟨15, _⟩ => ⟨S120000, .f32⟩
  | .hbm, ⟨16, _⟩ => ⟨S5000000, .f32⟩
  | .hbm, ⟨17, _⟩ => ⟨S50000x100, .f32⟩
  | .hbm, ⟨18, _⟩ => ⟨S4x1x128, .f32⟩
  | .hbm, ⟨19, _⟩ => ⟨S4x1x128, .f32⟩
  | .hbm, ⟨20, _⟩ => ⟨S4x1x128, .f32⟩
  | .hbm, ⟨21, _⟩ => ⟨S4x1x128, .f32⟩
  | .hbm, ⟨22, _⟩ => ⟨S50000x128, .f32⟩
  | .local .tc .vmem, ⟨0, _⟩ => ⟨S2000x100, .f32⟩
  | .local .tc .vmem, ⟨1, _⟩ => ⟨S2000x100, .f32⟩
  | .local .tc .vmem, ⟨2, _⟩ => ⟨S2000x128, .f32⟩
  | .local .tc .vmem, ⟨3, _⟩ => ⟨S2000x128, .f32⟩
  | .local .tc .vmem, ⟨4, _⟩ => ⟨S100x128, .f32⟩
  | .local .tc .vmem, ⟨5, _⟩ => ⟨S1x128x128, .f32⟩
  | .local .tc .vmem, ⟨6, _⟩ => ⟨S1x128x128, .f32⟩
  | .local .tc .vmem, ⟨7, _⟩ => ⟨S1x128x128, .f32⟩
  | .local .tc .vmem, ⟨8, _⟩ => ⟨S1x128x128, .f32⟩
  | .local .tc .vmem, ⟨9, _⟩ => ⟨S1x1x128, .f32⟩
  | .local .tc .vmem, ⟨10, _⟩ => ⟨S1x1x128, .f32⟩
  | .local .tc .vmem, ⟨11, _⟩ => ⟨S1x128x128, .f32⟩
  | .local .tc .vmem, ⟨12, _⟩ => ⟨S1x128x128, .f32⟩
  | .local .tc .vmem, ⟨13, _⟩ => ⟨S1x128x128, .f32⟩
  | .local .tc .vmem, ⟨14, _⟩ => ⟨S1x128x128, .f32⟩
  | .local .tc .vmem, ⟨15, _⟩ => ⟨S1x1x128, .f32⟩
  | .local .tc .vmem, ⟨16, _⟩ => ⟨S1x1x128, .f32⟩
  | .local .tc .vmem, ⟨17, _⟩ => ⟨S1x1x128, .f32⟩
  | .local .tc .vmem, ⟨18, _⟩ => ⟨S1x1x128, .f32⟩
  | .local .tc .vmem, ⟨19, _⟩ => ⟨S1x1x128, .f32⟩
  | .local .tc .vmem, ⟨20, _⟩ => ⟨S1x1x128, .f32⟩
  | .local .tc .vmem, ⟨21, _⟩ => ⟨S128x128, .f32⟩
  | .local .tc .vmem, ⟨22, _⟩ => ⟨S2000x128, .f32⟩
  | .local .tc .vmem, ⟨23, _⟩ => ⟨S2000x128, .f32⟩
  | .local .tc .vmem, ⟨24, _⟩ => ⟨S50000x128, .f32⟩
  | .local .tc .vmem, ⟨25, _⟩ => ⟨S100x128, .f32⟩
  | .local .tc .vmem, ⟨26, _⟩ => ⟨S100x128, .f32⟩
  | .local .tc .vmem, ⟨27, _⟩ => ⟨S100x1, .f32⟩
  | .local .scVector .vmem, ⟨0, _⟩ => ⟨S120000, .f32⟩
  | .local .scVector .vmem, ⟨1, _⟩ => ⟨S2048, .i32⟩
  | .local .scVector .vmem, ⟨2, _⟩ => ⟨S2048, .i32⟩
  | .local .scVector .vmem, ⟨3, _⟩ => ⟨S2048, .i32⟩
  | .local .scVector .vmem, ⟨4, _⟩ => ⟨S2048, .i32⟩
  | _, _ => ⟨S50000, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 34 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTables nBuf rfl bufTy 4 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_arg1_scv : Ref sig .scVector := ⟨.hbm, 1, rfl⟩
abbrev main_arg2_scv : Ref sig .scVector := ⟨.hbm, 2, rfl⟩
abbrev main_v0_scv : Ref sig .scVector := ⟨.hbm, 15, rfl⟩
abbrev main_v1_scv : Ref sig .scVector := ⟨.hbm, 16, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg3_1 : Ref sig .tc := ⟨.vmem, 6, rfl⟩
abbrev cc1_stg4_0 : Ref sig .tc := ⟨.vmem, 7, rfl⟩
abbrev cc1_stg4_1 : Ref sig .tc := ⟨.vmem, 8, rfl⟩
abbrev cc1_stg5_0 : Ref sig .tc := ⟨.vmem, 9, rfl⟩
abbrev cc1_stg5_1 : Ref sig .tc := ⟨.vmem, 10, rfl⟩
abbrev cc1_stg6_0 : Ref sig .tc := ⟨.vmem, 11, rfl⟩
abbrev cc1_stg6_1 : Ref sig .tc := ⟨.vmem, 12, rfl⟩
abbrev cc1_stg7_0 : Ref sig .tc := ⟨.vmem, 13, rfl⟩
abbrev cc1_stg7_1 : Ref sig .tc := ⟨.vmem, 14, rfl⟩
abbrev cc1_stg8_0 : Ref sig .tc := ⟨.vmem, 15, rfl⟩
abbrev cc1_stg8_1 : Ref sig .tc := ⟨.vmem, 16, rfl⟩
abbrev cc1_stg9_0 : Ref sig .tc := ⟨.vmem, 17, rfl⟩
abbrev cc1_stg9_1 : Ref sig .tc := ⟨.vmem, 18, rfl⟩
abbrev cc1_stg10_0 : Ref sig .tc := ⟨.vmem, 19, rfl⟩
abbrev cc1_stg10_1 : Ref sig .tc := ⟨.vmem, 20, rfl⟩
abbrev cc1_stg11_0 : Ref sig .tc := ⟨.vmem, 21, rfl⟩
abbrev cc1_stg12_0 : Ref sig .tc := ⟨.vmem, 22, rfl⟩
abbrev cc1_stg12_1 : Ref sig .tc := ⟨.vmem, 23, rfl⟩
abbrev cc1_scratch0 : Ref sig .tc := ⟨.vmem, 24, rfl⟩
abbrev cc1_scratch1 : Ref sig .tc := ⟨.vmem, 25, rfl⟩
abbrev cc1_scratch2 : Ref sig .tc := ⟨.vmem, 26, rfl⟩
abbrev cc1_scratch3 : Ref sig .tc := ⟨.vmem, 27, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem5_1 : DmaSem sig := 20
abbrev cc1_sem6_0 : DmaSem sig := 21
abbrev cc1_sem6_1 : DmaSem sig := 22
abbrev cc1_sem7_0 : DmaSem sig := 23
abbrev cc1_sem7_1 : DmaSem sig := 24
abbrev cc1_sem8_0 : DmaSem sig := 25
abbrev cc1_sem8_1 : DmaSem sig := 26
abbrev cc1_sem9_0 : DmaSem sig := 27
abbrev cc1_sem9_1 : DmaSem sig := 28
abbrev cc1_sem10_0 : DmaSem sig := 29
abbrev cc1_sem10_1 : DmaSem sig := 30
abbrev cc1_sem11_0 : DmaSem sig := 31
abbrev cc1_sem12_0 : DmaSem sig := 32
abbrev cc1_sem12_1 : DmaSem sig := 33
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c120000_i32 : BitVec 32 := 120000#32
  let v2 : BitVec 32 := Scalar.muli v1 c120000_i32
  v2
@[reducible] def k0_t1_loop : Scf.Loop 32 :=
  let c0_i32_8 : BitVec 32 := 0#32
  let c125_i32 : BitVec 32 := 125#32
  let v12 : BitVec 32 := Scalar.addi c0_i32_8 c125_i32
  let c1_i32 : BitVec 32 := 1#32
  ⟨c0_i32_8, v12, c1_i32⟩
def k0_off1 (k0_t1 : Fin k0_t1_loop.trips) : Fin 1 → Nat :=
  let c2_i32_13 : BitVec 32 := 2#32
  let c0_i32_8 : BitVec 32 := 0#32
  let c1_i32 : BitVec 32 := 1#32
  let arg15 : BitVec 32 := Scf.iv c0_i32_8 c1_i32 k0_t1
  let v19 : BitVec 32 := Scalar.muli c2_i32_13 arg15
  let c1_i32_14 : BitVec 32 := 1#32
  let v20 : BitVec 32 := Scalar.addi v19 c1_i32_14
  let c2000_i32 : BitVec 32 := 2000#32
  let v21 : BitVec 32 := Scalar.muli v20 c2000_i32
  ![v21.toNat]
@[reducible] def k0_t2_loop : Scf.Loop 32 :=
  let c0_i32_28 : BitVec 32 := 0#32
  let c125_i32_29 : BitVec 32 := 125#32
  let v38 : BitVec 32 := Scalar.addi c0_i32_28 c125_i32_29
  let c1_i32_30 : BitVec 32 := 1#32
  ⟨c0_i32_28, v38, c1_i32_30⟩
def k0_off2 (k0_t2 : Fin k0_t2_loop.trips) : Fin 1 → Nat :=
  let c0_i32_28 : BitVec 32 := 0#32
  let c1_i32_30 : BitVec 32 := 1#32
  let arg16 : BitVec 32 := Scf.iv c0_i32_28 c1_i32_30 k0_t2
  let c16_i32 : BitVec 32 := 16#32
  let v52 : BitVec 32 := Scalar.muli arg16 c16_i32
  let v53 : Index := Scalar.indexCast v52
  ![v53.toNat]

def k0_chk1 (v66 : IVec S16 32) : Prop :=
  (∀ a x, ((![v66] : Fin 1 → IVec S16 32) a x).toNat < S120000.size a)
theorem k0_idx1_inb : ∀ (v66 : IVec S16 32) (k0_hw1 : k0_chk1 v66), ∀ a x, ((![v66] : Fin 1 → IVec S16 32) a x).toNat < S120000.size a := fun v66 k0_hw1 => k0_hw1
def k0_cond1 (k0_t1 : Fin k0_t1_loop.trips) : BitVec 1 :=
  let c2_i32_13 : BitVec 32 := 2#32
  let c0_i32_8 : BitVec 32 := 0#32
  let c1_i32 : BitVec 32 := 1#32
  let arg15 : BitVec 32 := Scf.iv c0_i32_8 c1_i32 k0_t1
  let v19 : BitVec 32 := Scalar.muli c2_i32_13 arg15
  let c2_i32_32 : BitVec 32 := 2#32
  let v39 : BitVec 32 := Scalar.addi v19 c2_i32_32
  let c250_i32 : BitVec 32 := 250#32
  let v40 : BitVec 1 := Scalar.cmpi .slt v39 c250_i32
  let v41 : BitVec 32 := Scalar.extui v40
  let c0_i32_33 : BitVec 32 := 0#32
  let v42 : BitVec 1 := Scalar.cmpi .ne v41 c0_i32_33
  v42

def k0_off3 (k0_t1 : Fin k0_t1_loop.trips) : Fin 1 → Nat :=
  let c2_i32_13 : BitVec 32 := 2#32
  let c0_i32_8 : BitVec 32 := 0#32
  let c1_i32 : BitVec 32 := 1#32
  let arg15 : BitVec 32 := Scf.iv c0_i32_8 c1_i32 k0_t1
  let v19 : BitVec 32 := Scalar.muli c2_i32_13 arg15
  let c2_i32_47 : BitVec 32 := 2#32
  let v52 : BitVec 32 := Scalar.addi v19 c2_i32_47
  let c2000_i32_48 : BitVec 32 := 2000#32
  let v53 : BitVec 32 := Scalar.muli v52 c2000_i32_48
  ![v53.toNat]
@[reducible] def k0_t3_loop : Scf.Loop 32 :=
  let c0_i32_43 : BitVec 32 := 0#32
  let c125_i32_44 : BitVec 32 := 125#32
  let v51 : BitVec 32 := Scalar.addi c0_i32_43 c125_i32_44
  let c1_i32_45 : BitVec 32 := 1#32
  ⟨c0_i32_43, v51, c1_i32_45⟩
def k0_off4 (k0_t3 : Fin k0_t3_loop.trips) : Fin 1 → Nat :=
  let c0_i32_43 : BitVec 32 := 0#32
  let c1_i32_45 : BitVec 32 := 1#32
  let arg16 : BitVec 32 := Scf.iv c0_i32_43 c1_i32_45 k0_t3
  let c16_i32 : BitVec 32 := 16#32
  let v52 : BitVec 32 := Scalar.muli arg16 c16_i32
  let v53 : Index := Scalar.indexCast v52
  ![v53.toNat]

def k0_chk2 (v66 : IVec S16 32) : Prop :=
  (∀ a x, ((![v66] : Fin 1 → IVec S16 32) a x).toNat < S120000.size a)
theorem k0_idx2_inb : ∀ (v66 : IVec S16 32) (k0_hw2 : k0_chk2 v66), ∀ a x, ((![v66] : Fin 1 → IVec S16 32) a x).toNat < S120000.size a := fun v66 k0_hw2 => k0_hw2
def k0_off5 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c120000_i32 : BitVec 32 := 120000#32
  let v2 : BitVec 32 := Scalar.muli v1 c120000_i32
  let v3 : BitVec 32 := v2
  ![v3.toNat]
def k0_cond2 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c9_i32 : BitVec 32 := 9#32
  let v13 : BitVec 1 := Scalar.cmpi .slt v1 c9_i32
  let v14 : BitVec 32 := Scalar.extui v13
  let c0_i32_10 : BitVec 32 := 0#32
  let v15 : BitVec 1 := Scalar.cmpi .ne v14 c0_i32_10
  v15

def k0_mult2 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v19 : BitVec 32 := Scalar.addi v1 c32_i32
  let c120000_i32_13 : BitVec 32 := 120000#32
  let v20 : BitVec 32 := Scalar.muli v19 c120000_i32_13
  v20
@[reducible] def k0_t4_loop : Scf.Loop 32 :=
  let c0_i32_23 : BitVec 32 := 0#32
  let c125_i32_24 : BitVec 32 := 125#32
  let v30 : BitVec 32 := Scalar.addi c0_i32_23 c125_i32_24
  let c1_i32_25 : BitVec 32 := 1#32
  ⟨c0_i32_23, v30, c1_i32_25⟩
def k0_off6 (k0_t4 : Fin k0_t4_loop.trips) : Fin 1 → Nat :=
  let c2_i32_27 : BitVec 32 := 2#32
  let c0_i32_23 : BitVec 32 := 0#32
  let c1_i32_25 : BitVec 32 := 1#32
  let arg15 : BitVec 32 := Scf.iv c0_i32_23 c1_i32_25 k0_t4
  let v31 : BitVec 32 := Scalar.muli c2_i32_27 arg15
  let c1_i32_28 : BitVec 32 := 1#32
  let v32 : BitVec 32 := Scalar.addi v31 c1_i32_28
  let c2000_i32 : BitVec 32 := 2000#32
  let v33 : BitVec 32 := Scalar.muli v32 c2000_i32
  ![v33.toNat]
@[reducible] def k0_t5_loop : Scf.Loop 32 :=
  let c0_i32_42 : BitVec 32 := 0#32
  let c125_i32_43 : BitVec 32 := 125#32
  let v50 : BitVec 32 := Scalar.addi c0_i32_42 c125_i32_43
  let c1_i32_44 : BitVec 32 := 1#32
  ⟨c0_i32_42, v50, c1_i32_44⟩
def k0_off7 (k0_t5 : Fin k0_t5_loop.trips) : Fin 1 → Nat :=
  let c0_i32_42 : BitVec 32 := 0#32
  let c1_i32_44 : BitVec 32 := 1#32
  let arg16 : BitVec 32 := Scf.iv c0_i32_42 c1_i32_44 k0_t5
  let c16_i32 : BitVec 32 := 16#32
  let v64 : BitVec 32 := Scalar.muli arg16 c16_i32
  let v65 : Index := Scalar.indexCast v64
  ![v65.toNat]

def k0_chk3 (i : grid0.Coords) (v78 : IVec S16 32) : Prop :=
  (∀ (k0_h2 : k0_cond2 i = 1#1), ∀ a x, ((![v78] : Fin 1 → IVec S16 32) a x).toNat < S120000.size a)
theorem k0_idx3_inb : ∀ (i : grid0.Coords) (v78 : IVec S16 32) (k0_hw3 : k0_chk3 i v78), ∀ (k0_h2 : k0_cond2 i = 1#1), ∀ a x, ((![v78] : Fin 1 → IVec S16 32) a x).toNat < S120000.size a := fun i v78 k0_hw3 k0_h2 => k0_hw3 k0_h2
def k0_cond3 (k0_t4 : Fin k0_t4_loop.trips) : BitVec 1 :=
  let c2_i32_27 : BitVec 32 := 2#32
  let c0_i32_23 : BitVec 32 := 0#32
  let c1_i32_25 : BitVec 32 := 1#32
  let arg15 : BitVec 32 := Scf.iv c0_i32_23 c1_i32_25 k0_t4
  let v31 : BitVec 32 := Scalar.muli c2_i32_27 arg15
  let c2_i32_46 : BitVec 32 := 2#32
  let v51 : BitVec 32 := Scalar.addi v31 c2_i32_46
  let c250_i32 : BitVec 32 := 250#32
  let v52 : BitVec 1 := Scalar.cmpi .slt v51 c250_i32
  let v53 : BitVec 32 := Scalar.extui v52
  let c0_i32_47 : BitVec 32 := 0#32
  let v54 : BitVec 1 := Scalar.cmpi .ne v53 c0_i32_47
  v54

def k0_off8 (k0_t4 : Fin k0_t4_loop.trips) : Fin 1 → Nat :=
  let c2_i32_27 : BitVec 32 := 2#32
  let c0_i32_23 : BitVec 32 := 0#32
  let c1_i32_25 : BitVec 32 := 1#32
  let arg15 : BitVec 32 := Scf.iv c0_i32_23 c1_i32_25 k0_t4
  let v31 : BitVec 32 := Scalar.muli c2_i32_27 arg15
  let c2_i32_61 : BitVec 32 := 2#32
  let v64 : BitVec 32 := Scalar.addi v31 c2_i32_61
  let c2000_i32_62 : BitVec 32 := 2000#32
  let v65 : BitVec 32 := Scalar.muli v64 c2000_i32_62
  ![v65.toNat]
@[reducible] def k0_t6_loop : Scf.Loop 32 :=
  let c0_i32_57 : BitVec 32 := 0#32
  let c125_i32_58 : BitVec 32 := 125#32
  let v63 : BitVec 32 := Scalar.addi c0_i32_57 c125_i32_58
  let c1_i32_59 : BitVec 32 := 1#32
  ⟨c0_i32_57, v63, c1_i32_59⟩
def k0_off9 (k0_t6 : Fin k0_t6_loop.trips) : Fin 1 → Nat :=
  let c0_i32_57 : BitVec 32 := 0#32
  let c1_i32_59 : BitVec 32 := 1#32
  let arg16 : BitVec 32 := Scf.iv c0_i32_57 c1_i32_59 k0_t6
  let c16_i32 : BitVec 32 := 16#32
  let v64 : BitVec 32 := Scalar.muli arg16 c16_i32
  let v65 : Index := Scalar.indexCast v64
  ![v65.toNat]

def k0_chk4 (i : grid0.Coords) (v78 : IVec S16 32) : Prop :=
  (∀ (k0_h2 : k0_cond2 i = 1#1), ∀ a x, ((![v78] : Fin 1 → IVec S16 32) a x).toNat < S120000.size a)
theorem k0_idx4_inb : ∀ (i : grid0.Coords) (v78 : IVec S16 32) (k0_hw4 : k0_chk4 i v78), ∀ (k0_h2 : k0_cond2 i = 1#1), ∀ a x, ((![v78] : Fin 1 → IVec S16 32) a x).toNat < S120000.size a := fun i v78 k0_hw4 k0_h2 => k0_hw4 k0_h2
def k0_off10 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v19 : BitVec 32 := Scalar.addi v1 c32_i32
  let c120000_i32_13 : BitVec 32 := 120000#32
  let v20 : BitVec 32 := Scalar.muli v19 c120000_i32_13
  let v21 : BitVec 32 := v20
  ![v21.toNat]
def k0_cond4 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c9_i32_11 : BitVec 32 := 9#32
  let v16 : BitVec 1 := Scalar.cmpi .eq v1 c9_i32_11
  let v17 : BitVec 32 := Scalar.extui v16
  let c0_i32_12 : BitVec 32 := 0#32
  let v18 : BitVec 1 := Scalar.cmpi .ne v17 c0_i32_12
  v18

def k0_mult3 : BitVec 32 :=
  let c4920000_i32 : BitVec 32 := 4920000#32
  c4920000_i32
@[reducible] def k0_t7_loop : Scf.Loop 32 :=
  let c0_i32_22 : BitVec 32 := 0#32
  let c125_i32_23 : BitVec 32 := 125#32
  let v28 : BitVec 32 := Scalar.addi c0_i32_22 c125_i32_23
  let c1_i32_24 : BitVec 32 := 1#32
  ⟨c0_i32_22, v28, c1_i32_24⟩
def k0_off11 (k0_t7 : Fin k0_t7_loop.trips) : Fin 1 → Nat :=
  let c2_i32_26 : BitVec 32 := 2#32
  let c0_i32_22 : BitVec 32 := 0#32
  let c1_i32_24 : BitVec 32 := 1#32
  let arg15 : BitVec 32 := Scf.iv c0_i32_22 c1_i32_24 k0_t7
  let v29 : BitVec 32 := Scalar.muli c2_i32_26 arg15
  let c1_i32_27 : BitVec 32 := 1#32
  let v30 : BitVec 32 := Scalar.addi v29 c1_i32_27
  let c2000_i32 : BitVec 32 := 2000#32
  let v31 : BitVec 32 := Scalar.muli v30 c2000_i32
  ![v31.toNat]
@[reducible] def k0_t8_loop : Scf.Loop 32 :=
  let c0_i32_41 : BitVec 32 := 0#32
  let c125_i32_42 : BitVec 32 := 125#32
  let v48 : BitVec 32 := Scalar.addi c0_i32_41 c125_i32_42
  let c1_i32_43 : BitVec 32 := 1#32
  ⟨c0_i32_41, v48, c1_i32_43⟩
def k0_off12 (k0_t8 : Fin k0_t8_loop.trips) : Fin 1 → Nat :=
  let c0_i32_41 : BitVec 32 := 0#32
  let c1_i32_43 : BitVec 32 := 1#32
  let arg16 : BitVec 32 := Scf.iv c0_i32_41 c1_i32_43 k0_t8
  let c16_i32 : BitVec 32 := 16#32
  let v62 : BitVec 32 := Scalar.muli arg16 c16_i32
  let v63 : Index := Scalar.indexCast v62
  ![v63.toNat]

def k0_chk5 (i : grid0.Coords) (v76 : IVec S16 32) : Prop :=
  (∀ (k0_h4 : k0_cond4 i = 1#1), ∀ a x, ((![v76] : Fin 1 → IVec S16 32) a x).toNat < S120000.size a)
theorem k0_idx5_inb : ∀ (i : grid0.Coords) (v76 : IVec S16 32) (k0_hw5 : k0_chk5 i v76), ∀ (k0_h4 : k0_cond4 i = 1#1), ∀ a x, ((![v76] : Fin 1 → IVec S16 32) a x).toNat < S120000.size a := fun i v76 k0_hw5 k0_h4 => k0_hw5 k0_h4
def k0_cond5 (k0_t7 : Fin k0_t7_loop.trips) : BitVec 1 :=
  let c2_i32_26 : BitVec 32 := 2#32
  let c0_i32_22 : BitVec 32 := 0#32
  let c1_i32_24 : BitVec 32 := 1#32
  let arg15 : BitVec 32 := Scf.iv c0_i32_22 c1_i32_24 k0_t7
  let v29 : BitVec 32 := Scalar.muli c2_i32_26 arg15
  let c2_i32_45 : BitVec 32 := 2#32
  let v49 : BitVec 32 := Scalar.addi v29 c2_i32_45
  let c250_i32 : BitVec 32 := 250#32
  let v50 : BitVec 1 := Scalar.cmpi .slt v49 c250_i32
  let v51 : BitVec 32 := Scalar.extui v50
  let c0_i32_46 : BitVec 32 := 0#32
  let v52 : BitVec 1 := Scalar.cmpi .ne v51 c0_i32_46
  v52

def k0_off13 (k0_t7 : Fin k0_t7_loop.trips) : Fin 1 → Nat :=
  let c2_i32_26 : BitVec 32 := 2#32
  let c0_i32_22 : BitVec 32 := 0#32
  let c1_i32_24 : BitVec 32 := 1#32
  let arg15 : BitVec 32 := Scf.iv c0_i32_22 c1_i32_24 k0_t7
  let v29 : BitVec 32 := Scalar.muli c2_i32_26 arg15
  let c2_i32_60 : BitVec 32 := 2#32
  let v62 : BitVec 32 := Scalar.addi v29 c2_i32_60
  let c2000_i32_61 : BitVec 32 := 2000#32
  let v63 : BitVec 32 := Scalar.muli v62 c2000_i32_61
  ![v63.toNat]
@[reducible] def k0_t9_loop : Scf.Loop 32 :=
  let c0_i32_56 : BitVec 32 := 0#32
  let c125_i32_57 : BitVec 32 := 125#32
  let v61 : BitVec 32 := Scalar.addi c0_i32_56 c125_i32_57
  let c1_i32_58 : BitVec 32 := 1#32
  ⟨c0_i32_56, v61, c1_i32_58⟩
def k0_off14 (k0_t9 : Fin k0_t9_loop.trips) : Fin 1 → Nat :=
  let c0_i32_56 : BitVec 32 := 0#32
  let c1_i32_58 : BitVec 32 := 1#32
  let arg16 : BitVec 32 := Scf.iv c0_i32_56 c1_i32_58 k0_t9
  let c16_i32 : BitVec 32 := 16#32
  let v62 : BitVec 32 := Scalar.muli arg16 c16_i32
  let v63 : Index := Scalar.indexCast v62
  ![v63.toNat]

def k0_chk6 (i : grid0.Coords) (v76 : IVec S16 32) : Prop :=
  (∀ (k0_h4 : k0_cond4 i = 1#1), ∀ a x, ((![v76] : Fin 1 → IVec S16 32) a x).toNat < S120000.size a)
theorem k0_idx6_inb : ∀ (i : grid0.Coords) (v76 : IVec S16 32) (k0_hw6 : k0_chk6 i v76), ∀ (k0_h4 : k0_cond4 i = 1#1), ∀ a x, ((![v76] : Fin 1 → IVec S16 32) a x).toNat < S120000.size a := fun i v76 k0_hw6 k0_h4 => k0_hw6 k0_h4
abbrev grid1 : Pipeline.Grid := ⟨2, ![4, 25], ![false, false]⟩

def k1_cond3 (i : grid1.Coords) : BitVec 1 :=
  let arg0 : BitVec 32 := BitVec.ofNat 32 (i 0).val
  let c0_i32_5 : BitVec 32 := 0#32
  let v10 : BitVec 1 := Scalar.cmpi .eq arg0 c0_i32_5
  let v11 : BitVec 32 := Scalar.extui v10
  let c0_i32_6 : BitVec 32 := 0#32
  let v12 : BitVec 1 := Scalar.cmpi .ne v11 c0_i32_6
  v12

def k1_off1 (i : grid1.Coords) : Fin 2 → Nat :=
  let arg1 : BitVec 32 := BitVec.ofNat 32 (i 1).val
  let c2000_i32_45 : BitVec 32 := 2000#32
  let v75 : BitVec 32 := Scalar.muli arg1 c2000_i32_45
  let v76 : Index := Scalar.indexCast v75
  let c0_46 : Index := 0#32
  ![v76.toNat, 0]
def k1_off2 (i : grid1.Coords) : Fin 2 → Nat :=
  let arg1 : BitVec 32 := BitVec.ofNat 32 (i 1).val
  let c2000_i32 : BitVec 32 := 2000#32
  let v13 : BitVec 32 := Scalar.muli arg1 c2000_i32
  let v14 : Index := Scalar.indexCast v13
  let c0_7 : Index := 0#32
  ![v14.toNat, 0]
def k1_cond4 (i : grid1.Coords) : BitVec 1 :=
  let arg0 : BitVec 32 := BitVec.ofNat 32 (i 0).val
  let c3_i32 : BitVec 32 := 3#32
  let v65 : BitVec 1 := Scalar.cmpi .slt arg0 c3_i32
  let v66 : BitVec 32 := Scalar.extui v65
  let c0_i32_39 : BitVec 32 := 0#32
  let v67 : BitVec 1 := Scalar.cmpi .ne v66 c0_i32_39
  v67

def k1_off3 (i : grid1.Coords) : Fin 2 → Nat :=
  let arg1 : BitVec 32 := BitVec.ofNat 32 (i 1).val
  let c2000_i32_43 : BitVec 32 := 2000#32
  let v74 : BitVec 32 := Scalar.muli arg1 c2000_i32_43
  let v75 : Index := Scalar.indexCast v74
  let c0_44 : Index := 0#32
  ![v75.toNat, 0]
def k1_cond5 (i : grid1.Coords) : BitVec 1 :=
  let arg0 : BitVec 32 := BitVec.ofNat 32 (i 0).val
  let c3_i32_40 : BitVec 32 := 3#32
  let v68 : BitVec 1 := Scalar.cmpi .eq arg0 c3_i32_40
  let v69 : BitVec 32 := Scalar.extui v68
  let c0_i32_41 : BitVec 32 := 0#32
  let v70 : BitVec 1 := Scalar.cmpi .ne v69 c0_i32_41
  v70

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage1_0 : Fin 2 → Memref sig .tc .vmem S2000x100 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S100x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x128x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x128x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x1x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x128x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x128x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S1x1x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1x1x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev stage1_10 : Fin 2 → Memref sig .tc .vmem S1x1x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]

abbrev stage1_11 : Fin 1 → Memref sig .tc .vmem S128x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 2 → Memref sig .tc .vmem S2000x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![false, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S50000 : Shape := ⟨1, ![50000]⟩
abbrev S500000 : Shape := ⟨1, ![500000]⟩
abbrev S50000x128 : Shape := ⟨2, ![50000, 128]⟩
abbrev S100x128 : Shape := ⟨2, ![100, 128]⟩
abbrev S4x128x128 : Shape := ⟨3, ![4, 128, 128]⟩
abbrev S4x128 : Shape := ⟨2, ![4, 128]⟩
abbrev S128x128 : Shape := ⟨2, ![128, 128]⟩
abbrev S_ : Shape := ⟨0, ![]⟩
abbrev S100 : Shape := ⟨1, ![100]⟩
abbrev S500000x1 : Shape := ⟨2, ![500000, 1]⟩
abbrev S1x128x128 : Shape := ⟨3, ![1, 128, 128]⟩
abbrev S1x128 : Shape := ⟨2, ![1, 128]⟩
abbrev S128 : Shape := ⟨1, ![128]⟩
abbrev S50000x1 : Shape := ⟨2, ![50000, 1]⟩
abbrev S1x50000 : Shape := ⟨2, ![1, 50000]⟩
abbrev S49999 : Shape := ⟨1, ![49999]⟩
abbrev S1 : Shape := ⟨1, ![1]⟩
abbrev S1x1 : Shape := ⟨2, ![1, 1]⟩
abbrev S500000x128 : Shape := ⟨2, ![500000, 128]⟩
abbrev S100x1 : Shape := ⟨2, ![100, 1]⟩

abbrev nBuf : Space → Nat
  | .hbm => 737
  | .vmem => 0
  | .smem => 0
  | _ => 0

abbrev hbmTy0_0 (i : Nat) : BufTy := match i % 128 with
  | 0 => ⟨S50000, .i32⟩
  | 1 => ⟨S500000, .i32⟩
  | 2 => ⟨S500000, .i32⟩
  | 3 => ⟨S50000x128, .f32⟩
  | 4 => ⟨S100x128, .f32⟩
  | 5 => ⟨S4x128x128, .f32⟩
  | 6 => ⟨S4x128x128, .f32⟩
  | 7 => ⟨S4x128, .f32⟩
  | 8 => ⟨S4x128x128, .f32⟩
  | 9 => ⟨S4x128x128, .f32⟩
  | 10 => ⟨S4x128, .f32⟩
  | 11 => ⟨S4x128, .f32⟩
  | 12 => ⟨S4x128, .f32⟩
  | 13 => ⟨S128x128, .f32⟩
  | 14 => ⟨S_, .f32⟩
  | 15 => ⟨S500000, .f32⟩
  | 16 => ⟨S_, .f32⟩
  | 17 => ⟨S100, .f32⟩
  | 18 => ⟨S500000x1, .i32⟩
  | 19 => ⟨S100, .f32⟩
  | 20 => ⟨S_, .f32⟩
  | 21 => ⟨S100, .f32⟩
  | 22 => ⟨S100, .f32⟩
  | 23 => ⟨S_, .f32⟩
  | 24 => ⟨S50000, .f32⟩
  | 25 => ⟨S500000x1, .i32⟩
  | 26 => ⟨S50000, .f32⟩
  | 27 => ⟨S_, .f32⟩
  | 28 => ⟨S50000, .f32⟩
  | 29 => ⟨S50000, .f32⟩
  | 30 => ⟨S1x128x128, .f32⟩
  | 31 => ⟨S128x128, .f32⟩
  | 32 => ⟨S1x128x128, .f32⟩
  | 33 => ⟨S128x128, .f32⟩
  | 34 => ⟨S1x128, .f32⟩
  | 35 => ⟨S128, .f32⟩
  | 36 => ⟨S1x128x128, .f32⟩
  | 37 => ⟨S128x128, .f32⟩
  | 38 => ⟨S1x128x128, .f32⟩
  | 39 => ⟨S128x128, .f32⟩
  | 40 => ⟨S1x128, .f32⟩
  | 41 => ⟨S128, .f32⟩
  | 42 => ⟨S1x128x128, .f32⟩
  | 43 => ⟨S128x128, .f32⟩
  | 44 => ⟨S1x128x128, .f32⟩
  | 45 => ⟨S128x128, .f32⟩
  | 46 => ⟨S1x128, .f32⟩
  | 47 => ⟨S128, .f32⟩
  | 48 => ⟨S1x128x128, .f32⟩
  | 49 => ⟨S128x128, .f32⟩
  | 50 => ⟨S1x128x128, .f32⟩
  | 51 => ⟨S128x128, .f32⟩
  | 52 => ⟨S1x128, .f32⟩
  | 53 => ⟨S128, .f32⟩
  | 54 => ⟨S50000x1, .i32⟩
  | 55 => ⟨S1x50000, .i32⟩
  | 56 => ⟨S1x50000, .i32⟩
  | 57 => ⟨S1x50000, .i32⟩
  | 58 => ⟨S50000, .i32⟩
  | 59 => ⟨S50000, .i32⟩
  | 60 => ⟨S50000, .i32⟩
  | 61 => ⟨S50000, .i32⟩
  | 62 => ⟨S_, .i32⟩
  | 63 => ⟨S50000, .i32⟩
  | 64 => ⟨S50000, .i1⟩
  | 65 => ⟨S_, .i32⟩
  | 66 => ⟨S50000, .i32⟩
  | 67 => ⟨S50000, .i32⟩
  | 68 => ⟨S50000, .i32⟩
  | 69 => ⟨S50000x1, .i32⟩
  | 70 => ⟨S50000, .i32⟩
  | 71 => ⟨S_, .i1⟩
  | 72 => ⟨S50000, .i1⟩
  | 73 => ⟨S49999, .i32⟩
  | 74 => ⟨S49999, .i32⟩
  | 75 => ⟨S49999, .i1⟩
  | 76 => ⟨S_, .i1⟩
  | 77 => ⟨S49999, .i1⟩
  | 78 => ⟨S_, .i32⟩
  | 79 => ⟨S1, .i32⟩
  | 80 => ⟨S50000, .i1⟩
  | 81 => ⟨S50000, .i32⟩
  | 82 => ⟨S_, .i32⟩
  | 83 => ⟨S_, .i32⟩
  | 84 => ⟨S50000, .i32⟩
  | 85 => ⟨S_, .i32⟩
  | 86 => ⟨S50000, .i32⟩
  | 87 => ⟨S_, .i32⟩
  | 88 => ⟨S50000, .i32⟩
  | 89 => ⟨S50000, .i1⟩
  | 90 => ⟨S_, .i32⟩
  | 91 => ⟨S50000, .i32⟩
  | 92 => ⟨S50000, .i32⟩
  | 93 => ⟨S50000, .i32⟩
  | 94 => ⟨S50000x1, .i32⟩
  | 95 => ⟨S_, .i32⟩
  | 96 => ⟨S50000, .i32⟩
  | 97 => ⟨S50000, .i32⟩
  | 98 => ⟨S_, .i32⟩
  | 99 => ⟨S_, .i32⟩
  | 100 => ⟨S50000, .i32⟩
  | 101 => ⟨S_, .i32⟩
  | 102 => ⟨S_, .i32⟩
  | 103 => ⟨S50000, .i32⟩
  | 104 => ⟨S50000, .i32⟩
  | 105 => ⟨S50000, .i32⟩
  | 106 => ⟨S_, .i32⟩
  | 107 => ⟨S50000, .i32⟩
  | 108 => ⟨S50000, .i1⟩
  | 109 => ⟨S50000, .i32⟩
  | 110 => ⟨S50000, .i32⟩
  | 111 => ⟨S_, .i32⟩
  | 112 => ⟨S50000, .i32⟩
  | 113 => ⟨S50000, .i1⟩
  | 114 => ⟨S50000, .i1⟩
  | 115 => ⟨S_, .i32⟩
  | 116 => ⟨S50000, .i32⟩
  | 117 => ⟨S50000, .i32⟩
  | 118 => ⟨S50000, .i32⟩
  | 119 => ⟨S_, .i32⟩
  | 120 => ⟨S_, .i32⟩
  | 121 => ⟨S_, .i32⟩
  | 122 => ⟨S_, .i1⟩
  | 123 => ⟨S_, .i32⟩
  | 124 => ⟨S_, .i32⟩
  | 125 => ⟨S50000, .i32⟩
  | 126 => ⟨S50000, .i32⟩
  | 127 => ⟨S_, .i32⟩
  | _ => ⟨S50000, .i32⟩

abbrev hbmTy0_1 (i : Nat) : BufTy := match i % 128 with
  | 0 => ⟨S50000, .i32⟩
  | 1 => ⟨S50000, .i1⟩
  | 2 => ⟨S_, .i32⟩
  | 3 => ⟨S50000, .i32⟩
  | 4 => ⟨S50000, .i1⟩
  | 5 => ⟨S_, .i32⟩
  | 6 => ⟨S_, .i1⟩
  | 7 => ⟨S50000, .i1⟩
  | 8 => ⟨S50000, .i1⟩
  | 9 => ⟨S50000, .i1⟩
  | 10 => ⟨S50000, .i32⟩
  | 11 => ⟨S50000, .i32⟩
  | 12 => ⟨S50000, .i32⟩
  | 13 => ⟨S50000, .i32⟩
  | 14 => ⟨S_, .i32⟩
  | 15 => ⟨S_, .i32⟩
  | 16 => ⟨S1, .i32⟩
  | 17 => ⟨S50000, .i32⟩
  | 18 => ⟨S50000, .i32⟩
  | 19 => ⟨S50000, .i1⟩
  | 20 => ⟨S_, .i32⟩
  | 21 => ⟨S_, .i32⟩
  | 22 => ⟨S50000, .i32⟩
  | 23 => ⟨S50000, .i32⟩
  | 24 => ⟨S_, .i32⟩
  | 25 => ⟨S50000, .i32⟩
  | 26 => ⟨S50000, .i1⟩
  | 27 => ⟨S_, .i32⟩
  | 28 => ⟨S50000, .i32⟩
  | 29 => ⟨S50000, .i32⟩
  | 30 => ⟨S50000, .i32⟩
  | 31 => ⟨S50000x1, .i32⟩
  | 32 => ⟨S50000, .i32⟩
  | 33 => ⟨S50000, .i32⟩
  | 34 => ⟨S_, .i32⟩
  | 35 => ⟨S_, .i32⟩
  | 36 => ⟨S50000, .i32⟩
  | 37 => ⟨S_, .i32⟩
  | 38 => ⟨S50000, .i32⟩
  | 39 => ⟨S50000, .i32⟩
  | 40 => ⟨S_, .i32⟩
  | 41 => ⟨S50000, .i32⟩
  | 42 => ⟨S_, .i32⟩
  | 43 => ⟨S50000, .i32⟩
  | 44 => ⟨S50000, .i1⟩
  | 45 => ⟨S_, .i32⟩
  | 46 => ⟨S50000, .i32⟩
  | 47 => ⟨S50000, .i32⟩
  | 48 => ⟨S50000, .i32⟩
  | 49 => ⟨S50000x1, .i32⟩
  | 50 => ⟨S50000, .i32⟩
  | 51 => ⟨S_, .i32⟩
  | 52 => ⟨S50000, .i32⟩
  | 53 => ⟨S50000, .i1⟩
  | 54 => ⟨S_, .i32⟩
  | 55 => ⟨S50000, .i32⟩
  | 56 => ⟨S50000, .i32⟩
  | 57 => ⟨S50000, .i32⟩
  | 58 => ⟨S50000x1, .i32⟩
  | 59 => ⟨S1, .i32⟩
  | 60 => ⟨S_, .i32⟩
  | 61 => ⟨S50000x1, .i32⟩
  | 62 => ⟨S50000x1, .i1⟩
  | 63 => ⟨S1x1, .i32⟩
  | 64 => ⟨S50000x1, .i32⟩
  | 65 => ⟨S50000x1, .i1⟩
  | 66 => ⟨S50000x1, .i1⟩
  | 67 => ⟨S_, .i1⟩
  | 68 => ⟨S50000, .i1⟩
  | 69 => ⟨S50000x128, .f32⟩
  | 70 => ⟨S50000x128, .i1⟩
  | 71 => ⟨S_, .f32⟩
  | 72 => ⟨S50000x128, .f32⟩
  | 73 => ⟨S50000x128, .f32⟩
  | 74 => ⟨S_, .i32⟩
  | 75 => ⟨S500000, .i32⟩
  | 76 => ⟨S500000, .i1⟩
  | 77 => ⟨S_, .i32⟩
  | 78 => ⟨S500000, .i32⟩
  | 79 => ⟨S500000, .i32⟩
  | 80 => ⟨S500000, .i32⟩
  | 81 => ⟨S500000x1, .i32⟩
  | 82 => ⟨S1, .i32⟩
  | 83 => ⟨S_, .i32⟩
  | 84 => ⟨S500000x1, .i32⟩
  | 85 => ⟨S500000x1, .i1⟩
  | 86 => ⟨S1x1, .i32⟩
  | 87 => ⟨S500000x1, .i32⟩
  | 88 => ⟨S500000x1, .i1⟩
  | 89 => ⟨S500000x1, .i1⟩
  | 90 => ⟨S_, .i1⟩
  | 91 => ⟨S500000, .i1⟩
  | 92 => ⟨S500000x128, .f32⟩
  | 93 => ⟨S500000x128, .i1⟩
  | 94 => ⟨S_, .f32⟩
  | 95 => ⟨S500000x128, .f32⟩
  | 96 => ⟨S500000x128, .f32⟩
  | 97 => ⟨S_, .f32⟩
  | 98 => ⟨S100x128, .f32⟩
  | 99 => ⟨S500000x1, .i32⟩
  | 100 => ⟨S100x128, .f32⟩
  | 101 => ⟨S100x1, .f32⟩
  | 102 => ⟨S100x128, .f32⟩
  | 103 => ⟨S100x128, .f32⟩
  | 104 => ⟨S100x128, .f32⟩
  | 105 => ⟨S100x128, .f32⟩
  | 106 => ⟨S100x128, .f32⟩
  | 107 => ⟨S1x128, .f32⟩
  | 108 => ⟨S100x128, .f32⟩
  | 109 => ⟨S100x128, .f32⟩
  | 110 => ⟨S_, .i32⟩
  | 111 => ⟨S500000, .i32⟩
  | 112 => ⟨S500000, .i1⟩
  | 113 => ⟨S_, .i32⟩
  | 114 => ⟨S500000, .i32⟩
  | 115 => ⟨S500000, .i32⟩
  | 116 => ⟨S500000, .i32⟩
  | 117 => ⟨S500000x1, .i32⟩
  | 118 => ⟨S1, .i32⟩
  | 119 => ⟨S_, .i32⟩
  | 120 => ⟨S500000x1, .i32⟩
  | 121 => ⟨S500000x1, .i1⟩
  | 122 => ⟨S1x1, .i32⟩
  | 123 => ⟨S500000x1, .i32⟩
  | 124 => ⟨S500000x1, .i1⟩
  | 125 => ⟨S500000x1, .i1⟩
  | 126 => ⟨S_, .i1⟩
  | 127 => ⟨S500000, .i1⟩
  | _ => ⟨S50000, .i32⟩

abbrev hbmTy0_2 (i : Nat) : BufTy := match i % 128 with
  | 0 => ⟨S500000x128, .f32⟩
  | 1 => ⟨S500000x128, .i1⟩
  | 2 => ⟨S_, .f32⟩
  | 3 => ⟨S500000x128, .f32⟩
  | 4 => ⟨S500000x128, .f32⟩
  | 5 => ⟨S_, .f32⟩
  | 6 => ⟨S50000x128, .f32⟩
  | 7 => ⟨S500000x1, .i32⟩
  | 8 => ⟨S50000x128, .f32⟩
  | 9 => ⟨S50000x1, .f32⟩
  | 10 => ⟨S50000x128, .f32⟩
  | 11 => ⟨S50000x128, .f32⟩
  | 12 => ⟨S1x128x128, .f32⟩
  | 13 => ⟨S128x128, .f32⟩
  | 14 => ⟨S50000x128, .f32⟩
  | 15 => ⟨S1x128x128, .f32⟩
  | 16 => ⟨S128x128, .f32⟩
  | 17 => ⟨S50000x128, .f32⟩
  | 18 => ⟨S50000x128, .f32⟩
  | 19 => ⟨S1x128, .f32⟩
  | 20 => ⟨S128, .f32⟩
  | 21 => ⟨S1x128, .f32⟩
  | 22 => ⟨S50000x128, .f32⟩
  | 23 => ⟨S50000x128, .f32⟩
  | 24 => ⟨S1x128, .f32⟩
  | 25 => ⟨S128, .f32⟩
  | 26 => ⟨S1x128, .f32⟩
  | 27 => ⟨S128, .f32⟩
  | 28 => ⟨S_, .f32⟩
  | 29 => ⟨S50000, .f32⟩
  | 30 => ⟨S50000x1, .f32⟩
  | 31 => ⟨S_, .f32⟩
  | 32 => ⟨S50000x1, .f32⟩
  | 33 => ⟨S50000x1, .f32⟩
  | 34 => ⟨S_, .i32⟩
  | 35 => ⟨S_, .f32⟩
  | 36 => ⟨S50000, .f32⟩
  | 37 => ⟨S50000x1, .f32⟩
  | 38 => ⟨S_, .f32⟩
  | 39 => ⟨S50000x1, .f32⟩
  | 40 => ⟨S50000x1, .f32⟩
  | 41 => ⟨S50000x128, .f32⟩
  | 42 => ⟨S50000x128, .f32⟩
  | 43 => ⟨S50000x128, .f32⟩
  | 44 => ⟨S_, .f32⟩
  | 45 => ⟨S_, .f32⟩
  | 46 => ⟨S_, .f32⟩
  | 47 => ⟨S_, .f32⟩
  | 48 => ⟨S50000, .f32⟩
  | 49 => ⟨S50000x1, .f32⟩
  | 50 => ⟨S50000x1, .f32⟩
  | 51 => ⟨S50000x1, .f32⟩
  | 52 => ⟨S_, .f32⟩
  | 53 => ⟨S_, .i1⟩
  | 54 => ⟨S_, .f32⟩
  | 55 => ⟨S_, .f32⟩
  | 56 => ⟨S50000x1, .f32⟩
  | 57 => ⟨S50000x1, .f32⟩
  | 58 => ⟨S50000x128, .f32⟩
  | 59 => ⟨S50000x128, .f32⟩
  | 60 => ⟨S_, .f32⟩
  | 61 => ⟨S50000x1, .f32⟩
  | 62 => ⟨S50000x1, .f32⟩
  | 63 => ⟨S50000x1, .f32⟩
  | 64 => ⟨S50000x128, .f32⟩
  | 65 => ⟨S50000x128, .f32⟩
  | 66 => ⟨S1x128, .f32⟩
  | 67 => ⟨S50000x128, .f32⟩
  | 68 => ⟨S50000x128, .f32⟩
  | 69 => ⟨S1x128, .f32⟩
  | 70 => ⟨S50000x128, .f32⟩
  | 71 => ⟨S50000x128, .f32⟩
  | 72 => ⟨S_, .i32⟩
  | 73 => ⟨S500000, .i32⟩
  | 74 => ⟨S500000, .i1⟩
  | 75 => ⟨S_, .i32⟩
  | 76 => ⟨S500000, .i32⟩
  | 77 => ⟨S500000, .i32⟩
  | 78 => ⟨S500000, .i32⟩
  | 79 => ⟨S500000x1, .i32⟩
  | 80 => ⟨S1, .i32⟩
  | 81 => ⟨S_, .i32⟩
  | 82 => ⟨S500000x1, .i32⟩
  | 83 => ⟨S500000x1, .i1⟩
  | 84 => ⟨S1x1, .i32⟩
  | 85 => ⟨S500000x1, .i32⟩
  | 86 => ⟨S500000x1, .i1⟩
  | 87 => ⟨S500000x1, .i1⟩
  | 88 => ⟨S_, .i1⟩
  | 89 => ⟨S500000, .i1⟩
  | 90 => ⟨S500000x128, .f32⟩
  | 91 => ⟨S500000x128, .i1⟩
  | 92 => ⟨S_, .f32⟩
  | 93 => ⟨S500000x128, .f32⟩
  | 94 => ⟨S500000x128, .f32⟩
  | 95 => ⟨S_, .f32⟩
  | 96 => ⟨S100x128, .f32⟩
  | 97 => ⟨S500000x1, .i32⟩
  | 98 => ⟨S100x128, .f32⟩
  | 99 => ⟨S100x1, .f32⟩
  | 100 => ⟨S100x128, .f32⟩
  | 101 => ⟨S100x128, .f32⟩
  | 102 => ⟨S100x128, .f32⟩
  | 103 => ⟨S100x128, .f32⟩
  | 104 => ⟨S100x128, .f32⟩
  | 105 => ⟨S1x128, .f32⟩
  | 106 => ⟨S100x128, .f32⟩
  | 107 => ⟨S100x128, .f32⟩
  | 108 => ⟨S_, .i32⟩
  | 109 => ⟨S500000, .i32⟩
  | 110 => ⟨S500000, .i1⟩
  | 111 => ⟨S_, .i32⟩
  | 112 => ⟨S500000, .i32⟩
  | 113 => ⟨S500000, .i32⟩
  | 114 => ⟨S500000, .i32⟩
  | 115 => ⟨S500000x1, .i32⟩
  | 116 => ⟨S1, .i32⟩
  | 117 => ⟨S_, .i32⟩
  | 118 => ⟨S500000x1, .i32⟩
  | 119 => ⟨S500000x1, .i1⟩
  | 120 => ⟨S1x1, .i32⟩
  | 121 => ⟨S500000x1, .i32⟩
  | 122 => ⟨S500000x1, .i1⟩
  | 123 => ⟨S500000x1, .i1⟩
  | 124 => ⟨S_, .i1⟩
  | 125 => ⟨S500000, .i1⟩
  | 126 => ⟨S500000x128, .f32⟩
  | 127 => ⟨S500000x128, .i1⟩
  | _ => ⟨S50000, .i32⟩

abbrev hbmTy0_3 (i : Nat) : BufTy := match i % 128 with
  | 0 => ⟨S_, .f32⟩
  | 1 => ⟨S500000x128, .f32⟩
  | 2 => ⟨S500000x128, .f32⟩
  | 3 => ⟨S_, .f32⟩
  | 4 => ⟨S50000x128, .f32⟩
  | 5 => ⟨S500000x1, .i32⟩
  | 6 => ⟨S50000x128, .f32⟩
  | 7 => ⟨S50000x1, .f32⟩
  | 8 => ⟨S50000x128, .f32⟩
  | 9 => ⟨S50000x128, .f32⟩
  | 10 => ⟨S1x128x128, .f32⟩
  | 11 => ⟨S128x128, .f32⟩
  | 12 => ⟨S50000x128, .f32⟩
  | 13 => ⟨S1x128x128, .f32⟩
  | 14 => ⟨S128x128, .f32⟩
  | 15 => ⟨S50000x128, .f32⟩
  | 16 => ⟨S50000x128, .f32⟩
  | 17 => ⟨S1x128, .f32⟩
  | 18 => ⟨S128, .f32⟩
  | 19 => ⟨S1x128, .f32⟩
  | 20 => ⟨S50000x128, .f32⟩
  | 21 => ⟨S50000x128, .f32⟩
  | 22 => ⟨S1x128, .f32⟩
  | 23 => ⟨S128, .f32⟩
  | 24 => ⟨S1x128, .f32⟩
  | 25 => ⟨S128, .f32⟩
  | 26 => ⟨S_, .f32⟩
  | 27 => ⟨S50000, .f32⟩
  | 28 => ⟨S50000x1, .f32⟩
  | 29 => ⟨S_, .f32⟩
  | 30 => ⟨S50000x1, .f32⟩
  | 31 => ⟨S50000x1, .f32⟩
  | 32 => ⟨S_, .i32⟩
  | 33 => ⟨S_, .f32⟩
  | 34 => ⟨S50000, .f32⟩
  | 35 => ⟨S50000x1, .f32⟩
  | 36 => ⟨S_, .f32⟩
  | 37 => ⟨S50000x1, .f32⟩
  | 38 => ⟨S50000x1, .f32⟩
  | 39 => ⟨S50000x128, .f32⟩
  | 40 => ⟨S50000x128, .f32⟩
  | 41 => ⟨S50000x128, .f32⟩
  | 42 => ⟨S_, .f32⟩
  | 43 => ⟨S_, .f32⟩
  | 44 => ⟨S_, .f32⟩
  | 45 => ⟨S_, .f32⟩
  | 46 => ⟨S50000, .f32⟩
  | 47 => ⟨S50000x1, .f32⟩
  | 48 => ⟨S50000x1, .f32⟩
  | 49 => ⟨S50000x1, .f32⟩
  | 50 => ⟨S_, .f32⟩
  | 51 => ⟨S_, .i1⟩
  | 52 => ⟨S_, .f32⟩
  | 53 => ⟨S_, .f32⟩
  | 54 => ⟨S50000x1, .f32⟩
  | 55 => ⟨S50000x1, .f32⟩
  | 56 => ⟨S50000x128, .f32⟩
  | 57 => ⟨S50000x128, .f32⟩
  | 58 => ⟨S_, .f32⟩
  | 59 => ⟨S50000x1, .f32⟩
  | 60 => ⟨S50000x1, .f32⟩
  | 61 => ⟨S50000x1, .f32⟩
  | 62 => ⟨S50000x128, .f32⟩
  | 63 => ⟨S50000x128, .f32⟩
  | 64 => ⟨S1x128, .f32⟩
  | 65 => ⟨S50000x128, .f32⟩
  | 66 => ⟨S50000x128, .f32⟩
  | 67 => ⟨S1x128, .f32⟩
  | 68 => ⟨S50000x128, .f32⟩
  | 69 => ⟨S50000x128, .f32⟩
  | 70 => ⟨S_, .i32⟩
  | 71 => ⟨S500000, .i32⟩
  | 72 => ⟨S500000, .i1⟩
  | 73 => ⟨S_, .i32⟩
  | 74 => ⟨S500000, .i32⟩
  | 75 => ⟨S500000, .i32⟩
  | 76 => ⟨S500000, .i32⟩
  | 77 => ⟨S500000x1, .i32⟩
  | 78 => ⟨S1, .i32⟩
  | 79 => ⟨S_, .i32⟩
  | 80 => ⟨S500000x1, .i32⟩
  | 81 => ⟨S500000x1, .i1⟩
  | 82 => ⟨S1x1, .i32⟩
  | 83 => ⟨S500000x1, .i32⟩
  | 84 => ⟨S500000x1, .i1⟩
  | 85 => ⟨S500000x1, .i1⟩
  | 86 => ⟨S_, .i1⟩
  | 87 => ⟨S500000, .i1⟩
  | 88 => ⟨S500000x128, .f32⟩
  | 89 => ⟨S500000x128, .i1⟩
  | 90 => ⟨S_, .f32⟩
  | 91 => ⟨S500000x128, .f32⟩
  | 92 => ⟨S500000x128, .f32⟩
  | 93 => ⟨S_, .f32⟩
  | 94 => ⟨S100x128, .f32⟩
  | 95 => ⟨S500000x1, .i32⟩
  | 96 => ⟨S100x128, .f32⟩
  | 97 => ⟨S100x1, .f32⟩
  | 98 => ⟨S100x128, .f32⟩
  | 99 => ⟨S100x128, .f32⟩
  | 100 => ⟨S100x128, .f32⟩
  | 101 => ⟨S100x128, .f32⟩
  | 102 => ⟨S100x128, .f32⟩
  | 103 => ⟨S1x128, .f32⟩
  | 104 => ⟨S100x128, .f32⟩
  | 105 => ⟨S100x128, .f32⟩
  | 106 => ⟨S_, .i32⟩
  | 107 => ⟨S500000, .i32⟩
  | 108 => ⟨S500000, .i1⟩
  | 109 => ⟨S_, .i32⟩
  | 110 => ⟨S500000, .i32⟩
  | 111 => ⟨S500000, .i32⟩
  | 112 => ⟨S500000, .i32⟩
  | 113 => ⟨S500000x1, .i32⟩
  | 114 => ⟨S1, .i32⟩
  | 115 => ⟨S_, .i32⟩
  | 116 => ⟨S500000x1, .i32⟩
  | 117 => ⟨S500000x1, .i1⟩
  | 118 => ⟨S1x1, .i32⟩
  | 119 => ⟨S500000x1, .i32⟩
  | 120 => ⟨S500000x1, .i1⟩
  | 121 => ⟨S500000x1, .i1⟩
  | 122 => ⟨S_, .i1⟩
  | 123 => ⟨S500000, .i1⟩
  | 124 => ⟨S500000x128, .f32⟩
  | 125 => ⟨S500000x128, .i1⟩
  | 126 => ⟨S_, .f32⟩
  | 127 => ⟨S500000x128, .f32⟩
  | _ => ⟨S50000, .i32⟩

abbrev hbmTy0_4 (i : Nat) : BufTy := match i % 128 with
  | 0 => ⟨S500000x128, .f32⟩
  | 1 => ⟨S_, .f32⟩
  | 2 => ⟨S50000x128, .f32⟩
  | 3 => ⟨S500000x1, .i32⟩
  | 4 => ⟨S50000x128, .f32⟩
  | 5 => ⟨S50000x1, .f32⟩
  | 6 => ⟨S50000x128, .f32⟩
  | 7 => ⟨S50000x128, .f32⟩
  | 8 => ⟨S1x128x128, .f32⟩
  | 9 => ⟨S128x128, .f32⟩
  | 10 => ⟨S50000x128, .f32⟩
  | 11 => ⟨S1x128x128, .f32⟩
  | 12 => ⟨S128x128, .f32⟩
  | 13 => ⟨S50000x128, .f32⟩
  | 14 => ⟨S50000x128, .f32⟩
  | 15 => ⟨S1x128, .f32⟩
  | 16 => ⟨S128, .f32⟩
  | 17 => ⟨S1x128, .f32⟩
  | 18 => ⟨S50000x128, .f32⟩
  | 19 => ⟨S50000x128, .f32⟩
  | 20 => ⟨S1x128, .f32⟩
  | 21 => ⟨S128, .f32⟩
  | 22 => ⟨S1x128, .f32⟩
  | 23 => ⟨S128, .f32⟩
  | 24 => ⟨S_, .f32⟩
  | 25 => ⟨S50000, .f32⟩
  | 26 => ⟨S50000x1, .f32⟩
  | 27 => ⟨S_, .f32⟩
  | 28 => ⟨S50000x1, .f32⟩
  | 29 => ⟨S50000x1, .f32⟩
  | 30 => ⟨S_, .i32⟩
  | 31 => ⟨S_, .f32⟩
  | 32 => ⟨S50000, .f32⟩
  | 33 => ⟨S50000x1, .f32⟩
  | 34 => ⟨S_, .f32⟩
  | 35 => ⟨S50000x1, .f32⟩
  | 36 => ⟨S50000x1, .f32⟩
  | 37 => ⟨S50000x128, .f32⟩
  | 38 => ⟨S50000x128, .f32⟩
  | 39 => ⟨S50000x128, .f32⟩
  | 40 => ⟨S_, .f32⟩
  | 41 => ⟨S_, .f32⟩
  | 42 => ⟨S_, .f32⟩
  | 43 => ⟨S_, .f32⟩
  | 44 => ⟨S50000, .f32⟩
  | 45 => ⟨S50000x1, .f32⟩
  | 46 => ⟨S50000x1, .f32⟩
  | 47 => ⟨S50000x1, .f32⟩
  | 48 => ⟨S_, .f32⟩
  | 49 => ⟨S_, .i1⟩
  | 50 => ⟨S_, .f32⟩
  | 51 => ⟨S_, .f32⟩
  | 52 => ⟨S50000x1, .f32⟩
  | 53 => ⟨S50000x1, .f32⟩
  | 54 => ⟨S50000x128, .f32⟩
  | 55 => ⟨S50000x128, .f32⟩
  | 56 => ⟨S_, .f32⟩
  | 57 => ⟨S50000x1, .f32⟩
  | 58 => ⟨S50000x1, .f32⟩
  | 59 => ⟨S50000x1, .f32⟩
  | 60 => ⟨S50000x128, .f32⟩
  | 61 => ⟨S50000x128, .f32⟩
  | 62 => ⟨S1x128, .f32⟩
  | 63 => ⟨S50000x128, .f32⟩
  | 64 => ⟨S50000x128, .f32⟩
  | 65 => ⟨S1x128, .f32⟩
  | 66 => ⟨S50000x128, .f32⟩
  | 67 => ⟨S50000x128, .f32⟩
  | 68 => ⟨S_, .i32⟩
  | 69 => ⟨S500000, .i32⟩
  | 70 => ⟨S500000, .i1⟩
  | 71 => ⟨S_, .i32⟩
  | 72 => ⟨S500000, .i32⟩
  | 73 => ⟨S500000, .i32⟩
  | 74 => ⟨S500000, .i32⟩
  | 75 => ⟨S500000x1, .i32⟩
  | 76 => ⟨S1, .i32⟩
  | 77 => ⟨S_, .i32⟩
  | 78 => ⟨S500000x1, .i32⟩
  | 79 => ⟨S500000x1, .i1⟩
  | 80 => ⟨S1x1, .i32⟩
  | 81 => ⟨S500000x1, .i32⟩
  | 82 => ⟨S500000x1, .i1⟩
  | 83 => ⟨S500000x1, .i1⟩
  | 84 => ⟨S_, .i1⟩
  | 85 => ⟨S500000, .i1⟩
  | 86 => ⟨S500000x128, .f32⟩
  | 87 => ⟨S500000x128, .i1⟩
  | 88 => ⟨S_, .f32⟩
  | 89 => ⟨S500000x128, .f32⟩
  | 90 => ⟨S500000x128, .f32⟩
  | 91 => ⟨S_, .f32⟩
  | 92 => ⟨S100x128, .f32⟩
  | 93 => ⟨S500000x1, .i32⟩
  | 94 => ⟨S100x128, .f32⟩
  | 95 => ⟨S100x1, .f32⟩
  | 96 => ⟨S100x128, .f32⟩
  | 97 => ⟨S100x128, .f32⟩
  | 98 => ⟨S100x128, .f32⟩
  | 99 => ⟨S100x128, .f32⟩
  | 100 => ⟨S100x128, .f32⟩
  | 101 => ⟨S1x128, .f32⟩
  | 102 => ⟨S100x128, .f32⟩
  | 103 => ⟨S100x128, .f32⟩
  | 104 => ⟨S_, .i32⟩
  | 105 => ⟨S500000, .i32⟩
  | 106 => ⟨S500000, .i1⟩
  | 107 => ⟨S_, .i32⟩
  | 108 => ⟨S500000, .i32⟩
  | 109 => ⟨S500000, .i32⟩
  | 110 => ⟨S500000, .i32⟩
  | 111 => ⟨S500000x1, .i32⟩
  | 112 => ⟨S1, .i32⟩
  | 113 => ⟨S_, .i32⟩
  | 114 => ⟨S500000x1, .i32⟩
  | 115 => ⟨S500000x1, .i1⟩
  | 116 => ⟨S1x1, .i32⟩
  | 117 => ⟨S500000x1, .i32⟩
  | 118 => ⟨S500000x1, .i1⟩
  | 119 => ⟨S500000x1, .i1⟩
  | 120 => ⟨S_, .i1⟩
  | 121 => ⟨S500000, .i1⟩
  | 122 => ⟨S500000x128, .f32⟩
  | 123 => ⟨S500000x128, .i1⟩
  | 124 => ⟨S_, .f32⟩
  | 125 => ⟨S500000x128, .f32⟩
  | 126 => ⟨S500000x128, .f32⟩
  | 127 => ⟨S_, .f32⟩
  | _ => ⟨S50000, .i32⟩

abbrev hbmTy0_5 (i : Nat) : BufTy := match i % 128 with
  | 0 => ⟨S50000x128, .f32⟩
  | 1 => ⟨S500000x1, .i32⟩
  | 2 => ⟨S50000x128, .f32⟩
  | 3 => ⟨S50000x1, .f32⟩
  | 4 => ⟨S50000x128, .f32⟩
  | 5 => ⟨S50000x128, .f32⟩
  | 6 => ⟨S1x128x128, .f32⟩
  | 7 => ⟨S128x128, .f32⟩
  | 8 => ⟨S50000x128, .f32⟩
  | 9 => ⟨S1x128x128, .f32⟩
  | 10 => ⟨S128x128, .f32⟩
  | 11 => ⟨S50000x128, .f32⟩
  | 12 => ⟨S50000x128, .f32⟩
  | 13 => ⟨S1x128, .f32⟩
  | 14 => ⟨S128, .f32⟩
  | 15 => ⟨S1x128, .f32⟩
  | 16 => ⟨S50000x128, .f32⟩
  | 17 => ⟨S50000x128, .f32⟩
  | 18 => ⟨S1x128, .f32⟩
  | 19 => ⟨S128, .f32⟩
  | 20 => ⟨S1x128, .f32⟩
  | 21 => ⟨S128, .f32⟩
  | 22 => ⟨S_, .f32⟩
  | 23 => ⟨S50000, .f32⟩
  | 24 => ⟨S50000x1, .f32⟩
  | 25 => ⟨S_, .f32⟩
  | 26 => ⟨S50000x1, .f32⟩
  | 27 => ⟨S50000x1, .f32⟩
  | 28 => ⟨S_, .i32⟩
  | 29 => ⟨S_, .f32⟩
  | 30 => ⟨S50000, .f32⟩
  | 31 => ⟨S50000x1, .f32⟩
  | 32 => ⟨S_, .f32⟩
  | 33 => ⟨S50000x1, .f32⟩
  | 34 => ⟨S50000x1, .f32⟩
  | 35 => ⟨S50000x128, .f32⟩
  | 36 => ⟨S50000x128, .f32⟩
  | 37 => ⟨S50000x128, .f32⟩
  | 38 => ⟨S_, .f32⟩
  | 39 => ⟨S_, .f32⟩
  | 40 => ⟨S_, .f32⟩
  | 41 => ⟨S_, .f32⟩
  | 42 => ⟨S50000, .f32⟩
  | 43 => ⟨S50000x1, .f32⟩
  | 44 => ⟨S50000x1, .f32⟩
  | 45 => ⟨S50000x1, .f32⟩
  | 46 => ⟨S_, .f32⟩
  | 47 => ⟨S_, .i1⟩
  | 48 => ⟨S_, .f32⟩
  | 49 => ⟨S_, .f32⟩
  | 50 => ⟨S50000x1, .f32⟩
  | 51 => ⟨S50000x1, .f32⟩
  | 52 => ⟨S50000x128, .f32⟩
  | 53 => ⟨S50000x128, .f32⟩
  | 54 => ⟨S_, .f32⟩
  | 55 => ⟨S50000x1, .f32⟩
  | 56 => ⟨S50000x1, .f32⟩
  | 57 => ⟨S50000x1, .f32⟩
  | 58 => ⟨S50000x128, .f32⟩
  | 59 => ⟨S50000x128, .f32⟩
  | 60 => ⟨S1x128, .f32⟩
  | 61 => ⟨S50000x128, .f32⟩
  | 62 => ⟨S50000x128, .f32⟩
  | 63 => ⟨S1x128, .f32⟩
  | 64 => ⟨S50000x128, .f32⟩
  | 65 => ⟨S50000x128, .f32⟩
  | 66 => ⟨S50000x128, .f32⟩
  | 67 => ⟨S_, .f32⟩
  | 68 => ⟨S50000x128, .f32⟩
  | 69 => ⟨S50000x128, .i1⟩
  | 70 => ⟨S_, .f32⟩
  | 71 => ⟨S50000x128, .f32⟩
  | 72 => ⟨S50000x128, .f32⟩
  | 73 => ⟨S50000x128, .f32⟩
  | 74 => ⟨S_, .i32⟩
  | 75 => ⟨S50000, .i32⟩
  | 76 => ⟨S50000, .i1⟩
  | 77 => ⟨S_, .i32⟩
  | 78 => ⟨S50000, .i32⟩
  | 79 => ⟨S50000, .i32⟩
  | 80 => ⟨S50000, .i32⟩
  | 81 => ⟨S50000x1, .i32⟩
  | 82 => ⟨S1, .i32⟩
  | 83 => ⟨S_, .i32⟩
  | 84 => ⟨S50000x1, .i32⟩
  | 85 => ⟨S50000x1, .i1⟩
  | 86 => ⟨S1x1, .i32⟩
  | 87 => ⟨S50000x1, .i32⟩
  | 88 => ⟨S50000x1, .i1⟩
  | 89 => ⟨S50000x1, .i1⟩
  | 90 => ⟨S_, .i1⟩
  | 91 => ⟨S50000, .i1⟩
  | 92 => ⟨S50000x128, .f32⟩
  | 93 => ⟨S50000x128, .i1⟩
  | 94 => ⟨S_, .f32⟩
  | 95 => ⟨S50000x128, .f32⟩
  | 96 => ⟨S50000x128, .f32⟩
  | _ => ⟨S50000, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S50000, .i32⟩

abbrev bufTy : (tb : Table) → Fin (tcTables nBuf tb) → BufTy
  | .hbm, ⟨i, _⟩ => hbmTy i
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_v4 : Ref sig .tc := ⟨.hbm, 21, rfl⟩
abbrev main_v5 : Ref sig .tc := ⟨.hbm, 22, rfl⟩
abbrev main_cst_2 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_3 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_call0_call0_v0 : Ref sig .tc := ⟨.hbm, 57, rfl⟩
abbrev main_call0_call0_v1 : Ref sig .tc := ⟨.hbm, 58, rfl⟩
abbrev main_call0_call0_v2 : Ref sig .tc := ⟨.hbm, 59, rfl⟩
abbrev main_call0_call0_v3_0 : Ref sig .tc := ⟨.hbm, 60, rfl⟩
abbrev main_v35_2 : Ref sig .tc := ⟨.hbm, 61, rfl⟩
abbrev main_call0_c : Ref sig .tc := ⟨.hbm, 62, rfl⟩
abbrev main_call0_v4 : Ref sig .tc := ⟨.hbm, 63, rfl⟩
abbrev main_call0_v5 : Ref sig .tc := ⟨.hbm, 64, rfl⟩
abbrev main_call0_c_0 : Ref sig .tc := ⟨.hbm, 65, rfl⟩
abbrev main_call0_v6 : Ref sig .tc := ⟨.hbm, 66, rfl⟩
abbrev main_call0_v7 : Ref sig .tc := ⟨.hbm, 67, rfl⟩
abbrev main_call0_v8 : Ref sig .tc := ⟨.hbm, 68, rfl⟩
abbrev main_call0_v9 : Ref sig .tc := ⟨.hbm, 69, rfl⟩
abbrev main_v35_0 : Ref sig .tc := ⟨.hbm, 70, rfl⟩
abbrev main_call0_c_1 : Ref sig .tc := ⟨.hbm, 71, rfl⟩
abbrev main_call0_v11 : Ref sig .tc := ⟨.hbm, 72, rfl⟩
abbrev main_call0_v12 : Ref sig .tc := ⟨.hbm, 73, rfl⟩
abbrev main_call0_v13 : Ref sig .tc := ⟨.hbm, 74, rfl⟩
abbrev main_call0_v14 : Ref sig .tc := ⟨.hbm, 75, rfl⟩
abbrev main_call0_c_2 : Ref sig .tc := ⟨.hbm, 76, rfl⟩
abbrev main_call0_v15 : Ref sig .tc := ⟨.hbm, 77, rfl⟩
abbrev main_call0_c_3 : Ref sig .tc := ⟨.hbm, 78, rfl⟩
abbrev main_call0_v16 : Ref sig .tc := ⟨.hbm, 79, rfl⟩
abbrev main_v35_1 : Ref sig .tc := ⟨.hbm, 80, rfl⟩
abbrev main_call1_v0 : Ref sig .tc := ⟨.hbm, 81, rfl⟩
abbrev main_call1_call0_c : Ref sig .tc := ⟨.hbm, 82, rfl⟩
abbrev main_call1_call0_v0 : Ref sig .tc := ⟨.hbm, 83, rfl⟩
abbrev main_v36 : Ref sig .tc := ⟨.hbm, 84, rfl⟩
abbrev main_c : Ref sig .tc := ⟨.hbm, 85, rfl⟩
abbrev main_v37 : Ref sig .tc := ⟨.hbm, 86, rfl⟩
abbrev main_c_4 : Ref sig .tc := ⟨.hbm, 87, rfl⟩
abbrev main_v38 : Ref sig .tc := ⟨.hbm, 88, rfl⟩
abbrev main_v39 : Ref sig .tc := ⟨.hbm, 89, rfl⟩
abbrev main_c_5 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_c_6 : Ref sig .tc := ⟨.hbm, 95, rfl⟩
abbrev main_v44 : Ref sig .tc := ⟨.hbm, 96, rfl⟩
abbrev main_v45 : Ref sig .tc := ⟨.hbm, 97, rfl⟩
abbrev main_call2_call0_c : Ref sig .tc := ⟨.hbm, 98, rfl⟩
abbrev main_call2_call0_v0 : Ref sig .tc := ⟨.hbm, 99, rfl⟩
abbrev main_v46 : Ref sig .tc := ⟨.hbm, 100, rfl⟩
abbrev main_c_7 : Ref sig .tc := ⟨.hbm, 101, rfl⟩
abbrev main_call3_v0 : Ref sig .tc := ⟨.hbm, 102, rfl⟩
abbrev main_call3_v1 : Ref sig .tc := ⟨.hbm, 103, rfl⟩
abbrev main_call3_v2 : Ref sig .tc := ⟨.hbm, 104, rfl⟩
abbrev main_call3_v3 : Ref sig .tc := ⟨.hbm, 105, rfl⟩
abbrev main_call3_v4 : Ref sig .tc := ⟨.hbm, 106, rfl⟩
abbrev main_call3_v5 : Ref sig .tc := ⟨.hbm, 107, rfl⟩
abbrev main_call3_v6 : Ref sig .tc := ⟨.hbm, 108, rfl⟩
abbrev main_call3_v7 : Ref sig .tc := ⟨.hbm, 109, rfl⟩
abbrev main_call3_v8 : Ref sig .tc := ⟨.hbm, 110, rfl⟩
abbrev main_call3_c : Ref sig .tc := ⟨.hbm, 111, rfl⟩
abbrev main_call3_v9 : Ref sig .tc := ⟨.hbm, 112, rfl⟩
abbrev main_call3_v10 : Ref sig .tc := ⟨.hbm, 113, rfl⟩
abbrev main_call3_v11 : Ref sig .tc := ⟨.hbm, 114, rfl⟩
abbrev main_call3_c_0 : Ref sig .tc := ⟨.hbm, 115, rfl⟩
abbrev main_call3_v12 : Ref sig .tc := ⟨.hbm, 116, rfl⟩
abbrev main_call3_v13 : Ref sig .tc := ⟨.hbm, 117, rfl⟩
abbrev main_v47 : Ref sig .tc := ⟨.hbm, 118, rfl⟩
abbrev main_c_8 : Ref sig .tc := ⟨.hbm, 119, rfl⟩
abbrev main_call4_v0 : Ref sig .tc := ⟨.hbm, 120, rfl⟩
abbrev main_call4_c : Ref sig .tc := ⟨.hbm, 121, rfl⟩
abbrev main_call4_v1 : Ref sig .tc := ⟨.hbm, 122, rfl⟩
abbrev main_call4_c_0 : Ref sig .tc := ⟨.hbm, 123, rfl⟩
abbrev main_call4_v2 : Ref sig .tc := ⟨.hbm, 124, rfl⟩
abbrev main_call4_v3 : Ref sig .tc := ⟨.hbm, 125, rfl⟩
abbrev main_call4_v4 : Ref sig .tc := ⟨.hbm, 126, rfl⟩
abbrev main_call4_c_1 : Ref sig .tc := ⟨.hbm, 127, rfl⟩
abbrev main_call4_v5 : Ref sig .tc := ⟨.hbm, 128, rfl⟩
abbrev main_call4_v6 : Ref sig .tc := ⟨.hbm, 129, rfl⟩
abbrev main_call4_c_2 : Ref sig .tc := ⟨.hbm, 130, rfl⟩
abbrev main_call4_v7 : Ref sig .tc := ⟨.hbm, 131, rfl⟩
abbrev main_call4_v8 : Ref sig .tc := ⟨.hbm, 132, rfl⟩
abbrev main_call4_c_3 : Ref sig .tc := ⟨.hbm, 133, rfl⟩
abbrev main_call4_v9 : Ref sig .tc := ⟨.hbm, 134, rfl⟩
abbrev main_call4_v10 : Ref sig .tc := ⟨.hbm, 135, rfl⟩
abbrev main_call4_v11 : Ref sig .tc := ⟨.hbm, 136, rfl⟩
abbrev main_call4_v12 : Ref sig .tc := ⟨.hbm, 137, rfl⟩
abbrev main_call4_v13 : Ref sig .tc := ⟨.hbm, 138, rfl⟩
abbrev main_call4_v14 : Ref sig .tc := ⟨.hbm, 139, rfl⟩
abbrev main_v48 : Ref sig .tc := ⟨.hbm, 140, rfl⟩
abbrev main_v49 : Ref sig .tc := ⟨.hbm, 141, rfl⟩
abbrev main_c_9 : Ref sig .tc := ⟨.hbm, 142, rfl⟩
abbrev main_v50 : Ref sig .tc := ⟨.hbm, 143, rfl⟩
abbrev main_v51 : Ref sig .tc := ⟨.hbm, 144, rfl⟩
abbrev main_v52 : Ref sig .tc := ⟨.hbm, 145, rfl⟩
abbrev main_v53 : Ref sig .tc := ⟨.hbm, 146, rfl⟩
abbrev main_v54 : Ref sig .tc := ⟨.hbm, 147, rfl⟩
abbrev main_c_10 : Ref sig .tc := ⟨.hbm, 148, rfl⟩
abbrev main_call5_v0 : Ref sig .tc := ⟨.hbm, 149, rfl⟩
abbrev main_call5_v1 : Ref sig .tc := ⟨.hbm, 150, rfl⟩
abbrev main_v55 : Ref sig .tc := ⟨.hbm, 151, rfl⟩
abbrev main_c_11 : Ref sig .tc := ⟨.hbm, 152, rfl⟩
abbrev main_v56 : Ref sig .tc := ⟨.hbm, 153, rfl⟩
abbrev main_v57 : Ref sig .tc := ⟨.hbm, 154, rfl⟩
abbrev main_c_12 : Ref sig .tc := ⟨.hbm, 155, rfl⟩
abbrev main_v58 : Ref sig .tc := ⟨.hbm, 156, rfl⟩
abbrev main_v59 : Ref sig .tc := ⟨.hbm, 157, rfl⟩
abbrev main_v60 : Ref sig .tc := ⟨.hbm, 158, rfl⟩
abbrev main_v61 : Ref sig .tc := ⟨.hbm, 159, rfl⟩
abbrev main_v62 : Ref sig .tc := ⟨.hbm, 160, rfl⟩
abbrev main_call6_v0 : Ref sig .tc := ⟨.hbm, 161, rfl⟩
abbrev main_call6_call0_c : Ref sig .tc := ⟨.hbm, 162, rfl⟩
abbrev main_call6_call0_v0 : Ref sig .tc := ⟨.hbm, 163, rfl⟩
abbrev main_v63 : Ref sig .tc := ⟨.hbm, 164, rfl⟩
abbrev main_c_13 : Ref sig .tc := ⟨.hbm, 165, rfl⟩
abbrev main_v64 : Ref sig .tc := ⟨.hbm, 166, rfl⟩
abbrev main_v65 : Ref sig .tc := ⟨.hbm, 167, rfl⟩
abbrev main_c_14 : Ref sig .tc := ⟨.hbm, 168, rfl⟩
abbrev main_v66 : Ref sig .tc := ⟨.hbm, 169, rfl⟩
abbrev main_c_15 : Ref sig .tc := ⟨.hbm, 170, rfl⟩
abbrev main_v67 : Ref sig .tc := ⟨.hbm, 171, rfl⟩
abbrev main_v68 : Ref sig .tc := ⟨.hbm, 172, rfl⟩
abbrev main_c_16 : Ref sig .tc := ⟨.hbm, 173, rfl⟩
abbrev main_v69 : Ref sig .tc := ⟨.hbm, 174, rfl⟩
abbrev main_v70 : Ref sig .tc := ⟨.hbm, 175, rfl⟩
abbrev main_v71 : Ref sig .tc := ⟨.hbm, 176, rfl⟩
abbrev main_v72 : Ref sig .tc := ⟨.hbm, 177, rfl⟩
abbrev main_v73 : Ref sig .tc := ⟨.hbm, 178, rfl⟩
abbrev main_call7_c : Ref sig .tc := ⟨.hbm, 179, rfl⟩
abbrev main_call7_v0 : Ref sig .tc := ⟨.hbm, 180, rfl⟩
abbrev main_call7_v1 : Ref sig .tc := ⟨.hbm, 181, rfl⟩
abbrev main_call7_c_0 : Ref sig .tc := ⟨.hbm, 182, rfl⟩
abbrev main_call7_v2 : Ref sig .tc := ⟨.hbm, 183, rfl⟩
abbrev main_call7_v3 : Ref sig .tc := ⟨.hbm, 184, rfl⟩
abbrev main_call7_v4 : Ref sig .tc := ⟨.hbm, 185, rfl⟩
abbrev main_call7_v5 : Ref sig .tc := ⟨.hbm, 186, rfl⟩
abbrev main_call7_c_1 : Ref sig .tc := ⟨.hbm, 187, rfl⟩
abbrev main_call7_c_2 : Ref sig .tc := ⟨.hbm, 188, rfl⟩
abbrev main_call7_v6 : Ref sig .tc := ⟨.hbm, 189, rfl⟩
abbrev main_call7_v7 : Ref sig .tc := ⟨.hbm, 190, rfl⟩
abbrev main_call7_v8 : Ref sig .tc := ⟨.hbm, 191, rfl⟩
abbrev main_call7_v9 : Ref sig .tc := ⟨.hbm, 192, rfl⟩
abbrev main_call7_v10 : Ref sig .tc := ⟨.hbm, 193, rfl⟩
abbrev main_call7_v11 : Ref sig .tc := ⟨.hbm, 194, rfl⟩
abbrev main_call7_c_3 : Ref sig .tc := ⟨.hbm, 195, rfl⟩
abbrev main_call7_v12 : Ref sig .tc := ⟨.hbm, 196, rfl⟩
abbrev main_call7_v13 : Ref sig .tc := ⟨.hbm, 197, rfl⟩
abbrev main_call7_v14 : Ref sig .tc := ⟨.hbm, 198, rfl⟩
abbrev main_call7_cst : Ref sig .tc := ⟨.hbm, 199, rfl⟩
abbrev main_call7_v15 : Ref sig .tc := ⟨.hbm, 200, rfl⟩
abbrev main_v74 : Ref sig .tc := ⟨.hbm, 201, rfl⟩
abbrev main_call8_c : Ref sig .tc := ⟨.hbm, 202, rfl⟩
abbrev main_call8_v0 : Ref sig .tc := ⟨.hbm, 203, rfl⟩
abbrev main_call8_v1 : Ref sig .tc := ⟨.hbm, 204, rfl⟩
abbrev main_call8_c_0 : Ref sig .tc := ⟨.hbm, 205, rfl⟩
abbrev main_call8_v2 : Ref sig .tc := ⟨.hbm, 206, rfl⟩
abbrev main_call8_v3 : Ref sig .tc := ⟨.hbm, 207, rfl⟩
abbrev main_call8_v4 : Ref sig .tc := ⟨.hbm, 208, rfl⟩
abbrev main_call8_v5 : Ref sig .tc := ⟨.hbm, 209, rfl⟩
abbrev main_call8_c_1 : Ref sig .tc := ⟨.hbm, 210, rfl⟩
abbrev main_call8_c_2 : Ref sig .tc := ⟨.hbm, 211, rfl⟩
abbrev main_call8_v6 : Ref sig .tc := ⟨.hbm, 212, rfl⟩
abbrev main_call8_v7 : Ref sig .tc := ⟨.hbm, 213, rfl⟩
abbrev main_call8_v8 : Ref sig .tc := ⟨.hbm, 214, rfl⟩
abbrev main_call8_v9 : Ref sig .tc := ⟨.hbm, 215, rfl⟩
abbrev main_call8_v10 : Ref sig .tc := ⟨.hbm, 216, rfl⟩
abbrev main_call8_v11 : Ref sig .tc := ⟨.hbm, 217, rfl⟩
abbrev main_call8_c_3 : Ref sig .tc := ⟨.hbm, 218, rfl⟩
abbrev main_call8_v12 : Ref sig .tc := ⟨.hbm, 219, rfl⟩
abbrev main_call8_v13 : Ref sig .tc := ⟨.hbm, 220, rfl⟩
abbrev main_call8_v14 : Ref sig .tc := ⟨.hbm, 221, rfl⟩
abbrev main_call8_cst : Ref sig .tc := ⟨.hbm, 222, rfl⟩
abbrev main_call8_v15 : Ref sig .tc := ⟨.hbm, 223, rfl⟩
abbrev main_v75 : Ref sig .tc := ⟨.hbm, 224, rfl⟩
abbrev main_cst_17 : Ref sig .tc := ⟨.hbm, 225, rfl⟩
abbrev main_v76 : Ref sig .tc := ⟨.hbm, 226, rfl⟩
abbrev main_v77 : Ref sig .tc := ⟨.hbm, 227, rfl⟩
abbrev main_v78 : Ref sig .tc := ⟨.hbm, 228, rfl⟩
abbrev main_v79 : Ref sig .tc := ⟨.hbm, 229, rfl⟩
abbrev main_v80 : Ref sig .tc := ⟨.hbm, 230, rfl⟩
abbrev main_v81 : Ref sig .tc := ⟨.hbm, 231, rfl⟩
abbrev main_v82 : Ref sig .tc := ⟨.hbm, 232, rfl⟩
abbrev main_v83 : Ref sig .tc := ⟨.hbm, 233, rfl⟩
abbrev main_v84 : Ref sig .tc := ⟨.hbm, 234, rfl⟩
abbrev main_v85 : Ref sig .tc := ⟨.hbm, 235, rfl⟩
abbrev main_v86 : Ref sig .tc := ⟨.hbm, 236, rfl⟩
abbrev main_v87 : Ref sig .tc := ⟨.hbm, 237, rfl⟩
abbrev main_call9_c : Ref sig .tc := ⟨.hbm, 238, rfl⟩
abbrev main_call9_v0 : Ref sig .tc := ⟨.hbm, 239, rfl⟩
abbrev main_call9_v1 : Ref sig .tc := ⟨.hbm, 240, rfl⟩
abbrev main_call9_c_0 : Ref sig .tc := ⟨.hbm, 241, rfl⟩
abbrev main_call9_v2 : Ref sig .tc := ⟨.hbm, 242, rfl⟩
abbrev main_call9_v3 : Ref sig .tc := ⟨.hbm, 243, rfl⟩
abbrev main_call9_v4 : Ref sig .tc := ⟨.hbm, 244, rfl⟩
abbrev main_call9_v5 : Ref sig .tc := ⟨.hbm, 245, rfl⟩
abbrev main_call9_c_1 : Ref sig .tc := ⟨.hbm, 246, rfl⟩
abbrev main_call9_c_2 : Ref sig .tc := ⟨.hbm, 247, rfl⟩
abbrev main_call9_v6 : Ref sig .tc := ⟨.hbm, 248, rfl⟩
abbrev main_call9_v7 : Ref sig .tc := ⟨.hbm, 249, rfl⟩
abbrev main_call9_v8 : Ref sig .tc := ⟨.hbm, 250, rfl⟩
abbrev main_call9_v9 : Ref sig .tc := ⟨.hbm, 251, rfl⟩
abbrev main_call9_v10 : Ref sig .tc := ⟨.hbm, 252, rfl⟩
abbrev main_call9_v11 : Ref sig .tc := ⟨.hbm, 253, rfl⟩
abbrev main_call9_c_3 : Ref sig .tc := ⟨.hbm, 254, rfl⟩
abbrev main_call9_v12 : Ref sig .tc := ⟨.hbm, 255, rfl⟩
abbrev main_call9_v13 : Ref sig .tc := ⟨.hbm, 256, rfl⟩
abbrev main_call9_v14 : Ref sig .tc := ⟨.hbm, 257, rfl⟩
abbrev main_call9_cst : Ref sig .tc := ⟨.hbm, 258, rfl⟩
abbrev main_call9_v15 : Ref sig .tc := ⟨.hbm, 259, rfl⟩
abbrev main_v88 : Ref sig .tc := ⟨.hbm, 260, rfl⟩
abbrev main_cst_18 : Ref sig .tc := ⟨.hbm, 261, rfl⟩
abbrev main_v89 : Ref sig .tc := ⟨.hbm, 262, rfl⟩
abbrev main_v90 : Ref sig .tc := ⟨.hbm, 263, rfl⟩
abbrev main_v91 : Ref sig .tc := ⟨.hbm, 264, rfl⟩
abbrev main_v92 : Ref sig .tc := ⟨.hbm, 265, rfl⟩
abbrev main_v93 : Ref sig .tc := ⟨.hbm, 266, rfl⟩
abbrev main_v94 : Ref sig .tc := ⟨.hbm, 267, rfl⟩
abbrev main_v95 : Ref sig .tc := ⟨.hbm, 268, rfl⟩
abbrev main_v96 : Ref sig .tc := ⟨.hbm, 269, rfl⟩
abbrev main_v97 : Ref sig .tc := ⟨.hbm, 270, rfl⟩
abbrev main_v98 : Ref sig .tc := ⟨.hbm, 271, rfl⟩
abbrev main_v99 : Ref sig .tc := ⟨.hbm, 272, rfl⟩
abbrev main_v100 : Ref sig .tc := ⟨.hbm, 273, rfl⟩
abbrev main_v101 : Ref sig .tc := ⟨.hbm, 274, rfl⟩
abbrev main_v102 : Ref sig .tc := ⟨.hbm, 275, rfl⟩
abbrev main_v103 : Ref sig .tc := ⟨.hbm, 276, rfl⟩
abbrev main_v104 : Ref sig .tc := ⟨.hbm, 277, rfl⟩
abbrev main_v105 : Ref sig .tc := ⟨.hbm, 278, rfl⟩
abbrev main_v106 : Ref sig .tc := ⟨.hbm, 279, rfl⟩
abbrev main_v107 : Ref sig .tc := ⟨.hbm, 280, rfl⟩
abbrev main_v108 : Ref sig .tc := ⟨.hbm, 281, rfl⟩
abbrev main_v109 : Ref sig .tc := ⟨.hbm, 282, rfl⟩
abbrev main_v110 : Ref sig .tc := ⟨.hbm, 283, rfl⟩
abbrev main_cst_19 : Ref sig .tc := ⟨.hbm, 284, rfl⟩
abbrev main_v111 : Ref sig .tc := ⟨.hbm, 285, rfl⟩
abbrev main_v112 : Ref sig .tc := ⟨.hbm, 286, rfl⟩
abbrev main_cst_20 : Ref sig .tc := ⟨.hbm, 287, rfl⟩
abbrev main_v113 : Ref sig .tc := ⟨.hbm, 288, rfl⟩
abbrev main_v114 : Ref sig .tc := ⟨.hbm, 289, rfl⟩
abbrev main_c_21 : Ref sig .tc := ⟨.hbm, 290, rfl⟩
abbrev main_call10_cst : Ref sig .tc := ⟨.hbm, 291, rfl⟩
abbrev main_call10_v0 : Ref sig .tc := ⟨.hbm, 292, rfl⟩
abbrev main_call10_v1 : Ref sig .tc := ⟨.hbm, 293, rfl⟩
abbrev main_call10_cst_0 : Ref sig .tc := ⟨.hbm, 294, rfl⟩
abbrev main_call10_v2 : Ref sig .tc := ⟨.hbm, 295, rfl⟩
abbrev main_call10_v3 : Ref sig .tc := ⟨.hbm, 296, rfl⟩
abbrev main_call10_v4 : Ref sig .tc := ⟨.hbm, 297, rfl⟩
abbrev main_call10_v5 : Ref sig .tc := ⟨.hbm, 298, rfl⟩
abbrev main_call10_v6 : Ref sig .tc := ⟨.hbm, 299, rfl⟩
abbrev main_call10_v7 : Ref sig .tc := ⟨.hbm, 300, rfl⟩
abbrev main_call10_cst_1 : Ref sig .tc := ⟨.hbm, 301, rfl⟩
abbrev main_call10_v8 : Ref sig .tc := ⟨.hbm, 302, rfl⟩
abbrev main_call10_cst_2 : Ref sig .tc := ⟨.hbm, 303, rfl⟩
abbrev main_call10_v9 : Ref sig .tc := ⟨.hbm, 304, rfl⟩
abbrev main_call10_v10 : Ref sig .tc := ⟨.hbm, 305, rfl⟩
abbrev main_call10_v11 : Ref sig .tc := ⟨.hbm, 306, rfl⟩
abbrev main_call10_v12 : Ref sig .tc := ⟨.hbm, 307, rfl⟩
abbrev main_call10_cst_3 : Ref sig .tc := ⟨.hbm, 308, rfl⟩
abbrev main_call10_v13 : Ref sig .tc := ⟨.hbm, 309, rfl⟩
abbrev main_call10_cst_4 : Ref sig .tc := ⟨.hbm, 310, rfl⟩
abbrev main_call10_call0_v0 : Ref sig .tc := ⟨.hbm, 311, rfl⟩
abbrev main_call10_call0_v1 : Ref sig .tc := ⟨.hbm, 312, rfl⟩
abbrev main_v115 : Ref sig .tc := ⟨.hbm, 313, rfl⟩
abbrev main_v116 : Ref sig .tc := ⟨.hbm, 314, rfl⟩
abbrev main_v117 : Ref sig .tc := ⟨.hbm, 315, rfl⟩
abbrev main_cst_22 : Ref sig .tc := ⟨.hbm, 316, rfl⟩
abbrev main_v118 : Ref sig .tc := ⟨.hbm, 317, rfl⟩
abbrev main_v119 : Ref sig .tc := ⟨.hbm, 318, rfl⟩
abbrev main_v120 : Ref sig .tc := ⟨.hbm, 319, rfl⟩
abbrev main_v121 : Ref sig .tc := ⟨.hbm, 320, rfl⟩
abbrev main_v122 : Ref sig .tc := ⟨.hbm, 321, rfl⟩
abbrev main_v123 : Ref sig .tc := ⟨.hbm, 322, rfl⟩
abbrev main_v124 : Ref sig .tc := ⟨.hbm, 323, rfl⟩
abbrev main_v125 : Ref sig .tc := ⟨.hbm, 324, rfl⟩
abbrev main_v126 : Ref sig .tc := ⟨.hbm, 325, rfl⟩
abbrev main_v127 : Ref sig .tc := ⟨.hbm, 326, rfl⟩
abbrev main_v128 : Ref sig .tc := ⟨.hbm, 327, rfl⟩
abbrev main_call11_c : Ref sig .tc := ⟨.hbm, 328, rfl⟩
abbrev main_call11_v0 : Ref sig .tc := ⟨.hbm, 329, rfl⟩
abbrev main_call11_v1 : Ref sig .tc := ⟨.hbm, 330, rfl⟩
abbrev main_call11_c_0 : Ref sig .tc := ⟨.hbm, 331, rfl⟩
abbrev main_call11_v2 : Ref sig .tc := ⟨.hbm, 332, rfl⟩
abbrev main_call11_v3 : Ref sig .tc := ⟨.hbm, 333, rfl⟩
abbrev main_call11_v4 : Ref sig .tc := ⟨.hbm, 334, rfl⟩
abbrev main_call11_v5 : Ref sig .tc := ⟨.hbm, 335, rfl⟩
abbrev main_call11_c_1 : Ref sig .tc := ⟨.hbm, 336, rfl⟩
abbrev main_call11_c_2 : Ref sig .tc := ⟨.hbm, 337, rfl⟩
abbrev main_call11_v6 : Ref sig .tc := ⟨.hbm, 338, rfl⟩
abbrev main_call11_v7 : Ref sig .tc := ⟨.hbm, 339, rfl⟩
abbrev main_call11_v8 : Ref sig .tc := ⟨.hbm, 340, rfl⟩
abbrev main_call11_v9 : Ref sig .tc := ⟨.hbm, 341, rfl⟩
abbrev main_call11_v10 : Ref sig .tc := ⟨.hbm, 342, rfl⟩
abbrev main_call11_v11 : Ref sig .tc := ⟨.hbm, 343, rfl⟩
abbrev main_call11_c_3 : Ref sig .tc := ⟨.hbm, 344, rfl⟩
abbrev main_call11_v12 : Ref sig .tc := ⟨.hbm, 345, rfl⟩
abbrev main_call11_v13 : Ref sig .tc := ⟨.hbm, 346, rfl⟩
abbrev main_call11_v14 : Ref sig .tc := ⟨.hbm, 347, rfl⟩
abbrev main_call11_cst : Ref sig .tc := ⟨.hbm, 348, rfl⟩
abbrev main_call11_v15 : Ref sig .tc := ⟨.hbm, 349, rfl⟩
abbrev main_v129 : Ref sig .tc := ⟨.hbm, 350, rfl⟩
abbrev main_cst_23 : Ref sig .tc := ⟨.hbm, 351, rfl⟩
abbrev main_v130 : Ref sig .tc := ⟨.hbm, 352, rfl⟩
abbrev main_v131 : Ref sig .tc := ⟨.hbm, 353, rfl⟩
abbrev main_v132 : Ref sig .tc := ⟨.hbm, 354, rfl⟩
abbrev main_v133 : Ref sig .tc := ⟨.hbm, 355, rfl⟩
abbrev main_v134 : Ref sig .tc := ⟨.hbm, 356, rfl⟩
abbrev main_v135 : Ref sig .tc := ⟨.hbm, 357, rfl⟩
abbrev main_v136 : Ref sig .tc := ⟨.hbm, 358, rfl⟩
abbrev main_v137 : Ref sig .tc := ⟨.hbm, 359, rfl⟩
abbrev main_v138 : Ref sig .tc := ⟨.hbm, 360, rfl⟩
abbrev main_v139 : Ref sig .tc := ⟨.hbm, 361, rfl⟩
abbrev main_v140 : Ref sig .tc := ⟨.hbm, 362, rfl⟩
abbrev main_v141 : Ref sig .tc := ⟨.hbm, 363, rfl⟩
abbrev main_call12_c : Ref sig .tc := ⟨.hbm, 364, rfl⟩
abbrev main_call12_v0 : Ref sig .tc := ⟨.hbm, 365, rfl⟩
abbrev main_call12_v1 : Ref sig .tc := ⟨.hbm, 366, rfl⟩
abbrev main_call12_c_0 : Ref sig .tc := ⟨.hbm, 367, rfl⟩
abbrev main_call12_v2 : Ref sig .tc := ⟨.hbm, 368, rfl⟩
abbrev main_call12_v3 : Ref sig .tc := ⟨.hbm, 369, rfl⟩
abbrev main_call12_v4 : Ref sig .tc := ⟨.hbm, 370, rfl⟩
abbrev main_call12_v5 : Ref sig .tc := ⟨.hbm, 371, rfl⟩
abbrev main_call12_c_1 : Ref sig .tc := ⟨.hbm, 372, rfl⟩
abbrev main_call12_c_2 : Ref sig .tc := ⟨.hbm, 373, rfl⟩
abbrev main_call12_v6 : Ref sig .tc := ⟨.hbm, 374, rfl⟩
abbrev main_call12_v7 : Ref sig .tc := ⟨.hbm, 375, rfl⟩
abbrev main_call12_v8 : Ref sig .tc := ⟨.hbm, 376, rfl⟩
abbrev main_call12_v9 : Ref sig .tc := ⟨.hbm, 377, rfl⟩
abbrev main_call12_v10 : Ref sig .tc := ⟨.hbm, 378, rfl⟩
abbrev main_call12_v11 : Ref sig .tc := ⟨.hbm, 379, rfl⟩
abbrev main_call12_c_3 : Ref sig .tc := ⟨.hbm, 380, rfl⟩
abbrev main_call12_v12 : Ref sig .tc := ⟨.hbm, 381, rfl⟩
abbrev main_call12_v13 : Ref sig .tc := ⟨.hbm, 382, rfl⟩
abbrev main_call12_v14 : Ref sig .tc := ⟨.hbm, 383, rfl⟩
abbrev main_call12_cst : Ref sig .tc := ⟨.hbm, 384, rfl⟩
abbrev main_call12_v15 : Ref sig .tc := ⟨.hbm, 385, rfl⟩
abbrev main_v142 : Ref sig .tc := ⟨.hbm, 386, rfl⟩
abbrev main_cst_24 : Ref sig .tc := ⟨.hbm, 387, rfl⟩
abbrev main_v143 : Ref sig .tc := ⟨.hbm, 388, rfl⟩
abbrev main_v144 : Ref sig .tc := ⟨.hbm, 389, rfl⟩
abbrev main_v145 : Ref sig .tc := ⟨.hbm, 390, rfl⟩
abbrev main_v146 : Ref sig .tc := ⟨.hbm, 391, rfl⟩
abbrev main_v147 : Ref sig .tc := ⟨.hbm, 392, rfl⟩
abbrev main_v148 : Ref sig .tc := ⟨.hbm, 393, rfl⟩
abbrev main_v149 : Ref sig .tc := ⟨.hbm, 394, rfl⟩
abbrev main_v150 : Ref sig .tc := ⟨.hbm, 395, rfl⟩
abbrev main_v151 : Ref sig .tc := ⟨.hbm, 396, rfl⟩
abbrev main_v152 : Ref sig .tc := ⟨.hbm, 397, rfl⟩
abbrev main_v153 : Ref sig .tc := ⟨.hbm, 398, rfl⟩
abbrev main_v154 : Ref sig .tc := ⟨.hbm, 399, rfl⟩
abbrev main_v155 : Ref sig .tc := ⟨.hbm, 400, rfl⟩
abbrev main_v156 : Ref sig .tc := ⟨.hbm, 401, rfl⟩
abbrev main_v157 : Ref sig .tc := ⟨.hbm, 402, rfl⟩
abbrev main_v158 : Ref sig .tc := ⟨.hbm, 403, rfl⟩
abbrev main_v159 : Ref sig .tc := ⟨.hbm, 404, rfl⟩
abbrev main_v160 : Ref sig .tc := ⟨.hbm, 405, rfl⟩
abbrev main_v161 : Ref sig .tc := ⟨.hbm, 406, rfl⟩
abbrev main_v162 : Ref sig .tc := ⟨.hbm, 407, rfl⟩
abbrev main_v163 : Ref sig .tc := ⟨.hbm, 408, rfl⟩
abbrev main_v164 : Ref sig .tc := ⟨.hbm, 409, rfl⟩
abbrev main_cst_25 : Ref sig .tc := ⟨.hbm, 410, rfl⟩
abbrev main_v165 : Ref sig .tc := ⟨.hbm, 411, rfl⟩
abbrev main_v166 : Ref sig .tc := ⟨.hbm, 412, rfl⟩
abbrev main_cst_26 : Ref sig .tc := ⟨.hbm, 413, rfl⟩
abbrev main_v167 : Ref sig .tc := ⟨.hbm, 414, rfl⟩
abbrev main_v168 : Ref sig .tc := ⟨.hbm, 415, rfl⟩
abbrev main_c_27 : Ref sig .tc := ⟨.hbm, 416, rfl⟩
abbrev main_call13_cst : Ref sig .tc := ⟨.hbm, 417, rfl⟩
abbrev main_call13_v0 : Ref sig .tc := ⟨.hbm, 418, rfl⟩
abbrev main_call13_v1 : Ref sig .tc := ⟨.hbm, 419, rfl⟩
abbrev main_call13_cst_0 : Ref sig .tc := ⟨.hbm, 420, rfl⟩
abbrev main_call13_v2 : Ref sig .tc := ⟨.hbm, 421, rfl⟩
abbrev main_call13_v3 : Ref sig .tc := ⟨.hbm, 422, rfl⟩
abbrev main_call13_v4 : Ref sig .tc := ⟨.hbm, 423, rfl⟩
abbrev main_call13_v5 : Ref sig .tc := ⟨.hbm, 424, rfl⟩
abbrev main_call13_v6 : Ref sig .tc := ⟨.hbm, 425, rfl⟩
abbrev main_call13_v7 : Ref sig .tc := ⟨.hbm, 426, rfl⟩
abbrev main_call13_cst_1 : Ref sig .tc := ⟨.hbm, 427, rfl⟩
abbrev main_call13_v8 : Ref sig .tc := ⟨.hbm, 428, rfl⟩
abbrev main_call13_cst_2 : Ref sig .tc := ⟨.hbm, 429, rfl⟩
abbrev main_call13_v9 : Ref sig .tc := ⟨.hbm, 430, rfl⟩
abbrev main_call13_v10 : Ref sig .tc := ⟨.hbm, 431, rfl⟩
abbrev main_call13_v11 : Ref sig .tc := ⟨.hbm, 432, rfl⟩
abbrev main_call13_v12 : Ref sig .tc := ⟨.hbm, 433, rfl⟩
abbrev main_call13_cst_3 : Ref sig .tc := ⟨.hbm, 434, rfl⟩
abbrev main_call13_v13 : Ref sig .tc := ⟨.hbm, 435, rfl⟩
abbrev main_call13_cst_4 : Ref sig .tc := ⟨.hbm, 436, rfl⟩
abbrev main_call13_call0_v0 : Ref sig .tc := ⟨.hbm, 437, rfl⟩
abbrev main_call13_call0_v1 : Ref sig .tc := ⟨.hbm, 438, rfl⟩
abbrev main_v169 : Ref sig .tc := ⟨.hbm, 439, rfl⟩
abbrev main_v170 : Ref sig .tc := ⟨.hbm, 440, rfl⟩
abbrev main_v171 : Ref sig .tc := ⟨.hbm, 441, rfl⟩
abbrev main_cst_28 : Ref sig .tc := ⟨.hbm, 442, rfl⟩
abbrev main_v172 : Ref sig .tc := ⟨.hbm, 443, rfl⟩
abbrev main_v173 : Ref sig .tc := ⟨.hbm, 444, rfl⟩
abbrev main_v174 : Ref sig .tc := ⟨.hbm, 445, rfl⟩
abbrev main_v175 : Ref sig .tc := ⟨.hbm, 446, rfl⟩
abbrev main_v176 : Ref sig .tc := ⟨.hbm, 447, rfl⟩
abbrev main_v177 : Ref sig .tc := ⟨.hbm, 448, rfl⟩
abbrev main_v178 : Ref sig .tc := ⟨.hbm, 449, rfl⟩
abbrev main_v179 : Ref sig .tc := ⟨.hbm, 450, rfl⟩
abbrev main_v180 : Ref sig .tc := ⟨.hbm, 451, rfl⟩
abbrev main_v181 : Ref sig .tc := ⟨.hbm, 452, rfl⟩
abbrev main_v182 : Ref sig .tc := ⟨.hbm, 453, rfl⟩
abbrev main_call14_c : Ref sig .tc := ⟨.hbm, 454, rfl⟩
abbrev main_call14_v0 : Ref sig .tc := ⟨.hbm, 455, rfl⟩
abbrev main_call14_v1 : Ref sig .tc := ⟨.hbm, 456, rfl⟩
abbrev main_call14_c_0 : Ref sig .tc := ⟨.hbm, 457, rfl⟩
abbrev main_call14_v2 : Ref sig .tc := ⟨.hbm, 458, rfl⟩
abbrev main_call14_v3 : Ref sig .tc := ⟨.hbm, 459, rfl⟩
abbrev main_call14_v4 : Ref sig .tc := ⟨.hbm, 460, rfl⟩
abbrev main_call14_v5 : Ref sig .tc := ⟨.hbm, 461, rfl⟩
abbrev main_call14_c_1 : Ref sig .tc := ⟨.hbm, 462, rfl⟩
abbrev main_call14_c_2 : Ref sig .tc := ⟨.hbm, 463, rfl⟩
abbrev main_call14_v6 : Ref sig .tc := ⟨.hbm, 464, rfl⟩
abbrev main_call14_v7 : Ref sig .tc := ⟨.hbm, 465, rfl⟩
abbrev main_call14_v8 : Ref sig .tc := ⟨.hbm, 466, rfl⟩
abbrev main_call14_v9 : Ref sig .tc := ⟨.hbm, 467, rfl⟩
abbrev main_call14_v10 : Ref sig .tc := ⟨.hbm, 468, rfl⟩
abbrev main_call14_v11 : Ref sig .tc := ⟨.hbm, 469, rfl⟩
abbrev main_call14_c_3 : Ref sig .tc := ⟨.hbm, 470, rfl⟩
abbrev main_call14_v12 : Ref sig .tc := ⟨.hbm, 471, rfl⟩
abbrev main_call14_v13 : Ref sig .tc := ⟨.hbm, 472, rfl⟩
abbrev main_call14_v14 : Ref sig .tc := ⟨.hbm, 473, rfl⟩
abbrev main_call14_cst : Ref sig .tc := ⟨.hbm, 474, rfl⟩
abbrev main_call14_v15 : Ref sig .tc := ⟨.hbm, 475, rfl⟩
abbrev main_v183 : Ref sig .tc := ⟨.hbm, 476, rfl⟩
abbrev main_cst_29 : Ref sig .tc := ⟨.hbm, 477, rfl⟩
abbrev main_v184 : Ref sig .tc := ⟨.hbm, 478, rfl⟩
abbrev main_v185 : Ref sig .tc := ⟨.hbm, 479, rfl⟩
abbrev main_v186 : Ref sig .tc := ⟨.hbm, 480, rfl⟩
abbrev main_v187 : Ref sig .tc := ⟨.hbm, 481, rfl⟩
abbrev main_v188 : Ref sig .tc := ⟨.hbm, 482, rfl⟩
abbrev main_v189 : Ref sig .tc := ⟨.hbm, 483, rfl⟩
abbrev main_v190 : Ref sig .tc := ⟨.hbm, 484, rfl⟩
abbrev main_v191 : Ref sig .tc := ⟨.hbm, 485, rfl⟩
abbrev main_v192 : Ref sig .tc := ⟨.hbm, 486, rfl⟩
abbrev main_v193 : Ref sig .tc := ⟨.hbm, 487, rfl⟩
abbrev main_v194 : Ref sig .tc := ⟨.hbm, 488, rfl⟩
abbrev main_v195 : Ref sig .tc := ⟨.hbm, 489, rfl⟩
abbrev main_call15_c : Ref sig .tc := ⟨.hbm, 490, rfl⟩
abbrev main_call15_v0 : Ref sig .tc := ⟨.hbm, 491, rfl⟩
abbrev main_call15_v1 : Ref sig .tc := ⟨.hbm, 492, rfl⟩
abbrev main_call15_c_0 : Ref sig .tc := ⟨.hbm, 493, rfl⟩
abbrev main_call15_v2 : Ref sig .tc := ⟨.hbm, 494, rfl⟩
abbrev main_call15_v3 : Ref sig .tc := ⟨.hbm, 495, rfl⟩
abbrev main_call15_v4 : Ref sig .tc := ⟨.hbm, 496, rfl⟩
abbrev main_call15_v5 : Ref sig .tc := ⟨.hbm, 497, rfl⟩
abbrev main_call15_c_1 : Ref sig .tc := ⟨.hbm, 498, rfl⟩
abbrev main_call15_c_2 : Ref sig .tc := ⟨.hbm, 499, rfl⟩
abbrev main_call15_v6 : Ref sig .tc := ⟨.hbm, 500, rfl⟩
abbrev main_call15_v7 : Ref sig .tc := ⟨.hbm, 501, rfl⟩
abbrev main_call15_v8 : Ref sig .tc := ⟨.hbm, 502, rfl⟩
abbrev main_call15_v9 : Ref sig .tc := ⟨.hbm, 503, rfl⟩
abbrev main_call15_v10 : Ref sig .tc := ⟨.hbm, 504, rfl⟩
abbrev main_call15_v11 : Ref sig .tc := ⟨.hbm, 505, rfl⟩
abbrev main_call15_c_3 : Ref sig .tc := ⟨.hbm, 506, rfl⟩
abbrev main_call15_v12 : Ref sig .tc := ⟨.hbm, 507, rfl⟩
abbrev main_call15_v13 : Ref sig .tc := ⟨.hbm, 508, rfl⟩
abbrev main_call15_v14 : Ref sig .tc := ⟨.hbm, 509, rfl⟩
abbrev main_call15_cst : Ref sig .tc := ⟨.hbm, 510, rfl⟩
abbrev main_call15_v15 : Ref sig .tc := ⟨.hbm, 511, rfl⟩
abbrev main_v196 : Ref sig .tc := ⟨.hbm, 512, rfl⟩
abbrev main_cst_30 : Ref sig .tc := ⟨.hbm, 513, rfl⟩
abbrev main_v197 : Ref sig .tc := ⟨.hbm, 514, rfl⟩
abbrev main_v198 : Ref sig .tc := ⟨.hbm, 515, rfl⟩
abbrev main_v199 : Ref sig .tc := ⟨.hbm, 516, rfl⟩
abbrev main_v200 : Ref sig .tc := ⟨.hbm, 517, rfl⟩
abbrev main_v201 : Ref sig .tc := ⟨.hbm, 518, rfl⟩
abbrev main_v202 : Ref sig .tc := ⟨.hbm, 519, rfl⟩
abbrev main_v203 : Ref sig .tc := ⟨.hbm, 520, rfl⟩
abbrev main_v204 : Ref sig .tc := ⟨.hbm, 521, rfl⟩
abbrev main_v205 : Ref sig .tc := ⟨.hbm, 522, rfl⟩
abbrev main_v206 : Ref sig .tc := ⟨.hbm, 523, rfl⟩
abbrev main_v207 : Ref sig .tc := ⟨.hbm, 524, rfl⟩
abbrev main_v208 : Ref sig .tc := ⟨.hbm, 525, rfl⟩
abbrev main_v209 : Ref sig .tc := ⟨.hbm, 526, rfl⟩
abbrev main_v210 : Ref sig .tc := ⟨.hbm, 527, rfl⟩
abbrev main_v211 : Ref sig .tc := ⟨.hbm, 528, rfl⟩
abbrev main_v212 : Ref sig .tc := ⟨.hbm, 529, rfl⟩
abbrev main_v213 : Ref sig .tc := ⟨.hbm, 530, rfl⟩
abbrev main_v214 : Ref sig .tc := ⟨.hbm, 531, rfl⟩
abbrev main_v215 : Ref sig .tc := ⟨.hbm, 532, rfl⟩
abbrev main_v216 : Ref sig .tc := ⟨.hbm, 533, rfl⟩
abbrev main_v217 : Ref sig .tc := ⟨.hbm, 534, rfl⟩
abbrev main_v218 : Ref sig .tc := ⟨.hbm, 535, rfl⟩
abbrev main_cst_31 : Ref sig .tc := ⟨.hbm, 536, rfl⟩
abbrev main_v219 : Ref sig .tc := ⟨.hbm, 537, rfl⟩
abbrev main_v220 : Ref sig .tc := ⟨.hbm, 538, rfl⟩
abbrev main_cst_32 : Ref sig .tc := ⟨.hbm, 539, rfl⟩
abbrev main_v221 : Ref sig .tc := ⟨.hbm, 540, rfl⟩
abbrev main_v222 : Ref sig .tc := ⟨.hbm, 541, rfl⟩
abbrev main_c_33 : Ref sig .tc := ⟨.hbm, 542, rfl⟩
abbrev main_call16_cst : Ref sig .tc := ⟨.hbm, 543, rfl⟩
abbrev main_call16_v0 : Ref sig .tc := ⟨.hbm, 544, rfl⟩
abbrev main_call16_v1 : Ref sig .tc := ⟨.hbm, 545, rfl⟩
abbrev main_call16_cst_0 : Ref sig .tc := ⟨.hbm, 546, rfl⟩
abbrev main_call16_v2 : Ref sig .tc := ⟨.hbm, 547, rfl⟩
abbrev main_call16_v3 : Ref sig .tc := ⟨.hbm, 548, rfl⟩
abbrev main_call16_v4 : Ref sig .tc := ⟨.hbm, 549, rfl⟩
abbrev main_call16_v5 : Ref sig .tc := ⟨.hbm, 550, rfl⟩
abbrev main_call16_v6 : Ref sig .tc := ⟨.hbm, 551, rfl⟩
abbrev main_call16_v7 : Ref sig .tc := ⟨.hbm, 552, rfl⟩
abbrev main_call16_cst_1 : Ref sig .tc := ⟨.hbm, 553, rfl⟩
abbrev main_call16_v8 : Ref sig .tc := ⟨.hbm, 554, rfl⟩
abbrev main_call16_cst_2 : Ref sig .tc := ⟨.hbm, 555, rfl⟩
abbrev main_call16_v9 : Ref sig .tc := ⟨.hbm, 556, rfl⟩
abbrev main_call16_v10 : Ref sig .tc := ⟨.hbm, 557, rfl⟩
abbrev main_call16_v11 : Ref sig .tc := ⟨.hbm, 558, rfl⟩
abbrev main_call16_v12 : Ref sig .tc := ⟨.hbm, 559, rfl⟩
abbrev main_call16_cst_3 : Ref sig .tc := ⟨.hbm, 560, rfl⟩
abbrev main_call16_v13 : Ref sig .tc := ⟨.hbm, 561, rfl⟩
abbrev main_call16_cst_4 : Ref sig .tc := ⟨.hbm, 562, rfl⟩
abbrev main_call16_call0_v0 : Ref sig .tc := ⟨.hbm, 563, rfl⟩
abbrev main_call16_call0_v1 : Ref sig .tc := ⟨.hbm, 564, rfl⟩
abbrev main_v223 : Ref sig .tc := ⟨.hbm, 565, rfl⟩
abbrev main_v224 : Ref sig .tc := ⟨.hbm, 566, rfl⟩
abbrev main_v225 : Ref sig .tc := ⟨.hbm, 567, rfl⟩
abbrev main_cst_34 : Ref sig .tc := ⟨.hbm, 568, rfl⟩
abbrev main_v226 : Ref sig .tc := ⟨.hbm, 569, rfl⟩
abbrev main_v227 : Ref sig .tc := ⟨.hbm, 570, rfl⟩
abbrev main_v228 : Ref sig .tc := ⟨.hbm, 571, rfl⟩
abbrev main_v229 : Ref sig .tc := ⟨.hbm, 572, rfl⟩
abbrev main_v230 : Ref sig .tc := ⟨.hbm, 573, rfl⟩
abbrev main_v231 : Ref sig .tc := ⟨.hbm, 574, rfl⟩
abbrev main_v232 : Ref sig .tc := ⟨.hbm, 575, rfl⟩
abbrev main_v233 : Ref sig .tc := ⟨.hbm, 576, rfl⟩
abbrev main_v234 : Ref sig .tc := ⟨.hbm, 577, rfl⟩
abbrev main_v235 : Ref sig .tc := ⟨.hbm, 578, rfl⟩
abbrev main_v236 : Ref sig .tc := ⟨.hbm, 579, rfl⟩
abbrev main_call17_c : Ref sig .tc := ⟨.hbm, 580, rfl⟩
abbrev main_call17_v0 : Ref sig .tc := ⟨.hbm, 581, rfl⟩
abbrev main_call17_v1 : Ref sig .tc := ⟨.hbm, 582, rfl⟩
abbrev main_call17_c_0 : Ref sig .tc := ⟨.hbm, 583, rfl⟩
abbrev main_call17_v2 : Ref sig .tc := ⟨.hbm, 584, rfl⟩
abbrev main_call17_v3 : Ref sig .tc := ⟨.hbm, 585, rfl⟩
abbrev main_call17_v4 : Ref sig .tc := ⟨.hbm, 586, rfl⟩
abbrev main_call17_v5 : Ref sig .tc := ⟨.hbm, 587, rfl⟩
abbrev main_call17_c_1 : Ref sig .tc := ⟨.hbm, 588, rfl⟩
abbrev main_call17_c_2 : Ref sig .tc := ⟨.hbm, 589, rfl⟩
abbrev main_call17_v6 : Ref sig .tc := ⟨.hbm, 590, rfl⟩
abbrev main_call17_v7 : Ref sig .tc := ⟨.hbm, 591, rfl⟩
abbrev main_call17_v8 : Ref sig .tc := ⟨.hbm, 592, rfl⟩
abbrev main_call17_v9 : Ref sig .tc := ⟨.hbm, 593, rfl⟩
abbrev main_call17_v10 : Ref sig .tc := ⟨.hbm, 594, rfl⟩
abbrev main_call17_v11 : Ref sig .tc := ⟨.hbm, 595, rfl⟩
abbrev main_call17_c_3 : Ref sig .tc := ⟨.hbm, 596, rfl⟩
abbrev main_call17_v12 : Ref sig .tc := ⟨.hbm, 597, rfl⟩
abbrev main_call17_v13 : Ref sig .tc := ⟨.hbm, 598, rfl⟩
abbrev main_call17_v14 : Ref sig .tc := ⟨.hbm, 599, rfl⟩
abbrev main_call17_cst : Ref sig .tc := ⟨.hbm, 600, rfl⟩
abbrev main_call17_v15 : Ref sig .tc := ⟨.hbm, 601, rfl⟩
abbrev main_v237 : Ref sig .tc := ⟨.hbm, 602, rfl⟩
abbrev main_cst_35 : Ref sig .tc := ⟨.hbm, 603, rfl⟩
abbrev main_v238 : Ref sig .tc := ⟨.hbm, 604, rfl⟩
abbrev main_v239 : Ref sig .tc := ⟨.hbm, 605, rfl⟩
abbrev main_v240 : Ref sig .tc := ⟨.hbm, 606, rfl⟩
abbrev main_v241 : Ref sig .tc := ⟨.hbm, 607, rfl⟩
abbrev main_v242 : Ref sig .tc := ⟨.hbm, 608, rfl⟩
abbrev main_v243 : Ref sig .tc := ⟨.hbm, 609, rfl⟩
abbrev main_v244 : Ref sig .tc := ⟨.hbm, 610, rfl⟩
abbrev main_v245 : Ref sig .tc := ⟨.hbm, 611, rfl⟩
abbrev main_v246 : Ref sig .tc := ⟨.hbm, 612, rfl⟩
abbrev main_v247 : Ref sig .tc := ⟨.hbm, 613, rfl⟩
abbrev main_v248 : Ref sig .tc := ⟨.hbm, 614, rfl⟩
abbrev main_v249 : Ref sig .tc := ⟨.hbm, 615, rfl⟩
abbrev main_call18_c : Ref sig .tc := ⟨.hbm, 616, rfl⟩
abbrev main_call18_v0 : Ref sig .tc := ⟨.hbm, 617, rfl⟩
abbrev main_call18_v1 : Ref sig .tc := ⟨.hbm, 618, rfl⟩
abbrev main_call18_c_0 : Ref sig .tc := ⟨.hbm, 619, rfl⟩
abbrev main_call18_v2 : Ref sig .tc := ⟨.hbm, 620, rfl⟩
abbrev main_call18_v3 : Ref sig .tc := ⟨.hbm, 621, rfl⟩
abbrev main_call18_v4 : Ref sig .tc := ⟨.hbm, 622, rfl⟩
abbrev main_call18_v5 : Ref sig .tc := ⟨.hbm, 623, rfl⟩
abbrev main_call18_c_1 : Ref sig .tc := ⟨.hbm, 624, rfl⟩
abbrev main_call18_c_2 : Ref sig .tc := ⟨.hbm, 625, rfl⟩
abbrev main_call18_v6 : Ref sig .tc := ⟨.hbm, 626, rfl⟩
abbrev main_call18_v7 : Ref sig .tc := ⟨.hbm, 627, rfl⟩
abbrev main_call18_v8 : Ref sig .tc := ⟨.hbm, 628, rfl⟩
abbrev main_call18_v9 : Ref sig .tc := ⟨.hbm, 629, rfl⟩
abbrev main_call18_v10 : Ref sig .tc := ⟨.hbm, 630, rfl⟩
abbrev main_call18_v11 : Ref sig .tc := ⟨.hbm, 631, rfl⟩
abbrev main_call18_c_3 : Ref sig .tc := ⟨.hbm, 632, rfl⟩
abbrev main_call18_v12 : Ref sig .tc := ⟨.hbm, 633, rfl⟩
abbrev main_call18_v13 : Ref sig .tc := ⟨.hbm, 634, rfl⟩
abbrev main_call18_v14 : Ref sig .tc := ⟨.hbm, 635, rfl⟩
abbrev main_call18_cst : Ref sig .tc := ⟨.hbm, 636, rfl⟩
abbrev main_call18_v15 : Ref sig .tc := ⟨.hbm, 637, rfl⟩
abbrev main_v250 : Ref sig .tc := ⟨.hbm, 638, rfl⟩
abbrev main_cst_36 : Ref sig .tc := ⟨.hbm, 639, rfl⟩
abbrev main_v251 : Ref sig .tc := ⟨.hbm, 640, rfl⟩
abbrev main_v252 : Ref sig .tc := ⟨.hbm, 641, rfl⟩
abbrev main_v253 : Ref sig .tc := ⟨.hbm, 642, rfl⟩
abbrev main_v254 : Ref sig .tc := ⟨.hbm, 643, rfl⟩
abbrev main_v255 : Ref sig .tc := ⟨.hbm, 644, rfl⟩
abbrev main_v256 : Ref sig .tc := ⟨.hbm, 645, rfl⟩
abbrev main_v257 : Ref sig .tc := ⟨.hbm, 646, rfl⟩
abbrev main_v258 : Ref sig .tc := ⟨.hbm, 647, rfl⟩
abbrev main_v259 : Ref sig .tc := ⟨.hbm, 648, rfl⟩
abbrev main_v260 : Ref sig .tc := ⟨.hbm, 649, rfl⟩
abbrev main_v261 : Ref sig .tc := ⟨.hbm, 650, rfl⟩
abbrev main_v262 : Ref sig .tc := ⟨.hbm, 651, rfl⟩
abbrev main_v263 : Ref sig .tc := ⟨.hbm, 652, rfl⟩
abbrev main_v264 : Ref sig .tc := ⟨.hbm, 653, rfl⟩
abbrev main_v265 : Ref sig .tc := ⟨.hbm, 654, rfl⟩
abbrev main_v266 : Ref sig .tc := ⟨.hbm, 655, rfl⟩
abbrev main_v267 : Ref sig .tc := ⟨.hbm, 656, rfl⟩
abbrev main_v268 : Ref sig .tc := ⟨.hbm, 657, rfl⟩
abbrev main_v269 : Ref sig .tc := ⟨.hbm, 658, rfl⟩
abbrev main_v270 : Ref sig .tc := ⟨.hbm, 659, rfl⟩
abbrev main_v271 : Ref sig .tc := ⟨.hbm, 660, rfl⟩
abbrev main_v272 : Ref sig .tc := ⟨.hbm, 661, rfl⟩
abbrev main_cst_37 : Ref sig .tc := ⟨.hbm, 662, rfl⟩
abbrev main_v273 : Ref sig .tc := ⟨.hbm, 663, rfl⟩
abbrev main_v274 : Ref sig .tc := ⟨.hbm, 664, rfl⟩
abbrev main_cst_38 : Ref sig .tc := ⟨.hbm, 665, rfl⟩
abbrev main_v275 : Ref sig .tc := ⟨.hbm, 666, rfl⟩
abbrev main_v276 : Ref sig .tc := ⟨.hbm, 667, rfl⟩
abbrev main_c_39 : Ref sig .tc := ⟨.hbm, 668, rfl⟩
abbrev main_call19_cst : Ref sig .tc := ⟨.hbm, 669, rfl⟩
abbrev main_call19_v0 : Ref sig .tc := ⟨.hbm, 670, rfl⟩
abbrev main_call19_v1 : Ref sig .tc := ⟨.hbm, 671, rfl⟩
abbrev main_call19_cst_0 : Ref sig .tc := ⟨.hbm, 672, rfl⟩
abbrev main_call19_v2 : Ref sig .tc := ⟨.hbm, 673, rfl⟩
abbrev main_call19_v3 : Ref sig .tc := ⟨.hbm, 674, rfl⟩
abbrev main_call19_v4 : Ref sig .tc := ⟨.hbm, 675, rfl⟩
abbrev main_call19_v5 : Ref sig .tc := ⟨.hbm, 676, rfl⟩
abbrev main_call19_v6 : Ref sig .tc := ⟨.hbm, 677, rfl⟩
abbrev main_call19_v7 : Ref sig .tc := ⟨.hbm, 678, rfl⟩
abbrev main_call19_cst_1 : Ref sig .tc := ⟨.hbm, 679, rfl⟩
abbrev main_call19_v8 : Ref sig .tc := ⟨.hbm, 680, rfl⟩
abbrev main_call19_cst_2 : Ref sig .tc := ⟨.hbm, 681, rfl⟩
abbrev main_call19_v9 : Ref sig .tc := ⟨.hbm, 682, rfl⟩
abbrev main_call19_v10 : Ref sig .tc := ⟨.hbm, 683, rfl⟩
abbrev main_call19_v11 : Ref sig .tc := ⟨.hbm, 684, rfl⟩
abbrev main_call19_v12 : Ref sig .tc := ⟨.hbm, 685, rfl⟩
abbrev main_call19_cst_3 : Ref sig .tc := ⟨.hbm, 686, rfl⟩
abbrev main_call19_v13 : Ref sig .tc := ⟨.hbm, 687, rfl⟩
abbrev main_call19_cst_4 : Ref sig .tc := ⟨.hbm, 688, rfl⟩
abbrev main_call19_call0_v0 : Ref sig .tc := ⟨.hbm, 689, rfl⟩
abbrev main_call19_call0_v1 : Ref sig .tc := ⟨.hbm, 690, rfl⟩
abbrev main_v277 : Ref sig .tc := ⟨.hbm, 691, rfl⟩
abbrev main_v278 : Ref sig .tc := ⟨.hbm, 692, rfl⟩
abbrev main_v279 : Ref sig .tc := ⟨.hbm, 693, rfl⟩
abbrev main_cst_40 : Ref sig .tc := ⟨.hbm, 694, rfl⟩
abbrev main_v280 : Ref sig .tc := ⟨.hbm, 695, rfl⟩
abbrev main_v281 : Ref sig .tc := ⟨.hbm, 696, rfl⟩
abbrev main_v282 : Ref sig .tc := ⟨.hbm, 697, rfl⟩
abbrev main_v283 : Ref sig .tc := ⟨.hbm, 698, rfl⟩
abbrev main_v284 : Ref sig .tc := ⟨.hbm, 699, rfl⟩
abbrev main_v285 : Ref sig .tc := ⟨.hbm, 700, rfl⟩
abbrev main_v286 : Ref sig .tc := ⟨.hbm, 701, rfl⟩
abbrev main_v287 : Ref sig .tc := ⟨.hbm, 702, rfl⟩
abbrev main_v288 : Ref sig .tc := ⟨.hbm, 703, rfl⟩
abbrev main_v289 : Ref sig .tc := ⟨.hbm, 704, rfl⟩
abbrev main_v290 : Ref sig .tc := ⟨.hbm, 705, rfl⟩
abbrev main_v291 : Ref sig .tc := ⟨.hbm, 706, rfl⟩
abbrev main_cst_41 : Ref sig .tc := ⟨.hbm, 707, rfl⟩
abbrev main_v292 : Ref sig .tc := ⟨.hbm, 708, rfl⟩
abbrev main_v293 : Ref sig .tc := ⟨.hbm, 709, rfl⟩
abbrev main_cst_42 : Ref sig .tc := ⟨.hbm, 710, rfl⟩
abbrev main_v294 : Ref sig .tc := ⟨.hbm, 711, rfl⟩
abbrev main_v295 : Ref sig .tc := ⟨.hbm, 712, rfl⟩
abbrev main_v296 : Ref sig .tc := ⟨.hbm, 713, rfl⟩
abbrev main_call21_c : Ref sig .tc := ⟨.hbm, 714, rfl⟩
abbrev main_call21_v0 : Ref sig .tc := ⟨.hbm, 715, rfl⟩
abbrev main_call21_v1 : Ref sig .tc := ⟨.hbm, 716, rfl⟩
abbrev main_call21_c_0 : Ref sig .tc := ⟨.hbm, 717, rfl⟩
abbrev main_call21_v2 : Ref sig .tc := ⟨.hbm, 718, rfl⟩
abbrev main_call21_v3 : Ref sig .tc := ⟨.hbm, 719, rfl⟩
abbrev main_call21_v4 : Ref sig .tc := ⟨.hbm, 720, rfl⟩
abbrev main_call21_v5 : Ref sig .tc := ⟨.hbm, 721, rfl⟩
abbrev main_call21_c_1 : Ref sig .tc := ⟨.hbm, 722, rfl⟩
abbrev main_call21_c_2 : Ref sig .tc := ⟨.hbm, 723, rfl⟩
abbrev main_call21_v6 : Ref sig .tc := ⟨.hbm, 724, rfl⟩
abbrev main_call21_v7 : Ref sig .tc := ⟨.hbm, 725, rfl⟩
abbrev main_call21_v8 : Ref sig .tc := ⟨.hbm, 726, rfl⟩
abbrev main_call21_v9 : Ref sig .tc := ⟨.hbm, 727, rfl⟩
abbrev main_call21_v10 : Ref sig .tc := ⟨.hbm, 728, rfl⟩
abbrev main_call21_v11 : Ref sig .tc := ⟨.hbm, 729, rfl⟩
abbrev main_call21_c_3 : Ref sig .tc := ⟨.hbm, 730, rfl⟩
abbrev main_call21_v12 : Ref sig .tc := ⟨.hbm, 731, rfl⟩
abbrev main_call21_v13 : Ref sig .tc := ⟨.hbm, 732, rfl⟩
abbrev main_call21_v14 : Ref sig .tc := ⟨.hbm, 733, rfl⟩
abbrev main_call21_cst : Ref sig .tc := ⟨.hbm, 734, rfl⟩
abbrev main_call21_v15 : Ref sig .tc := ⟨.hbm, 735, rfl⟩
abbrev main_v297 : Ref sig .tc := ⟨.hbm, 736, rfl⟩

abbrev nD : Nat := 1
abbrev τ : Topo := Topo.v7x

variable {F : FTy → Type} [FloatOps F]
-- ==== Proof.Same.lean ====
/-
  The kernel printed in bits and the kernel printed for the extended reals are the same program, procedure by procedure.
-/
module

public import proofs.«01_k».proof.Proof.Gen.Kernel
public import proofs.«01_k».proof.Proof.Gen.KernelIdeal

@[expose] public section

noncomputable section

namespace Cert.Proof

open Idealize.ShloMosaic

variable {F : FTy → Type} [FloatOps F]

theorem procs_count (c s a) : Cert.Kernel.defs₀ (F := F) (.scVector c s) (0 : Fin 2) a = Cert.KernelIdeal.defs₀ (F := F) (.scVector c s) (0 : Fin 2) a := rfl
theorem procs_scv (c s a) : Cert.Kernel.defs₀ (F := F) (.scVector c s) (1 : Fin 2) a = Cert.KernelIdeal.defs₀ (F := F) (.scVector c s) (1 : Fin 2) a := rfl
theorem procs_dense (t s) : Cert.Kernel.defs₀ (F := F) .tc (1 : Fin 2) (t, s) = Cert.KernelIdeal.defs₀ (F := F) .tc (1 : Fin 2) (t, s) := rfl
theorem procs_tc (a) : Cert.Kernel.defs₀ (F := F) .tc (0 : Fin 2) a = Cert.KernelIdeal.defs₀ (F := F) .tc (0 : Fin 2) a := rfl
theorem procs_scs (c a) : Cert.Kernel.defs₀ (F := F) (.scScalar c) (0 : Fin 2) a = Cert.KernelIdeal.defs₀ (F := F) (.scScalar c) (0 : Fin 2) a := rfl
theorem procs_scs' (c a) : Cert.Kernel.defs₀ (F := F) (.scScalar c) (1 : Fin 2) a = Cert.KernelIdeal.defs₀ (F := F) (.scScalar c) (1 : Fin 2) a := rfl

set_option maxHeartbeats 2000000 in
/-- The same procedures. -/
theorem procs_same : Cert.Kernel.defs₀ (F := F) = Cert.KernelIdeal.defs₀ (F := F) := by
  funext p ℓ a
  match p, ℓ, a with
  | .scVector c s, 0, a => exact procs_count c s a
  | .scVector c s, 1, a => exact procs_scv c s a
  | .tc, 1, (t, s) => exact procs_dense t s
  | .tc, 0, a => exact procs_tc a
  | .scScalar c, 0, a => exact procs_scs c a
  | .scScalar c, 1, a => exact procs_scs' c a

/-- The same procedures, with those of the launch and of the staging of the dense call's blocks. -/
theorem defs_same : Cert.Kernel.defs (F := F) = Cert.KernelIdeal.defs (F := F) :=
  congrArg (fun D => Cert.KernelIdeal.sc.defs (Pipeline.defs Cert.KernelIdeal.pcfgs D)) procs_same

/-- The same threads. -/
theorem threads_same : Cert.Kernel.threads (F := F) = Cert.KernelIdeal.threads (F := F) := rfl

end Cert.Proof

end
-- ==== Proof.Base.lean ====
/-
  The names that the modules about the counting call share: the program as the launch theorem sees it, the resources,
  the memrefs of one tile, and the pure meaning of what a tile does to its block of counts.
-/
module

public import proofs.«01_k».proof.Defs
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.StableHlo.Run
public import Idealize.ShloMosaic.Lib.Transfers
public import Idealize.ShloMosaic.Lib.Tactic

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UU : Type := URounds (GSem nD τ sig) ℕ × (URounds (GSem nD τ sig) Unit × Counters)

local notation "𝕄" => MT nD τ sig (HIx 1) (Elt F) ℕ UU ℕ

def EH : Emb (URounds (GSem nD τ sig) ℕ) (MT nD τ sig (HIx 1) (Elt F) ℕ UU ℕ) :=
  (Emb.inl : Emb (URounds (GSem nD τ sig) ℕ) UU).trans
    (uEmb (nD := nD) (sig := sig) (Ix := HIx 1) (Val := Elt F) (Name := ℕ) (U := UU) (Lvl := ℕ)).toEmb

instance EH_landsIn : (EH : Emb (URounds (GSem nD τ sig) ℕ) 𝕄).LandsIn (upEmb : UEmb _ 𝕄) := by unfold EH; infer_instance

/-- The staging rounds of the dense call's pipeline. -/
def EP : Emb (URounds (GSem nD τ sig) Unit) (MT nD τ sig (HIx 1) (Elt F) ℕ UU ℕ) :=
  ((Emb.inl : Emb (URounds (GSem nD τ sig) Unit) (URounds (GSem nD τ sig) Unit × Counters)).trans Emb.inr).trans
    (uEmb (nD := nD) (sig := sig) (Ix := HIx 1) (Val := Elt F) (Name := ℕ) (U := UU) (Lvl := ℕ)).toEmb

instance EP_landsIn : (EP : Emb (URounds (GSem nD τ sig) Unit) 𝕄).LandsIn (upEmb : UEmb _ 𝕄) := by unfold EP; infer_instance

abbrev EC : UEmb Counters (MT nD τ sig (HIx 1) (Elt F) ℕ UU ℕ) := countersEmb

/-! ## A tile's memrefs -/

abbrev cV (L : grid0.Coords) : Fin τ.nSC := (L 0).castLE hcore0
abbrev jV (L : grid0.Coords) : Fin τ.nSub := (L 1).castLE hsub0
/-- The thread of the tile at coordinates `L` of device `d`. -/
abbrev tile (d : Dev nD) (L : grid0.Coords) : Thread nD τ := V d (cV L) (jV L)

/-- The edge lists, the zeros and the counts, as a tile names them. -/
abbrev srcV : Memref sig .scVector .hbm S500000 .i32 := Memref.whole main_arg1_scv
abbrev dstV : Memref sig .scVector .hbm S500000 .i32 := Memref.whole main_arg2_scv
abbrev zerV : Memref sig .scVector .hbm S120000 .f32 := Memref.whole main_v0_scv
abbrev outV : Memref sig .scVector .hbm S5000000 .f32 := Memref.whole main_v1_scv
/-- The block of counts and the two pairs of index buffers. -/
abbrev blkV : Memref sig .scVector .vmem S120000 .f32 := Memref.whole cc0_scratch0
abbrev sb0V : Memref sig .scVector .vmem S2048 .i32 := Memref.whole cc0_scratch1
abbrev db0V : Memref sig .scVector .vmem S2048 .i32 := Memref.whole cc0_scratch2
abbrev sb1V : Memref sig .scVector .vmem S2048 .i32 := Memref.whole cc0_scratch3
abbrev db1V : Memref sig .scVector .vmem S2048 .i32 := Memref.whole cc0_scratch4

/-! ## What one vector of edges does to the block -/

/-- The key of an edge relative to the first word `base` of the block. -/
def key (base : BitVec 32) (s t : IVec S16 32) : IVec S16 32 :=
  subi (addi (muli s (broadcast S16 100#32)) t) (broadcast S16 base)
/-- The lanes whose key lies in the block. -/
def inBlk (base : BitVec 32) (s t : IVec S16 32) : IVec S16 1 := cmpi .ult (key base s t) (broadcast S16 120000#32)
/-- The index the scatter takes: the key where it lies in the block, else zero. -/
def place (base : BitVec 32) (s t : IVec S16 32) : IVec S16 32 := select (inBlk base s t) (key base s t) (broadcast S16 0#32)
/-- The lanes that are the last of their key. -/
def lastOf (base : BitVec 32) (s t : IVec S16 32) : IVec S16 1 := (scanCount (inBlk base s t) (key base s t)).1
/-- The running number of occurrences of a lane's key. -/
def countOf (base : BitVec 32) (s t : IVec S16 32) : IVec S16 32 := (scanCount (inBlk base s t) (key base s t)).2

/-- The bits of a select's mask that are set hold the compared bound. -/
theorem place_lt (base : BitVec 32) (s t : IVec S16 32) : ∀ a x, ((![place base s t] : Fin 1 → IVec S16 32) a x).toNat < S120000.size a := by
  intro a x
  obtain rfl : a = 0 := Subsingleton.elim _ _
  show (place base s t x).toNat < 120000
  unfold place select Scalar.select
  split
  · rename_i h
    have h' : (key base s t x).ult 120000#32 = true := by
      by_contra hc
      have hz : inBlk base s t x = 0#1 := by
        show BitVec.ofBool ((key base s t x).ult 120000#32) = 0#1
        rw [Bool.not_eq_true] at hc; rw [hc]; rfl
      rw [hz] at h; exact absurd h (by decide)
    simpa [BitVec.ult] using h'
  · show (0#32).toNat < 120000; decide

variable [FloatOps F]

/-- The block after one vector of sixteen edges. -/
def stepF (base : BitVec 32) (s t : IVec S16 32) (f : Vec F S120000 .f32) : Vec F S120000 .f32 :=
  storeIdx f ![place base s t] (sitofp .f32 (countOf base s t)) (lastOf base s t) true (place_lt base s t)

/-- Entry `n` of an edge list; zero past its end. -/
def edgeAt (g : IVec S500000 32) (n : ℕ) : BitVec 32 :=
  if h : n < 500000 then g (fun a => ⟨n, by rw [Subsingleton.elim a 0]; exact h⟩) else 0#32

/-- The `v`-th vector of sixteen edges of an edge list. -/
def edgeVec (g : IVec S500000 32) (v : ℕ) : IVec S16 32 := fun x => edgeAt g (16 * v + (x 0).val)

/-- The block after the first `n` vectors of edges, from the contents `f`. -/
def blkAfter (base : BitVec 32) (src dst : IVec S500000 32) (f : Vec F S120000 .f32) : ℕ → Vec F S120000 .f32
  | 0 => f
  | n + 1 => stepF base (edgeVec src n) (edgeVec dst n) (blkAfter base src dst f n)

end Cert.Proof

end
-- ==== Proof.Vec.lean ====
/-
  One vector of sixteen edges, and one chunk's loop over its 125 vectors: the program read once, over the memrefs of the
  two index buffers, and its triple. The kernel's six copies of the vector loop are instances of it.
-/
module

public import proofs.«01_k».proof.Proof.Base

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- A tile's programs. -/
abbrev TProg (F : FTy → Type) (L : grid0.Coords) (α : Type) : Type 1 :=
  Prog (TpuEff nD τ sig (Elt F) Λ₀ (.scVector ((L 0).castLE hcore0) ((L 1).castLE hsub0))) α

/-- The first 2000 words of an index buffer: where a chunk lies. -/
abbrev R2000 : Rect S2048 := Rect.unit (s := S2048) ![0] S2000.size inb_S2048_S2000_0

/-- The index buffer `sb` holds chunk `ck` of the edge list `g`. -/
def HoldsChunk {d : Dev nD} {L : grid0.Coords} (sb : Memref sig .scVector .vmem S2048 .i32) (g : IVec S500000 32) (ck : ℕ)
    (f : Buf (Elt F) (sb.view.loc (tile d L))) : Prop :=
  ∀ x : S2048.Idx, (x 0).val < 2000 → sb.view.read (Elt F) f x = edgeAt g (2000 * ck + (x 0).val)

/-- One trip of a vector loop: load sixteen sources and sixteen destinations, scatter their counts into the block. -/
def vecBody (L : grid0.Coords) (C : IVec S16 32 → Prop) (dec : ∀ v, Decidable (C v))
    (hC : ∀ v, C v → ∀ a x, ((![v] : Fin 1 → IVec S16 32) a x).toNat < S120000.size a) (base : BitVec 32)
    (sb db : Memref sig .scVector .vmem S2048 .i32) (off : Fin 1 → ℕ) (inb : ∀ a, off a + S16.size a ≤ S2048.size a) :
    TProg F L Unit := do
  let s : Vec F S16 .i32 ← Prog.lift (.load sb (Rect.unit (s := S2048) off S16.size inb).toLoadRect (View.loadsAt_vmem h_S16))
  let t : Vec F S16 .i32 ← Prog.lift (.load db (Rect.unit (s := S2048) off S16.size inb).toLoadRect (View.loadsAt_vmem h_S16))
  have hw : C (place base s t) := (← Prog.lift (TpuEff.assume (C (place base s t)) (dec (place base s t)))).down
  SparseCore.vectorStoreIdx blkV ![place base s t] (sitofp .f32 (countOf base s t)) (lastOf base s t) true (hC _ hw)
    (View.stores_vmem_bits_univ h_S120000 rfl)
  pure ⟨⟩

variable (d : Dev nD) (L : grid0.Coords)

theorem read_chunk {sb : Memref sig .scVector .vmem S2048 .i32} {g : IVec S500000 32} {ck j : ℕ}
    {f : Buf (Elt F) (sb.view.loc (tile d L))} (h : HoldsChunk sb g ck f) (hj : j < 125) {off : Fin 1 → ℕ} (ho : off 0 = 16 * j)
    (inb : ∀ a, off a + S16.size a ≤ S2048.size a) :
    sb.view.readAt (Elt F) (Rect.unit (s := S2048) off S16.size inb).toLoadRect f = edgeVec g (125 * ck + j) := by
  funext x
  rw [View.readAt_rect]
  have hx : (x 0).val < 16 := (x 0).isLt
  have hv : ((Rect.unit (s := S2048) off S16.size inb).emb x 0).val = 16 * j + (x 0).val := by
    rw [Rect.emb_apply]
    simp [ho]
  refine (h ((Rect.unit (s := S2048) off S16.size inb).emb x) ?_).trans ?_
  · rw [hv]; omega
  · rw [hv]; unfold edgeVec
    congr 1; omega

/-- The whole-rectangle view of the block: its elements are all, and a write through it replaces them. -/
theorem blk_write (f g : Vec F S120000 .f32) :
    ((blkV.access (.whole S120000)).loc (tile d L) ↦[(blkV.access (.whole S120000)).set]{fullShare}
        ((blkV.access (.whole S120000)).write (Elt F) f g Finset.univ) : sProp 𝕄)
      = (blkV.view.loc (tile d L) ↦[Finset.univ]{fullShare} g) := by
  have h1 : (blkV.access (.whole S120000)).set = Finset.univ := Memref.set_access_whole cc0_scratch0
  have h2 : (blkV.access (.whole S120000)).write (Elt F) f g Finset.univ = g := Memref.write_access_whole_univ (Elt F) cc0_scratch0 f g
  rw [h1, h2]

/-- What the whole-rectangle view of the block reads is its contents. -/
theorem blk_read (f : Vec F S120000 .f32) : (blkV.access (.whole S120000)).read (Elt F) f = f := Memref.read_access_whole (Elt F) cc0_scratch0 f

theorem wp_vecBody (C : IVec S16 32 → Prop) (dec : ∀ v, Decidable (C v))
    (hC : ∀ v, C v → ∀ a x, ((![v] : Fin 1 → IVec S16 32) a x).toNat < S120000.size a)
    (hCi : ∀ v, (∀ a x, ((![v] : Fin 1 → IVec S16 32) a x).toNat < S120000.size a) → C v) (base : BitVec 32)
    (sb db : Memref sig .scVector .vmem S2048 .i32) (off : Fin 1 → ℕ) (inb : ∀ a, off a + S16.size a ≤ S2048.size a)
    (src dst : IVec S500000 32) (ck j : ℕ) (hj : j < 125) (ho : off 0 = 16 * j)
    (fs : Buf (Elt F) (sb.view.loc (tile d L))) (fd : Buf (Elt F) (db.view.loc (tile d L))) (hs : HoldsChunk sb src ck fs)
    (hd : HoldsChunk db dst ck fd) (f : Vec F S120000 .f32) :
    iprop((blkV.view.loc (tile d L) ↦[Finset.univ]{fullShare} f) ∗ (sb.view.loc (tile d L) ↦[Finset.univ]{fullShare} fs)
        ∗ (db.view.loc (tile d L) ↦[Finset.univ]{fullShare} fd) : sProp 𝕄)
      ⊢ wp frame (wpE (defs₀ (F := F)) 𝒱₀ (tile d L) none) Set.univ (vecBody L C dec hC base sb db off inb)
          fun _ => iprop((blkV.view.loc (tile d L) ↦[Finset.univ]{fullShare}
              stepF base (edgeVec src (125 * ck + j)) (edgeVec dst (125 * ck + j)) f)
            ∗ (sb.view.loc (tile d L) ↦[Finset.univ]{fullShare} fs) ∗ (db.view.loc (tile d L) ↦[Finset.univ]{fullShare} fd)) := by
  unfold vecBody
  simp only [Prog.lift, Prog.bind_op, Prog.bind_ret]
  iintro ⟨Hb, Hs, Hd⟩
  iapply (wp_load 𝒱₀ (tile d L) none Set.univ (m := sb) (S := Finset.univ) (Finset.subset_univ _)) $$ Hs; iintro Hs
  rw [read_chunk d L hs hj ho inb]
  iapply (wp_load 𝒱₀ (tile d L) none Set.univ (m := db) (S := Finset.univ) (Finset.subset_univ _)) $$ Hd; iintro Hd
  rw [read_chunk d L hd hj ho inb]
  iapply (wp_assume 𝒱₀ (tile d L) none Set.univ (hCi _ (place_lt base _ _)))
  iapply (SparseCore.wp_vectorStoreIdx (defs := defs₀ (F := F)) 𝒱₀ (tile d L) none Set.univ
    (base := (blkV : Memref sig (tile d L).2.kind .vmem S120000 .f32)) (f := f)) $$ [Hb]
  · rw [show (blkV.access (.whole S120000)).set = Finset.univ from Memref.set_access_whole cc0_scratch0]; iexact Hb
  iintro Hb
  ihave Hb := (Entails.of_eq (blk_write (F := F) d L _ _)) $$ Hb
  rw [blk_read]
  simp only [Prog.pure_eq_ret]
  rw [wp_ret]
  imodintro
  isplitl [Hb]; · iexact Hb
  isplitl [Hs] <;> iassumption

end Cert.Proof

end
-- ==== Proof.Chunk.lean ====
/-
  The chunks of a range: a chunk's copy of 2000 sources (or destinations) into an index buffer, the vector loop over a
  chunk that lies in the buffers, and the body of the chunk loop — two chunks a trip, each copied while the other is
  counted — read once over its parameters, with its triple.
-/
module

public import proofs.«01_k».proof.Proof.Vec
public import Idealize.ShloMosaic.Lib.SparseCore.Scatter

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ
local notation "IMem" => Memref sig Kind.scVector Space.vmem S2048 EltTy.i32
local notation "TMem" => Memref sig Kind.scVector Space.hbm S500000 EltTy.i32

variable (d : Dev nD) (L : grid0.Coords)

/-! ## A chunk's copy -/

/-- The first 2000 words of an index buffer. -/
abbrev front (sb : IMem) : Memref sig Kind.scVector Space.vmem S2000 EltTy.i32 := sb.slice R2000 (fun _ => rfl)

/-- An index buffer holding chunk `ck` of the edge list `g`. -/
def filled (sb : IMem) (g : IVec S500000 32) (ck : ℕ) : sProp 𝕄 :=
  iprop(∃ f : Buf (Elt F) (sb.view.loc (tile d L)), (sb.view.loc (tile d L) ↦[Finset.univ]{fullShare} f) ∗ ⌜HoldsChunk (F := F) sb g ck f⌝)

/-- An index buffer at some contents. -/
def someBuf (sb : IMem) : sProp 𝕄 :=
  iprop(∃ f : Buf (Elt F) (sb.view.loc (tile d L)), sb.view.loc (tile d L) ↦[Finset.univ]{fullShare} f)

/-- A share of an edge list's array. -/
def table (tb : TMem) (q : PosShare TreeShare) (ft : Buf (Elt F) (tb.view.loc (tile d L))) : sProp 𝕄 :=
  iprop(tb.view.loc (tile d L) ↦[Finset.univ]{q} ft)

/-- Chunk `ck` under way into `sb` on the semaphore `sm`. -/
def inFlight (sm : DmaSem sig) (sb : IMem) (tb : TMem) (q : PosShare TreeShare) (ft : Buf (Elt F) (tb.view.loc (tile d L)))
    (g : IVec S500000 32) (ck : ℕ) : sProp 𝕄 :=
  Transfers.Flight EC (tile d L) (.dma sm) none (front sb).view.dmaCredit iprop(filled (F := F) d L sb g ck ∗ table d L tb q ft)

/-- No copy under way: the buffer, the share and the semaphore at zero. -/
def idle (sm : DmaSem sig) (sb : IMem) (tb : TMem) (q : PosShare TreeShare) (ft : Buf (Elt F) (tb.view.loc (tile d L))) : sProp 𝕄 :=
  iprop(someBuf (F := F) d L sb ∗ table d L tb q ft ∗ semVal (tile d L, SemLoc.dma sm) 0)

/-- The tile's waits so far: its own ones beside those of `W`. -/
def owed (O : CellTallies nD τ sig (HIx 1)) (W : Waits sig (HIx 1)) : sProp 𝕄 :=
  iprop(∃ W', ⌜∀ p ∈ W', p ∈ W ∨ p.2 = none⌝ ∗ owes (tile d L) O W')

variable {α : Type} {Q : α → sProp (MT nD τ sig (HIx 1) (Elt F) ℕ UU ℕ)}

/-- The start of a chunk's copy. -/
theorem wp_start {sm : DmaSem sig} {sb : IMem} {tb : TMem} {q : PosShare TreeShare} {ft : Buf (Elt F) (tb.view.loc (tile d L))}
    {g : IVec S500000 32} (hg : ∀ x, tb.view.read (Elt F) ft x = g x) {ck : ℕ} (hck : ck < 250) {off : Fin 1 → ℕ} (ho : off 0 = 2000 * ck)
    {inb : ∀ a, off a + S2000.size a ≤ S500000.size a} {hu hu'} {h1 h2 h3} {k : PUnit → TProg F L α} :
    idle (F := F) d L sm sb tb q ft
      ⊢ iprop((inFlight d L sm sb tb q ft g ck -∗ wp frame (wpE (defs₀ (F := F)) 𝒱₀ (tile d L) none) Set.univ (k ⟨⟩) Q)
        -∗ wp frame (wpE (defs₀ (F := F)) 𝒱₀ (tile d L) none) Set.univ
          (.op (.enqueueDma (tb.slice (Rect.unit (s := S500000) off S2000.size inb) hu) (.here (sb.slice R2000 hu')) (.dma sm) h1 h2 h3) k) Q) := by
  unfold idle someBuf table
  iintro ⟨⟨%f, Hb⟩, Ht, Hv⟩ Hk
  ihave Ht := (pointsTo_split_subset (Finset.subset_univ (tb.slice (Rect.unit (s := S500000) off S2000.size inb) hu).view.set)).1 $$ Ht
  icases Ht with ⟨Ht, Hr⟩
  iapply (Transfers.wp_dmaLocal EC 𝒱₀ (tile d L) none (src := tb.slice (Rect.unit (s := S500000) off S2000.size inb) hu)
    (dst := sb.slice R2000 hu') none _ rfl (View.dmaCredit_pos _ (by decide)) (Finset.subset_univ _)) $$ [Ht Hb Hv]
  · isplitl [Ht]; · iexact Ht
    isplitl [Hb]; · iexact Hb
    iexact Hv
  iintro Hf
  iapply Hk
  ihave Hf := (Transfers.Flight_frame EC (tile d L)) $$ [Hr Hf]
  · isplitl [Hr]; · iexact Hr
    iexact Hf
  unfold inFlight
  iapply (Transfers.Flight_mono EC (tile d L) ?_) $$ Hf
  unfold filled table
  iintro ⟨Hr, Hb, Ht⟩
  isplitl [Hb]
  · iexists _
    isplitl [Hb]; · iexact Hb
    ipureintro
    intro x hx
    have hx' : x = R2000.emb (fun a => ⟨(x 0).val, by rw [Subsingleton.elim a 0]; exact hx⟩) := by
      funext a; rw [Subsingleton.elim a 0]; apply Fin.ext; rw [Rect.emb_apply]; simp
    rw [hx']
    refine (View.read_slice_write_emb R2000 _ _ (Finset.mem_univ _)).trans ?_
    show tb.view.read (Elt F) ft ((Rect.unit (s := S500000) off S2000.size inb).emb _) = _
    rw [hg]
    unfold edgeAt
    have hlt : 2000 * ck + (x 0).val < 500000 := by omega
    have he : (2000 * ck + (R2000.emb (fun a => ⟨(x 0).val, by rw [Subsingleton.elim a 0]; exact hx⟩) 0).val) = 2000 * ck + (x 0).val := by
      rw [Rect.emb_apply]; simp
    rw [he, dif_pos hlt]
    congr 1
    funext a; rw [Subsingleton.elim a 0]; apply Fin.ext; rw [Rect.emb_apply]; simp [ho]
  · iapply (pointsTo_split_subset (Finset.subset_univ (tb.slice (Rect.unit (s := S500000) off S2000.size inb) hu).view.set)).2
    isplitl [Ht] <;> iassumption

/-- The wait for a chunk's copy. -/
theorem wp_await {sm : DmaSem sig} {sb : IMem} {tb : TMem} {q : PosShare TreeShare} {ft : Buf (Elt F) (tb.view.loc (tile d L))}
    {g : IVec S500000 32} {ck : ℕ} {O : CellTallies nD τ sig (HIx 1)} {W : Waits sig (HIx 1)} {hu'}
    {srcw : Memref sig Kind.scVector Space.hbm S2000 EltTy.i32} {h1 h2} {k : PUnit → TProg F L α} :
    iprop(inFlight (F := F) d L sm sb tb q ft g ck ∗ owed d L O W ∗ Transfers.MayWaits (tile d L) none O)
      ⊢ iprop((iprop(filled (F := F) d L sb g ck ∗ table d L tb q ft ∗ semVal (tile d L, SemLoc.dma sm) 0 ∗ owed d L O W)
          -∗ wp frame (wpE (defs₀ (F := F)) 𝒱₀ (tile d L) none) Set.univ (k ⟨⟩) Q)
        -∗ wp frame (wpE (defs₀ (F := F)) 𝒱₀ (tile d L) none) Set.univ
          (.op (.waitDma2 sm srcw (sb.slice R2000 hu') h1 h2) k) Q) := by
  unfold inFlight owed
  iintro ⟨Hf, ⟨%W', %hW, HO⟩, #Hm⟩ Hk
  iapply (Transfers.wp_waitLocalO EC 𝒱₀ (tile d L) none (dstw := sb.slice R2000 hu') none rfl) $$ [Hf HO]
  · isplitl [Hf]; · iexact Hf
    isplitl [HO]; · iexact HO
    iapply (Transfers.MayWaits.elim (SemLoc.dma sm)); iexact Hm
  iintro ⟨⟨Hb, Ht⟩, Hv, HO⟩
  iapply Hk
  isplitl [Hb]; · iexact Hb
  isplitl [Ht]; · iexact Ht
  isplitl [Hv]; · iexact Hv
  iexists insert (SemLoc.dma sm, none) W'
  isplitr [HO]
  · ipureintro
    intro p hp
    rcases Finset.mem_insert.mp hp with h | h
    · exact .inr (by rw [h])
    · exact hW p h
  · iexact HO

/-! ## The vector loop -/

/-- The block's contents. -/
def block (f : Vec F S120000 .f32) : sProp 𝕄 := iprop(blkV.view.loc (tile d L) ↦[Finset.univ]{fullShare} f)

theorem wp_vecLoop (l : Scf.Loop 32) (hok : l.OK) (htr : l.trips = 125) (C : IVec S16 32 → Prop) (dec : ∀ v, Decidable (C v))
    (hC : ∀ v, C v → ∀ a x, ((![v] : Fin 1 → IVec S16 32) a x).toNat < S120000.size a)
    (hCi : ∀ v, (∀ a x, ((![v] : Fin 1 → IVec S16 32) a x).toNat < S120000.size a) → C v) (base : BitVec 32)
    (sb db : IMem) (off : Fin l.trips → Fin 1 → ℕ) (inb : ∀ t a, off t a + S16.size a ≤ S2048.size a) (ho : ∀ t, off t 0 = 16 * t.val)
    (src dst : IVec S500000 32) (ck : ℕ) (f₀ : Vec F S120000 .f32) (k : Unit → TProg F L α) :
    iprop(block d L (blkAfter base src dst f₀ (125 * ck)) ∗ filled (F := F) d L sb src ck ∗ filled (F := F) d L db dst ck)
      ⊢ iprop((iprop(block d L (blkAfter base src dst f₀ (125 * (ck + 1))) ∗ someBuf (F := F) d L sb ∗ someBuf (F := F) d L db)
          -∗ wp frame (wpE (defs₀ (F := F)) 𝒱₀ (tile d L) none) Set.univ (k ⟨⟩) Q)
        -∗ wp frame (wpE (defs₀ (F := F)) 𝒱₀ (tile d L) none) Set.univ
          (Scf.Loop.for l hok (⟨⟩ : Unit) (fun t _ => vecBody L C dec hC base sb db (off t) (inb t)) >>= k) Q) := by
  unfold filled someBuf block
  iintro ⟨Hb, ⟨%fs, Hs, %hs⟩, ⟨%fd, Hd, %hd⟩⟩ Hk
  iapply (Scf.wp_for_bind frame (wpE (defs₀ (F := F)) 𝒱₀ (tile d L) none) Set.univ l.lb l.ub l.st hok (⟨⟩ : Unit) _
    (fun j _ => iprop((blkV.view.loc (tile d L) ↦[Finset.univ]{fullShare} blkAfter base src dst f₀ (125 * ck + j))
      ∗ (sb.view.loc (tile d L) ↦[Finset.univ]{fullShare} fs) ∗ (db.view.loc (tile d L) ↦[Finset.univ]{fullShare} fd))) ?_) $$ [Hb Hs Hd]
  · intro t _
    exact wp_vecBody d L C dec hC hCi base sb db (off t) (inb t) src dst ck t.val (htr ▸ t.isLt) (ho t) fs fd hs hd _
  · isplitl [Hb]; · iexact Hb
    isplitl [Hs] <;> iassumption
  iintro %acc ⟨Hb, Hs, Hd⟩
  iapply Hk
  rw [show 125 * (ck + 1) = 125 * ck + l.trips from by rw [htr]; ring]
  isplitl [Hb]; · iexact Hb
  isplitl [Hs]
  · iexists _; iexact Hs
  · iexists _; iexact Hd

/-! ## The chunk loop's body -/

/-- The first part of a trip: chunk `2t + 1` is started, chunk `2t` awaited and counted, chunk `2t + 2` started if there is one. -/
def chunkA (L : grid0.Coords) (l : Scf.Loop 32) (hok : l.OK) (C : IVec S16 32 → Prop) (dec : ∀ v, Decidable (C v))
    (hC : ∀ v, C v → ∀ a x, ((![v] : Fin 1 → IVec S16 32) a x).toNat < S120000.size a) (base : BitVec 32)
    (off : Fin l.trips → Fin 1 → ℕ) (inb : ∀ t a, off t a + S16.size a ≤ S2048.size a) (offA : Fin 1 → ℕ)
    (inbA : ∀ a, offA a + S2000.size a ≤ S500000.size a) (cond : BitVec 1) (offB : Fin 1 → ℕ)
    (inbB : cond = 1#1 → ∀ a, offB a + S2000.size a ≤ S500000.size a) (s11 s12 s13 s14 : DmaSems sig S_) : TProg F L PUnit := do
  Prog.lift (.enqueueDma (srcV.slice (Rect.unit (s := S500000) offA S2000.size inbA) (fun _ => rfl))
    (.here (sb1V.slice (Rect.unit (s := S2048) ![0] S2000.size inb_S2048_S2000_0) (fun _ => rfl))) (.dma s13.sem)
    (View.wordExact_bits rfl) (View.wordExact_bits rfl) ⟨Or.inl rfl, trivial⟩)
  Prog.lift (.enqueueDma (dstV.slice (Rect.unit (s := S500000) offA S2000.size inbA) (fun _ => rfl))
    (.here (db1V.slice (Rect.unit (s := S2048) ![0] S2000.size inb_S2048_S2000_0) (fun _ => rfl))) (.dma s14.sem)
    (View.wordExact_bits rfl) (View.wordExact_bits rfl) ⟨Or.inl rfl, trivial⟩)
  Prog.lift (.waitDma2 s11.sem (srcV.slice (Rect.unit (s := S500000) ![0] S2000.size inb_S500000_S2000_0) (fun _ => rfl))
    (sb0V.slice (Rect.unit (s := S2048) ![0] S2000.size inb_S2048_S2000_0) (fun _ => rfl)) (View.wordExact_bits rfl) (View.wordExact_bits rfl))
  Prog.lift (.waitDma2 s12.sem (dstV.slice (Rect.unit (s := S500000) ![0] S2000.size inb_S500000_S2000_0) (fun _ => rfl))
    (db0V.slice (Rect.unit (s := S2048) ![0] S2000.size inb_S2048_S2000_0) (fun _ => rfl)) (View.wordExact_bits rfl) (View.wordExact_bits rfl))
  Scf.Loop.for l hok ⟨⟩ (fun t _ => vecBody L C dec hC base sb0V db0V (off t) (inb t))
  if h : cond = 1#1 then do
    Prog.lift (.enqueueDma (srcV.slice (Rect.unit (s := S500000) offB S2000.size (inbB h)) (fun _ => rfl))
      (.here (sb0V.slice (Rect.unit (s := S2048) ![0] S2000.size inb_S2048_S2000_0) (fun _ => rfl))) (.dma s11.sem)
      (View.wordExact_bits rfl) (View.wordExact_bits rfl) ⟨Or.inl rfl, trivial⟩)
    Prog.lift (.enqueueDma (dstV.slice (Rect.unit (s := S500000) offB S2000.size (inbB h)) (fun _ => rfl))
      (.here (db0V.slice (Rect.unit (s := S2048) ![0] S2000.size inb_S2048_S2000_0) (fun _ => rfl))) (.dma s12.sem)
      (View.wordExact_bits rfl) (View.wordExact_bits rfl) ⟨Or.inl rfl, trivial⟩)
    pure ⟨⟩
  else do
    pure ⟨⟩
  pure ⟨⟩

/-- The second part: chunk `2t + 1` is awaited and counted. -/
def chunkB (L : grid0.Coords) (l : Scf.Loop 32) (hok : l.OK) (C : IVec S16 32 → Prop) (dec : ∀ v, Decidable (C v))
    (hC : ∀ v, C v → ∀ a x, ((![v] : Fin 1 → IVec S16 32) a x).toNat < S120000.size a) (base : BitVec 32)
    (off : Fin l.trips → Fin 1 → ℕ) (inb : ∀ t a, off t a + S16.size a ≤ S2048.size a) (s13 s14 : DmaSems sig S_) : TProg F L Unit := do
  Prog.lift (.waitDma2 s13.sem (srcV.slice (Rect.unit (s := S500000) ![0] S2000.size inb_S500000_S2000_0) (fun _ => rfl))
    (sb1V.slice (Rect.unit (s := S2048) ![0] S2000.size inb_S2048_S2000_0) (fun _ => rfl)) (View.wordExact_bits rfl) (View.wordExact_bits rfl))
  Prog.lift (.waitDma2 s14.sem (dstV.slice (Rect.unit (s := S500000) ![0] S2000.size inb_S500000_S2000_0) (fun _ => rfl))
    (db1V.slice (Rect.unit (s := S2048) ![0] S2000.size inb_S2048_S2000_0) (fun _ => rfl)) (View.wordExact_bits rfl) (View.wordExact_bits rfl))
  Scf.Loop.for l hok ⟨⟩ (fun t _ => vecBody L C dec hC base sb1V db1V (off t) (inb t))
  pure ⟨⟩

/-- Chunk `ck` under way on one pair of buffers if it exists, else the pair idle. -/
def pending (s s' : DmaSems sig S_) (sb db : IMem) (q : PosShare TreeShare) (src dst : IVec S500000 32) (ck : ℕ) : sProp 𝕄 :=
  if ck < 250 then iprop(inFlight (F := F) d L s.sem sb srcV q src src ck ∗ inFlight (F := F) d L s'.sem db dstV q dst dst ck)
  else iprop(idle (F := F) d L s.sem sb srcV q src ∗ idle (F := F) d L s'.sem db dstV q dst)

/-- What a tile holds before trip `t` of the chunk loop: the block counted so far, chunk `2t` under way, the other pair idle. -/
def chunkInv (s11 s12 s13 s14 : DmaSems sig S_) (q q' : PosShare TreeShare) (base : BitVec 32) (src dst : IVec S500000 32)
    (f₀ : Vec F S120000 .f32) (O : CellTallies nD τ sig (HIx 1)) (W : Waits sig (HIx 1)) (t : ℕ) : sProp 𝕄 :=
  iprop(Transfers.MayWaits (tile d L) none O ∗ block d L (blkAfter base src dst f₀ (250 * t)) ∗ pending (F := F) d L s11 s12 sb0V db0V q src dst (2 * t)
    ∗ idle (F := F) d L s13.sem sb1V srcV q' src ∗ idle (F := F) d L s14.sem db1V dstV q' dst ∗ owed d L O W)

theorem wp_chunk (l l' : Scf.Loop 32) (hok : l.OK) (hok' : l'.OK) (htr : l.trips = 125) (htr' : l'.trips = 125)
    (C C' : IVec S16 32 → Prop) (dec : ∀ v, Decidable (C v)) (dec' : ∀ v, Decidable (C' v))
    (hC : ∀ v, C v → ∀ a x, ((![v] : Fin 1 → IVec S16 32) a x).toNat < S120000.size a)
    (hC' : ∀ v, C' v → ∀ a x, ((![v] : Fin 1 → IVec S16 32) a x).toNat < S120000.size a)
    (hCi : ∀ v, (∀ a x, ((![v] : Fin 1 → IVec S16 32) a x).toNat < S120000.size a) → C v)
    (hCi' : ∀ v, (∀ a x, ((![v] : Fin 1 → IVec S16 32) a x).toNat < S120000.size a) → C' v) (base : BitVec 32)
    (off : Fin l.trips → Fin 1 → ℕ) (off' : Fin l'.trips → Fin 1 → ℕ) (inb : ∀ t a, off t a + S16.size a ≤ S2048.size a)
    (inb' : ∀ t a, off' t a + S16.size a ≤ S2048.size a) (ho : ∀ t, off t 0 = 16 * t.val) (ho' : ∀ t, off' t 0 = 16 * t.val)
    (offA : Fin 1 → ℕ) (inbA : ∀ a, offA a + S2000.size a ≤ S500000.size a) (cond : BitVec 1) (offB : Fin 1 → ℕ)
    (inbB : cond = 1#1 → ∀ a, offB a + S2000.size a ≤ S500000.size a) (s11 s12 s13 s14 : DmaSems sig S_)
    (src dst : IVec S500000 32) (f₀ : Vec F S120000 .f32) (q q' : PosShare TreeShare) (O : CellTallies nD τ sig (HIx 1)) (W : Waits sig (HIx 1))
    (t : ℕ) (ht : t < 125) (hA : offA 0 = 2000 * (2 * t + 1)) (hc : cond = 1#1 ↔ 2 * t + 2 < 250) (hB : offB 0 = 2000 * (2 * t + 2)) :
    chunkInv (F := F) d L s11 s12 s13 s14 q q' base src dst f₀ O W t
      ⊢ wp frame (wpE (defs₀ (F := F)) 𝒱₀ (tile d L) none) Set.univ
          (chunkA L l hok C dec hC base off inb offA inbA cond offB inbB s11 s12 s13 s14 >>= fun _ => chunkB L l' hok' C' dec' hC' base off' inb' s13 s14)
          fun _ => chunkInv (F := F) d L s11 s12 s13 s14 q q' base src dst f₀ O W (t + 1) := by
  have hsrc : ∀ x, (srcV : TMem).view.read (Elt F) src x = src x := fun x => rfl
  have hdst : ∀ x, (dstV : TMem).view.read (Elt F) dst x = dst x := fun x => rfl
  rw [wp_bind]
  unfold chunkA chunkInv pending
  simp only [Prog.lift, Prog.bind_op, Prog.bind_ret]
  rw [if_pos (by omega : 2 * t < 250)]
  iintro ⟨#Hm, Hb, ⟨Hf, Hf'⟩, Hi, Hi', HO⟩
  iapply (wp_start (F := F) d L hsrc (ck := 2 * t + 1) (by omega) hA) $$ Hi; iintro Hi
  iapply (wp_start (F := F) d L hdst (ck := 2 * t + 1) (by omega) hA) $$ Hi'; iintro Hi'
  iapply (wp_await (F := F) d L) $$ [Hf HO]
  · isplitl [Hf]; · iexact Hf
    isplitl [HO]; · iexact HO
    iexact Hm
  iintro ⟨Hs, Ht, Hv, HO⟩
  iapply (wp_await (F := F) d L) $$ [Hf' HO]
  · isplitl [Hf']; · iexact Hf'
    isplitl [HO]; · iexact HO
    iexact Hm
  iintro ⟨Hd, Ht', Hv', HO⟩
  rw [show 250 * t = 125 * (2 * t) by ring]
  iapply (wp_vecLoop d L l hok htr C dec hC hCi base sb0V db0V off inb ho src dst (2 * t) f₀) $$ [Hb Hs Hd]
  · isplitl [Hb]; · iexact Hb
    isplitl [Hs] <;> iassumption
  iintro ⟨Hb, Hs, Hd⟩
  -- what the second part does, from either branch
  have hSecond : ∀ R : sProp 𝕄, iprop(Transfers.MayWaits (tile d L) none O ∗ R ∗ block d L (blkAfter base src dst f₀ (125 * (2 * t + 1)))
      ∗ inFlight (F := F) d L s13.sem sb1V srcV q' src src (2 * t + 1) ∗ inFlight (F := F) d L s14.sem db1V dstV q' dst dst (2 * t + 1) ∗ owed (F := F) d L O W)
      ⊢ wp frame (wpE (defs₀ (F := F)) 𝒱₀ (tile d L) none) Set.univ (chunkB L l' hok' C' dec' hC' base off' inb' s13 s14)
          fun _ => iprop(Transfers.MayWaits (tile d L) none O ∗ block d L (blkAfter base src dst f₀ (250 * (t + 1))) ∗ R
            ∗ idle (F := F) d L s13.sem sb1V srcV q' src ∗ idle (F := F) d L s14.sem db1V dstV q' dst ∗ owed (F := F) d L O W) := by
    intro R
    unfold chunkB
    simp only [Prog.lift, Prog.bind_op, Prog.bind_ret]
    iintro ⟨#Hm, HR, Hb, Hi, Hi', HO⟩
    iapply (wp_await (F := F) d L) $$ [Hi HO]
    · isplitl [Hi]; · iexact Hi
      isplitl [HO]; · iexact HO
      iexact Hm
    iintro ⟨Hs, Ht, Hv, HO⟩
    iapply (wp_await (F := F) d L) $$ [Hi' HO]
    · isplitl [Hi']; · iexact Hi'
      isplitl [HO]; · iexact HO
      iexact Hm
    iintro ⟨Hd, Ht', Hv', HO⟩
    iapply (wp_vecLoop d L l' hok' htr' C' dec' hC' hCi' base sb1V db1V off' inb' ho' src dst (2 * t + 1) f₀) $$ [Hb Hs Hd]
    · isplitl [Hb]; · iexact Hb
      isplitl [Hs] <;> iassumption
    iintro ⟨Hb, Hs, Hd⟩
    simp only [Prog.pure_eq_ret]
    rw [wp_ret]
    imodintro
    isplitr; · iexact Hm
    rw [show 250 * (t + 1) = 125 * (2 * t + 1 + 1) by ring]
    isplitl [Hb]; · iexact Hb
    isplitl [HR]; · iexact HR
    unfold idle
    isplitl [Hs Ht Hv]
    · isplitl [Hs]; · iexact Hs
      isplitl [Ht] <;> iassumption
    isplitl [Hd Ht' Hv']
    · isplitl [Hd]; · iexact Hd
      isplitl [Ht'] <;> iassumption
    iexact HO
  by_cases h : cond = 1#1
  · simp only [dif_pos h, Prog.bind_op, Prog.bind_ret, Prog.pure_eq_ret]
    rw [if_pos (by have := hc.mp h; omega : 2 * (t + 1) < 250)]
    iapply (wp_start (F := F) d L hsrc (ck := 2 * (t + 1)) (by have := hc.mp h; omega) hB) $$ [Hs Ht Hv]
    · unfold idle
      isplitl [Hs]; · iexact Hs
      isplitl [Ht] <;> iassumption
    iintro Hf
    iapply (wp_start (F := F) d L hdst (ck := 2 * (t + 1)) (by have := hc.mp h; omega) hB) $$ [Hd Ht' Hv']
    · unfold idle
      isplitl [Hd]; · iexact Hd
      isplitl [Ht'] <;> iassumption
    iintro Hf'
    rw [wp_ret]
    imodintro
    iapply (hSecond _)
    isplitr; · iexact Hm
    isplitl [Hf Hf']
    · isplitl [Hf] <;> iassumption
    isplitl [Hb]; · iexact Hb
    isplitl [Hi]; · iexact Hi
    isplitl [Hi']; · iexact Hi'
    iexact HO
  · simp only [dif_neg h, Prog.bind_ret, Prog.pure_eq_ret]
    rw [if_neg (fun h' => h (hc.mpr (by omega)) : ¬ 2 * (t + 1) < 250)]
    rw [wp_ret]
    imodintro
    iapply (hSecond _)
    isplitr; · iexact Hm
    isplitl [Hs Ht Hv Hd Ht' Hv']
    · unfold idle
      isplitl [Hs Ht Hv]
      · isplitl [Hs]; · iexact Hs
        isplitl [Ht] <;> iassumption
      · isplitl [Hd]; · iexact Hd
        isplitl [Ht'] <;> iassumption
    isplitl [Hb]; · iexact Hb
    isplitl [Hi]; · iexact Hi
    isplitl [Hi']; · iexact Hi'
    iexact HO

end Cert.Proof

end
-- ==== Proof.Range.lean ====
/-
  One range of the counts: the block zeroed, the 250 chunks counted into it, the block written out — the program read
  once over its parameters, with its triple.
-/
module

public import proofs.«01_k».proof.Proof.Chunk

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ
local notation "IMem" => Memref sig Kind.scVector Space.vmem S2048 EltTy.i32
local notation "TMem" => Memref sig Kind.scVector Space.hbm S500000 EltTy.i32

variable (d : Dev nD) (L : grid0.Coords)

/-- The shape of `n` words. -/
abbrev Sw (n : ℕ) : Shape := ⟨1, ![n]⟩

/-- The copy of the zeros leaves the block at them. -/
theorem blk_zeroed (f z : Vec F S120000 .f32) :
    (blkV.view.write (Elt F) f (ReadAs.same.apply (zerV.view.read (Elt F) z)) Finset.univ : Vec F S120000 .f32) = z :=
  View.write_whole_univ (Val := Elt F) cc0_scratch0 f z

theorem numel_pos {n : ℕ} (hn : 0 < n) : 0 < (Sw n).numel := by simpa [Shape.numel] using hn

theorem numel_block : 0 < S120000.numel := numel_pos (n := 120000) (by omega)

/-- The counts, word by word: word `w` is entry `w % 120000` of the block of range `w / 120000` after every edge. -/
def outF (src dst : IVec S500000 32) (z : Vec F S120000 .f32) : Vec F S5000000 .f32 := fun w =>
  blkAfter (BitVec.ofNat 32 (120000 * ((w 0).val / 120000))) src dst z (250 * 125)
    (fun a => ⟨(w 0).val % 120000, by rw [Subsingleton.elim a 0]; exact Nat.mod_lt _ (by decide)⟩)

/-- One range: the block zeroed, the first chunk started, the chunk loop, the block written out, then `k`. -/
def rangeProg (L : grid0.Coords) (l : Scf.Loop 32) (hok : l.OK) (body : Fin l.trips → Unit → TProg F L Unit) (n : ℕ)
    (off : Fin 1 → ℕ) (inb : ∀ a, off a + (Sw n).size a ≤ S5000000.size a) (inb' : ∀ a, (![0] : Fin 1 → ℕ) a + (Sw n).size a ≤ S120000.size a)
    (s11 s12 r0 r1 : DmaSems sig S_) (k : TProg F L PUnit) : TProg F L PUnit := do
  Prog.lift (.enqueueDma zerV (.here blkV) (.dma r0.sem) (Memref.isWhole_whole main_v0_scv).wordExact (Memref.isWhole_whole cc0_scratch0).wordExact ⟨Or.inl rfl, trivial⟩)
  Prog.lift (.waitDma2 r0.sem zerV blkV (Memref.isWhole_whole main_v0_scv).wordExact (Memref.isWhole_whole cc0_scratch0).wordExact)
  Prog.lift (.enqueueDma (srcV.slice (Rect.unit (s := S500000) ![0] S2000.size inb_S500000_S2000_0) (fun _ => rfl))
    (.here (sb0V.slice (Rect.unit (s := S2048) ![0] S2000.size inb_S2048_S2000_0) (fun _ => rfl))) (.dma s11.sem)
    (View.wordExact_bits rfl) (View.wordExact_bits rfl) ⟨Or.inl rfl, trivial⟩)
  Prog.lift (.enqueueDma (dstV.slice (Rect.unit (s := S500000) ![0] S2000.size inb_S500000_S2000_0) (fun _ => rfl))
    (.here (db0V.slice (Rect.unit (s := S2048) ![0] S2000.size inb_S2048_S2000_0) (fun _ => rfl))) (.dma s12.sem)
    (View.wordExact_bits rfl) (View.wordExact_bits rfl) ⟨Or.inl rfl, trivial⟩)
  Scf.Loop.for l hok ⟨⟩ body
  Prog.lift (.enqueueDma (blkV.slice (Rect.unit (s := S120000) ![0] (Sw n).size inb') (fun _ => rfl))
    (.here (outV.slice (Rect.unit (s := S5000000) off (Sw n).size inb) (fun _ => rfl))) (.dma r1.sem)
    (View.wordExact_bits rfl) (View.wordExact_bits rfl) ⟨Or.inl rfl, trivial⟩)
  Prog.lift (.waitDma2 r1.sem (blkV.slice (Rect.unit (s := S120000) ![0] (Sw n).size inb') (fun _ => rfl))
    (outV.slice (Rect.unit (s := S5000000) off (Sw n).size inb) (fun _ => rfl)) (View.wordExact_bits rfl) (View.wordExact_bits rfl))
  k

/-- What a tile holds between ranges. -/
def tileSt (s11 s12 s13 s14 : DmaSems sig S_) (q q' qz : PosShare TreeShare) (src dst : IVec S500000 32) (z : Vec F S120000 .f32)
    (O : CellTallies nD τ sig (HIx 1)) (W : Waits sig (HIx 1)) : sProp 𝕄 :=
  iprop(Transfers.MayWaits (tile d L) none O ∗ (∃ f, block (F := F) d L f) ∗ (idle (F := F) d L s11.sem sb0V srcV q src ∗ idle (F := F) d L s12.sem db0V dstV q dst)
    ∗ (idle (F := F) d L s13.sem sb1V srcV q' src ∗ idle (F := F) d L s14.sem db1V dstV q' dst)
    ∗ (zerV.view.loc (tile d L) ↦[Finset.univ]{qz} z) ∗ owed (F := F) d L O W)

variable {α : Type} {Q : α → sProp (MT nD τ sig (HIx 1) (Elt F) ℕ UU ℕ)}

/-- A wait for a copy of the tile's own. -/
theorem wp_awaitAny {sm : DmaSem sig} {sp sp' : Space} {s s' : Shape} {e e' : EltTy} {N : ℕ} {R : sProp 𝕄}
    {srcw : Memref sig Kind.scVector sp' s' e'} {dstw : Memref sig Kind.scVector sp s e} {h1 h2}
    (hN : dstw.view.dmaCredit = N) {O : CellTallies nD τ sig (HIx 1)} {W : Waits sig (HIx 1)} {k : PUnit → TProg F L α} :
    iprop(Transfers.Flight EC (tile d L) (.dma sm) none N R ∗ owed (F := F) d L O W ∗ Transfers.MayWaits (tile d L) none O)
      ⊢ iprop((iprop(R ∗ semVal (tile d L, SemLoc.dma sm) 0 ∗ owed (F := F) d L O W)
          -∗ wp frame (wpE (defs₀ (F := F)) 𝒱₀ (tile d L) none) Set.univ (k ⟨⟩) Q)
        -∗ wp frame (wpE (defs₀ (F := F)) 𝒱₀ (tile d L) none) Set.univ (.op (.waitDma2 sm srcw dstw h1 h2) k) Q) := by
  unfold owed
  iintro ⟨Hf, ⟨%W', %hW, HO⟩, #Hm⟩ Hk
  iapply (Transfers.wp_waitLocalO EC 𝒱₀ (tile d L) none (dstw := dstw) none hN) $$ [Hf HO]
  · isplitl [Hf]; · iexact Hf
    isplitl [HO]; · iexact HO
    iapply (Transfers.MayWaits.elim (SemLoc.dma sm)); iexact Hm
  iintro ⟨HR, Hv, HO⟩
  iapply Hk
  isplitl [HR]; · iexact HR
  isplitl [Hv]; · iexact Hv
  iexists insert (SemLoc.dma sm, none) W'
  isplitr [HO]
  · ipureintro
    intro p hp
    rcases Finset.mem_insert.mp hp with h | h
    · exact .inr (by rw [h])
    · exact hW p h
  · iexact HO

/-- What the write-out of a block leaves on a range's words. -/
theorem range_out₀ (n : ℕ) (off : Fin 1 → ℕ) (inb : ∀ a, off a + (Sw n).size a ≤ S5000000.size a)
    (inb' : ∀ a, (![0] : Fin 1 → ℕ) a + (Sw n).size a ≤ S120000.size a) (r : ℕ) (hoff : off 0 = 120000 * r) (hn' : n ≤ 120000)
    (B : Vec F S120000 .f32) (fo : Vec F S5000000 .f32) :
    ∀ w ∈ (outV.slice (Rect.unit (s := S5000000) off (Sw n).size inb) (fun _ => rfl)).view.set, (w 0).val / 120000 = r ∧
      (outV.slice (Rect.unit (s := S5000000) off (Sw n).size inb) (fun _ => rfl)).view.write (Elt F) fo
        (ReadAs.same.apply ((blkV.slice (Rect.unit (s := S120000) ![0] (Sw n).size inb') (fun _ => rfl)).view.read (Elt F) B))
        Finset.univ w = B (fun a => ⟨(w 0).val % 120000, by rw [Subsingleton.elim a 0]; exact Nat.mod_lt _ (by decide)⟩) := by
  intro w hw
  obtain ⟨x, -, rfl⟩ := Finset.mem_map.mp hw
  have hx : (x 0).val < n := (x 0).isLt
  have hv : ((outV.slice (Rect.unit (s := S5000000) off (Sw n).size inb) (fun _ => rfl)).view.emb x 0).val = 120000 * r + (x 0).val := by
    show ((Rect.unit (s := S5000000) off (Sw n).size inb).emb x 0).val = _
    rw [Rect.emb_apply]; simp [hoff]
  refine ⟨by rw [hv]; omega, ?_⟩
  refine (View.write_emb_of_mem (v := (outV.slice (Rect.unit (s := S5000000) off (Sw n).size inb) (fun _ => rfl)).view) _ _ (Finset.mem_univ x)).trans ?_
  show B ((Rect.unit (s := S120000) ![0] (Sw n).size inb').emb x) = _
  congr 1
  funext a; rw [Subsingleton.elim a 0]; apply Fin.ext
  show _ = ((outV.slice (Rect.unit (s := S5000000) off (Sw n).size inb) (fun _ => rfl)).view.emb x 0).val % 120000
  rw [hv, Rect.emb_apply]
  simp
  omega

/-- What the write-out leaves on a range's words, the block counted to the end. -/
theorem range_out (n : ℕ) (off : Fin 1 → ℕ) (inb : ∀ a, off a + (Sw n).size a ≤ S5000000.size a)
    (inb' : ∀ a, (![0] : Fin 1 → ℕ) a + (Sw n).size a ≤ S120000.size a) (base : BitVec 32) (r : ℕ) (hbase : base = BitVec.ofNat 32 (120000 * r))
    (hoff : off 0 = 120000 * r) (hn' : n ≤ 120000) (src dst : IVec S500000 32) (z : Vec F S120000 .f32) (fo : Vec F S5000000 .f32) :
    ∀ w ∈ (outV.slice (Rect.unit (s := S5000000) off (Sw n).size inb) (fun _ => rfl)).view.set,
      (outV.slice (Rect.unit (s := S5000000) off (Sw n).size inb) (fun _ => rfl)).view.write (Elt F) fo
        (ReadAs.same.apply ((blkV.slice (Rect.unit (s := S120000) ![0] (Sw n).size inb') (fun _ => rfl)).view.read (Elt F) (blkAfter base src dst z (250 * 125))))
        Finset.univ w = outF src dst z w := by
  intro w hw
  obtain ⟨h1, h2⟩ := range_out₀ n off inb inb' r hoff hn' (blkAfter base src dst z (250 * 125)) fo w hw
  rw [h2]
  unfold outF
  rw [h1, ← hbase]

set_option maxHeartbeats 400000 in
theorem wp_range (l : Scf.Loop 32) (hok : l.OK) (htr : l.trips = 125) (body : Fin l.trips → Unit → TProg F L Unit) (n : ℕ) (hn : 0 < n) (hn' : n ≤ 120000)
    (off : Fin 1 → ℕ) (inb : ∀ a, off a + (Sw n).size a ≤ S5000000.size a) (inb' : ∀ a, (![0] : Fin 1 → ℕ) a + (Sw n).size a ≤ S120000.size a)
    (s11 s12 s13 s14 r0 r1 : DmaSems sig S_) (q q' qz : PosShare TreeShare) (base : BitVec 32) (r : ℕ) (hbase : base = BitVec.ofNat 32 (120000 * r))
    (hoff : off 0 = 120000 * r) (src dst : IVec S500000 32) (z : Vec F S120000 .f32) (O : CellTallies nD τ sig (HIx 1)) (W : Waits sig (HIx 1))
    (hbody : ∀ (t : Fin l.trips) (u : Unit), chunkInv (F := F) d L s11 s12 s13 s14 q q' base src dst z O W t.val
      ⊢ wp frame (wpE (defs₀ (F := F)) 𝒱₀ (tile d L) none) Set.univ (body t u) fun _ => chunkInv (F := F) d L s11 s12 s13 s14 q q' base src dst z O W (t.val + 1))
    (k : TProg F L PUnit) (fo : Vec F S5000000 .f32) {Q : PUnit → sProp 𝕄} :
    iprop(tileSt (F := F) d L s11 s12 s13 s14 q q' qz src dst z O W ∗ semVal (tile d L, SemLoc.dma r0.sem) 0 ∗ semVal (tile d L, SemLoc.dma r1.sem) 0
        ∗ (outV.view.loc (tile d L) ↦[(outV.slice (Rect.unit (s := S5000000) off (Sw n).size inb) (fun _ => rfl)).view.set]{fullShare} fo))
      ⊢ iprop((iprop(tileSt (F := F) d L s11 s12 s13 s14 q q' qz src dst z O W ∗ semVal (tile d L, SemLoc.dma r0.sem) 0 ∗ semVal (tile d L, SemLoc.dma r1.sem) 0
          ∗ (outV.view.loc (tile d L) ↦[(outV.slice (Rect.unit (s := S5000000) off (Sw n).size inb) (fun _ => rfl)).view.set]{fullShare} outF src dst z))
          -∗ wp frame (wpE (defs₀ (F := F)) 𝒱₀ (tile d L) none) Set.univ k Q)
        -∗ wp frame (wpE (defs₀ (F := F)) 𝒱₀ (tile d L) none) Set.univ (rangeProg L l hok body n off inb inb' s11 s12 r0 r1 k) Q) := by
  have hsrc : ∀ x, (srcV : TMem).view.read (Elt F) src x = src x := fun x => rfl
  have hdst : ∀ x, (dstV : TMem).view.read (Elt F) dst x = dst x := fun x => rfl
  unfold rangeProg tileSt
  simp only [Prog.lift, Prog.bind_op, Prog.bind_ret]
  iintro ⟨⟨#Hm, ⟨%f, Hb⟩, ⟨Hi1, Hi2⟩, ⟨Hi3, Hi4⟩, Hz, HO⟩, Hr0, Hr1, Ho⟩ Hk
  unfold block
  -- the block zeroed
  have hN0 : 0 < blkV.view.dmaCredit := blkV.view.dmaCredit_pos numel_block
  iapply (Transfers.wp_dmaLocal EC 𝒱₀ (tile d L) none (src := zerV) (dst := blkV) (q := qz) (fs := z) (fd := f) none blkV.view.dmaCredit rfl
    hN0 (Finset.subset_univ _)) $$ [Hz Hb Hr0]
  · isplitl [Hz]
    · rw [show (zerV.view.set : Finset _) = Finset.univ from (Memref.isWhole_whole main_v0_scv).set_eq_univ]; iexact Hz
    isplitl [Hb]; · iexact Hb
    iexact Hr0
  iintro Hf
  iapply (wp_awaitAny (F := F) d L rfl) $$ [Hf HO]
  · isplitl [Hf]; · iexact Hf
    isplitl [HO]; · iexact HO
    iexact Hm
  iintro ⟨⟨Hb, Hz⟩, Hr0, HO⟩
  rw [show (zerV.view.set : Finset _) = Finset.univ from (Memref.isWhole_whole main_v0_scv).set_eq_univ]
  have hw : (blkV.view.write (Elt F) f (ReadAs.same.apply (zerV.view.read (Elt F) z)) Finset.univ : Vec F S120000 .f32) = z :=
    blk_zeroed f z
  ihave Hb := (Entails.of_eq (congrArg (fun g : Vec F S120000 .f32 => (blkV.view.loc (tile d L) ↦[Finset.univ]{fullShare} g : sProp 𝕄)) hw)) $$ Hb
  -- the first chunk started
  iapply (wp_start (F := F) d L hsrc (ck := 0) (by omega) rfl) $$ Hi1; iintro Hi1
  iapply (wp_start (F := F) d L hdst (ck := 0) (by omega) rfl) $$ Hi2; iintro Hi2
  -- the chunk loop
  iapply (Scf.wp_for_bind frame (wpE (defs₀ (F := F)) 𝒱₀ (tile d L) none) Set.univ l.lb l.ub l.st hok (⟨⟩ : Unit) body
    (fun t _ => chunkInv (F := F) d L s11 s12 s13 s14 q q' base src dst z O W t) hbody) $$ [Hb Hi1 Hi2 Hi3 Hi4 HO]
  · unfold chunkInv pending block
    rw [if_pos (by decide)]
    isplitr; · iexact Hm
    isplitl [Hb]; · iexact Hb
    isplitl [Hi1 Hi2]
    · isplitl [Hi1] <;> iassumption
    isplitl [Hi3]; · iexact Hi3
    isplitl [Hi4]; · iexact Hi4
    iexact HO
  iintro %acc Hinv
  rw [show Scf.trips l.lb l.ub l.st = 125 from htr]
  unfold chunkInv pending block
  rw [if_neg (by decide)]
  icases Hinv with ⟨-, Hb, ⟨Hi1, Hi2⟩, Hi3, Hi4, HO⟩
  -- the block written out
  have hsplit := fun g : Vec F S120000 .f32 => pointsTo_split_subset (Ix := HIx 1) (Name := ℕ) (U := UU) (Lvl := ℕ) (Val := Elt F)
    (ℓ := blkV.view.loc (tile d L)) (q := fullShare) (f := g)
    (Finset.subset_univ (blkV.slice (Rect.unit (s := S120000) ![0] (Sw n).size inb') (fun _ => rfl)).view.set)
  ihave Hb := (hsplit _).1 $$ Hb
  icases Hb with ⟨Hb, Hbr⟩
  iapply (Transfers.wp_dmaLocal EC 𝒱₀ (tile d L) none (src := blkV.slice (Rect.unit (s := S120000) ![0] (Sw n).size inb') (fun _ => rfl))
    (dst := outV.slice (Rect.unit (s := S5000000) off (Sw n).size inb) (fun _ => rfl)) none _ rfl
    (View.dmaCredit_pos _ (numel_pos hn)) subset_rfl) $$ [Hb Ho Hr1]
  · isplitl [Hb]; · iexact Hb
    isplitl [Ho]; · iexact Ho
    iexact Hr1
  iintro Hf
  iapply (wp_awaitAny (F := F) d L rfl) $$ [Hf HO]
  · isplitl [Hf]; · iexact Hf
    isplitl [HO]; · iexact HO
    iexact Hm
  iintro ⟨⟨Ho, Hb⟩, Hr1, HO⟩
  ihave Hb := (hsplit _).2 $$ [Hb Hbr]
  · isplitl [Hb] <;> iassumption
  iapply Hk
  isplitl [Hb Hi1 Hi2 Hi3 Hi4 Hz HO]
  · isplitr; · iexact Hm
    isplitl [Hb]; · iexists _; iexact Hb
    isplitl [Hi1 Hi2]
    · isplitl [Hi1] <;> iassumption
    isplitl [Hi3 Hi4]
    · isplitl [Hi3] <;> iassumption
    isplitl [Hz] <;> iassumption
  isplitl [Hr0]; · iexact Hr0
  isplitl [Hr1]; · iexact Hr1
  iapply (Entails.of_eq (pointsTo_congr (range_out n off inb inb' base r hbase hoff hn' src dst z fo))) $$ Ho

end Cert.Proof

end
-- ==== Proof.Nums.lean ====
/-
  The numbers of the counting call: the trip counts, the offsets and the conditions of its loops, and the first words of a
  tile's ranges, in natural numbers.
-/
module

public import proofs.«01_k».proof.Proof.Base

@[expose] public section

namespace Cert.Proof

open Cert.KernelIdeal Cert.KernelIdeal.Gen

open Idealize.ShloMosaic

/-- The number of the tile at `L`. -/
def wid (L : grid0.Coords) : ℕ := 2 * (L 1).val + (L 0).val

theorem wid_lt (L : grid0.Coords) : wid L < 32 := by
  have h0 : (L 0).val < 2 := (L 0).isLt
  have h1 : (L 1).val < 16 := (L 1).isLt
  unfold wid; omega

/-- The number of the tile, and the first word of its first and second range, as the program computes them. -/
def widB (L : grid0.Coords) : BitVec 32 := Scalar.addi (Scalar.muli (BitVec.ofNat 32 (L 1).val) 2#32) (BitVec.ofNat 32 (L 0).val)
def base1 (L : grid0.Coords) : BitVec 32 := Scalar.muli (widB L) 120000#32
def base2 (L : grid0.Coords) : BitVec 32 := Scalar.muli (Scalar.addi (widB L) 32#32) 120000#32

theorem widB_eq (L : grid0.Coords) : widB L = BitVec.ofNat 32 (wid L) := by
  unfold widB wid Scalar.addi Scalar.muli IntOp.addi IntOp.muli
  rw [Nat.mul_comm 2, BitVec.ofNat_add, BitVec.ofNat_mul]

theorem base1_eq (L : grid0.Coords) : base1 L = BitVec.ofNat 32 (120000 * wid L) := by
  unfold base1; rw [widB_eq]; unfold Scalar.muli IntOp.muli
  rw [Nat.mul_comm, BitVec.ofNat_mul]

theorem base2_eq (L : grid0.Coords) : base2 L = BitVec.ofNat 32 (120000 * (wid L + 32)) := by
  unfold base2; rw [widB_eq]; unfold Scalar.muli Scalar.addi IntOp.muli IntOp.addi
  rw [Nat.mul_comm 120000, BitVec.ofNat_mul, BitVec.ofNat_add]

theorem off5_eq (L : grid0.Coords) : k0_off5 L 0 = 120000 * wid L := by
  have := wid_lt L
  show (base1 L).toNat = _
  rw [base1_eq, BitVec.toNat_ofNat]; omega

theorem off10_eq (L : grid0.Coords) : k0_off10 L 0 = 120000 * (wid L + 32) := by
  have := wid_lt L
  show (base2 L).toNat = _
  rw [base2_eq, BitVec.toNat_ofNat]; omega

theorem vecOff (t : ℕ) (ht : t < 125) : (Scalar.indexCast (Scalar.muli (Scf.iv 0#32 1#32 t) 16#32)).toNat = 16 * t := by
  have h : ∀ t : Fin 125, (Scalar.indexCast (Scalar.muli (Scf.iv 0#32 1#32 t.val) 16#32)).toNat = 16 * t.val := by decide
  exact h ⟨t, ht⟩

theorem chunkOff (t : ℕ) (ht : t < 125) (c : ℕ) (hc : c < 3) :
    (Scalar.muli (Scalar.addi (Scalar.muli 2#32 (Scf.iv 0#32 1#32 t)) (BitVec.ofNat 32 c)) 2000#32).toNat = 2000 * (2 * t + c) := by
  have h : ∀ (t : Fin 125) (c : Fin 3), (Scalar.muli (Scalar.addi (Scalar.muli 2#32 (Scf.iv 0#32 1#32 t.val)) (BitVec.ofNat 32 c.val)) 2000#32).toNat
      = 2000 * (2 * t.val + c.val) := by decide
  exact h ⟨t, ht⟩ ⟨c, hc⟩

theorem off2_eq (t : Fin k0_t2_loop.trips) : k0_off2 t 0 = 16 * t.val := vecOff t.val t.isLt
theorem off4_eq (t : Fin k0_t3_loop.trips) : k0_off4 t 0 = 16 * t.val := vecOff t.val t.isLt
theorem off7_eq (t : Fin k0_t5_loop.trips) : k0_off7 t 0 = 16 * t.val := vecOff t.val t.isLt
theorem off9_eq (t : Fin k0_t6_loop.trips) : k0_off9 t 0 = 16 * t.val := vecOff t.val t.isLt
theorem off12_eq (t : Fin k0_t8_loop.trips) : k0_off12 t 0 = 16 * t.val := vecOff t.val t.isLt
theorem off14_eq (t : Fin k0_t9_loop.trips) : k0_off14 t 0 = 16 * t.val := vecOff t.val t.isLt
theorem off1_eq (t : Fin k0_t1_loop.trips) : k0_off1 t 0 = 2000 * (2 * t.val + 1) := chunkOff t.val t.isLt 1 (by omega)
theorem off3_eq (t : Fin k0_t1_loop.trips) : k0_off3 t 0 = 2000 * (2 * t.val + 2) := chunkOff t.val t.isLt 2 (by omega)
theorem off6_eq (t : Fin k0_t4_loop.trips) : k0_off6 t 0 = 2000 * (2 * t.val + 1) := chunkOff t.val t.isLt 1 (by omega)
theorem off8_eq (t : Fin k0_t4_loop.trips) : k0_off8 t 0 = 2000 * (2 * t.val + 2) := chunkOff t.val t.isLt 2 (by omega)
theorem off11_eq (t : Fin k0_t7_loop.trips) : k0_off11 t 0 = 2000 * (2 * t.val + 1) := chunkOff t.val t.isLt 1 (by omega)
theorem off13_eq (t : Fin k0_t7_loop.trips) : k0_off13 t 0 = 2000 * (2 * t.val + 2) := chunkOff t.val t.isLt 2 (by omega)

theorem cond1_iff (t : Fin k0_t1_loop.trips) : k0_cond1 t = 1#1 ↔ 2 * t.val + 2 < 250 := by
  revert t; decide
theorem cond3_iff (t : Fin k0_t4_loop.trips) : k0_cond3 t = 1#1 ↔ 2 * t.val + 2 < 250 := cond1_iff t
theorem cond5_iff (t : Fin k0_t7_loop.trips) : k0_cond5 t = 1#1 ↔ 2 * t.val + 2 < 250 := cond1_iff t
theorem cond2_iff (L : grid0.Coords) : k0_cond2 L = 1#1 ↔ wid L < 9 := by
  have h : ∀ n : Fin 32, Scalar.cmpi .ne (Scalar.extui (Scalar.cmpi .slt (BitVec.ofNat 32 n.val) 9#32) : BitVec 32) 0#32 = 1#1 ↔ n.val < 9 := by decide
  show Scalar.cmpi .ne (Scalar.extui (Scalar.cmpi .slt (widB L) 9#32) : BitVec 32) 0#32 = 1#1 ↔ _
  rw [widB_eq]; exact h ⟨wid L, wid_lt L⟩
theorem cond4_iff (L : grid0.Coords) : k0_cond4 L = 1#1 ↔ wid L = 9 := by
  have h : ∀ n : Fin 32, Scalar.cmpi .ne (Scalar.extui (Scalar.cmpi .eq (BitVec.ofNat 32 n.val) 9#32) : BitVec 32) 0#32 = 1#1 ↔ n.val = 9 := by decide
  show Scalar.cmpi .ne (Scalar.extui (Scalar.cmpi .eq (widB L) 9#32) : BitVec 32) 0#32 = 1#1 ↔ _
  rw [widB_eq]; exact h ⟨wid L, wid_lt L⟩

end Cert.Proof

end
-- ==== Proof.Tile.lean ====
/-
  One tile's task: its ranges one after the other.
-/
module

public import proofs.«01_k».proof.Proof.Range
public import proofs.«01_k».proof.Proof.Nums

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD) (L : grid0.Coords)

/-- The chunk loop's body of the first range. -/
def body1 : Fin k0_t1_loop.trips → Unit → TProg F L Unit := fun t _ =>
  chunkA L k0_t2_loop k0_t2_ok k0_chk1 k0_chk1.dec k0_idx1_inb (base1 L) k0_off2 k0_off2_inb (k0_off1 t) (k0_off1_inb t) (k0_cond1 t) (k0_off3 t)
      (k0_off3_inb t) cc0_scratch5 cc0_scratch6 cc0_scratch7 cc0_scratch8
    >>= fun _ => chunkB L k0_t3_loop k0_t3_ok k0_chk2 k0_chk2.dec k0_idx2_inb (base1 L) k0_off4 k0_off4_inb cc0_scratch7 cc0_scratch8

/-- The chunk loop's body of the second range. -/
def body2 (h2 : k0_cond2 L = 1#1) : Fin k0_t4_loop.trips → Unit → TProg F L Unit := fun t _ =>
  chunkA L k0_t5_loop (k0_t5_ok L h2) (k0_chk3 L) (k0_chk3.dec L) (fun v h => k0_idx3_inb L v h h2) (base2 L) k0_off7 (fun t => k0_off7_inb L t h2)
      (k0_off6 t) (k0_off6_inb L t h2) (k0_cond3 t) (k0_off8 t) (k0_off8_inb L t h2) cc0_scratch5 cc0_scratch6 cc0_scratch7 cc0_scratch8
    >>= fun _ => chunkB L k0_t6_loop (k0_t6_ok L h2) (k0_chk4 L) (k0_chk4.dec L) (fun v h => k0_idx4_inb L v h h2) (base2 L) k0_off9
      (fun t => k0_off9_inb L t h2) cc0_scratch7 cc0_scratch8

/-- The chunk loop's body of the last range. -/
def body3 (h4 : k0_cond4 L = 1#1) : Fin k0_t7_loop.trips → Unit → TProg F L Unit := fun t _ =>
  chunkA L k0_t8_loop (k0_t8_ok L h4) (k0_chk5 L) (k0_chk5.dec L) (fun v h => k0_idx5_inb L v h h4) 4920000#32 k0_off12 (fun t => k0_off12_inb L t h4)
      (k0_off11 t) (k0_off11_inb L t h4) (k0_cond5 t) (k0_off13 t) (k0_off13_inb L t h4) cc0_scratch5 cc0_scratch6 cc0_scratch7 cc0_scratch8
    >>= fun _ => chunkB L k0_t9_loop (k0_t9_ok L h4) (k0_chk6 L) (k0_chk6.dec L) (fun v h => k0_idx6_inb L v h h4) 4920000#32 k0_off14
      (fun t => k0_off14_inb L t h4) cc0_scratch7 cc0_scratch8

/-- The tile's task over the ranges' program. -/
def tileProg : TProg F L PUnit :=
  rangeProg L k0_t1_loop k0_t1_ok (body1 L) 120000 (k0_off5 L) (k0_off5_inb L) inb_S120000_S120000_0 cc0_scratch5 cc0_scratch6 cc0_scoped0 cc0_scoped1
      (if h2 : k0_cond2 L = 1#1 then
        rangeProg L k0_t4_loop (k0_t4_ok L h2) (body2 L h2) 120000 (k0_off10 L) (k0_off10_inb L h2) inb_S120000_S120000_0 cc0_scratch5 cc0_scratch6
          cc0_scoped2 cc0_scoped3 (pure ⟨⟩)
      else pure ⟨⟩)
    >>= fun _ =>
      if h4 : k0_cond4 L = 1#1 then
        rangeProg L k0_t7_loop (k0_t7_ok L h4) (body3 L h4) 80000 ![4920000] inb_S5000000_S80000_4920000 inb_S120000_S80000_0 cc0_scratch5 cc0_scratch6
          cc0_scoped4 cc0_scoped5 (pure ⟨⟩)
      else pure ⟨⟩

set_option maxRecDepth 65536 in
theorem tileProg_eq : cc0_build (F := F) L srcV (Memref.isWhole_whole _) dstV (Memref.isWhole_whole _) zerV (Memref.isWhole_whole _) outV (Memref.isWhole_whole _)
      blkV (Memref.isWhole_whole _) sb0V (Memref.isWhole_whole _) db0V (Memref.isWhole_whole _) sb1V (Memref.isWhole_whole _) db1V (Memref.isWhole_whole _)
      cc0_scratch5 cc0_scratch6 cc0_scratch7 cc0_scratch8 cc0_scoped0 cc0_scoped1 cc0_scoped2 cc0_scoped3 cc0_scoped4 cc0_scoped5
    = tileProg L := by
  rw [cc0_build_eq_skeleton]
  rfl

end Cert.Proof

end
-- ==== Proof.Body.lean ====
/-
  One tile's task, its triple: the words of the counts that the tile owns are left at the counts.
-/
module

public import proofs.«01_k».proof.Proof.Tile

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD) (L : grid0.Coords)

/-! ## The chunk loops' bodies -/

theorem hbody1 (q q' : PosShare TreeShare) (src dst : IVec S500000 32) (z : Vec F S120000 .f32) (O : CellTallies nD τ sig (HIx 1))
    (W : Waits sig (HIx 1)) (t : Fin k0_t1_loop.trips) (u : Unit) :
    chunkInv (F := F) d L cc0_scratch5 cc0_scratch6 cc0_scratch7 cc0_scratch8 q q' (base1 L) src dst z O W t.val
      ⊢ wp frame (wpE (defs₀ (F := F)) 𝒱₀ (tile d L) none) Set.univ (body1 L t u)
          fun _ => chunkInv (F := F) d L cc0_scratch5 cc0_scratch6 cc0_scratch7 cc0_scratch8 q q' (base1 L) src dst z O W (t.val + 1) :=
  wp_chunk d L k0_t2_loop k0_t3_loop k0_t2_ok k0_t3_ok rfl rfl k0_chk1 k0_chk2 k0_chk1.dec k0_chk2.dec k0_idx1_inb k0_idx2_inb
    (fun _ h => h) (fun _ h => h) (base1 L) k0_off2 k0_off4 k0_off2_inb k0_off4_inb off2_eq off4_eq (k0_off1 t) (k0_off1_inb t) (k0_cond1 t)
    (k0_off3 t) (k0_off3_inb t) cc0_scratch5 cc0_scratch6 cc0_scratch7 cc0_scratch8 src dst z q q' O W t.val t.isLt (off1_eq t) (cond1_iff t)
    (off3_eq t)

theorem hbody2 (h2 : k0_cond2 L = 1#1) (q q' : PosShare TreeShare) (src dst : IVec S500000 32) (z : Vec F S120000 .f32)
    (O : CellTallies nD τ sig (HIx 1)) (W : Waits sig (HIx 1)) (t : Fin k0_t4_loop.trips) (u : Unit) :
    chunkInv (F := F) d L cc0_scratch5 cc0_scratch6 cc0_scratch7 cc0_scratch8 q q' (base2 L) src dst z O W t.val
      ⊢ wp frame (wpE (defs₀ (F := F)) 𝒱₀ (tile d L) none) Set.univ (body2 L h2 t u)
          fun _ => chunkInv (F := F) d L cc0_scratch5 cc0_scratch6 cc0_scratch7 cc0_scratch8 q q' (base2 L) src dst z O W (t.val + 1) :=
  wp_chunk d L k0_t5_loop k0_t6_loop (k0_t5_ok L h2) (k0_t6_ok L h2) rfl rfl (k0_chk3 L) (k0_chk4 L) (k0_chk3.dec L) (k0_chk4.dec L)
    (fun v h => k0_idx3_inb L v h h2) (fun v h => k0_idx4_inb L v h h2)
    (fun _ h _ => h) (fun _ h _ => h) (base2 L) k0_off7 k0_off9 (fun t => k0_off7_inb L t h2) (fun t => k0_off9_inb L t h2) off7_eq off9_eq
    (k0_off6 t) (k0_off6_inb L t h2) (k0_cond3 t)
    (k0_off8 t) (k0_off8_inb L t h2) cc0_scratch5 cc0_scratch6 cc0_scratch7 cc0_scratch8 src dst z q q' O W t.val t.isLt (off6_eq t) (cond3_iff t)
    (off8_eq t)

theorem hbody3 (h4 : k0_cond4 L = 1#1) (q q' : PosShare TreeShare) (src dst : IVec S500000 32) (z : Vec F S120000 .f32)
    (O : CellTallies nD τ sig (HIx 1)) (W : Waits sig (HIx 1)) (t : Fin k0_t7_loop.trips) (u : Unit) :
    chunkInv (F := F) d L cc0_scratch5 cc0_scratch6 cc0_scratch7 cc0_scratch8 q q' 4920000#32 src dst z O W t.val
      ⊢ wp frame (wpE (defs₀ (F := F)) 𝒱₀ (tile d L) none) Set.univ (body3 L h4 t u)
          fun _ => chunkInv (F := F) d L cc0_scratch5 cc0_scratch6 cc0_scratch7 cc0_scratch8 q q' 4920000#32 src dst z O W (t.val + 1) :=
  wp_chunk d L k0_t8_loop k0_t9_loop (k0_t8_ok L h4) (k0_t9_ok L h4) rfl rfl (k0_chk5 L) (k0_chk6 L) (k0_chk5.dec L) (k0_chk6.dec L)
    (fun v h => k0_idx5_inb L v h h4) (fun v h => k0_idx6_inb L v h h4)
    (fun _ h _ => h) (fun _ h _ => h) 4920000#32 k0_off12 k0_off14 (fun t => k0_off12_inb L t h4) (fun t => k0_off14_inb L t h4) off12_eq off14_eq
    (k0_off11 t) (k0_off11_inb L t h4) (k0_cond5 t)
    (k0_off13 t) (k0_off13_inb L t h4) cc0_scratch5 cc0_scratch6 cc0_scratch7 cc0_scratch8 src dst z q q' O W t.val t.isLt (off11_eq t) (cond5_iff t)
    (off13_eq t)

/-! ## The words of a tile -/

/-- The tile that counts range `r`. -/
def ownerOf (r : ℕ) : ℕ := if r < 32 then r else if r < 41 then r - 32 else 9

/-- The words of the counts that tile `w` owns. -/
def tset (w : ℕ) : Finset S5000000.Idx := Finset.univ.filter fun x => ownerOf ((x 0).val / 120000) = w

theorem mem_tset {w : ℕ} {x : S5000000.Idx} : x ∈ tset w ↔ ownerOf ((x 0).val / 120000) = w := by
  unfold tset; rw [Finset.mem_filter]; exact ⟨fun h => h.2, fun h => ⟨Finset.mem_univ _, h⟩⟩

/-- The words `[off, off + n)` of the counts. -/
abbrev outS (n : ℕ) (off : Fin 1 → ℕ) (inb : ∀ a, off a + (Sw n).size a ≤ S5000000.size a) : Memref sig .scVector .hbm (Sw n) .f32 :=
  outV.slice (Rect.unit (s := S5000000) off (Sw n).size inb) (fun _ => rfl)

theorem mem_outS {n : ℕ} {off : Fin 1 → ℕ} {inb : ∀ a, off a + (Sw n).size a ≤ S5000000.size a} {x : S5000000.Idx} :
    x ∈ (outS n off inb).view.set ↔ off 0 ≤ (x 0).val ∧ (x 0).val < off 0 + n := by
  have hv : ∀ y : (Sw n).Idx, ((outS n off inb).view.emb y 0).val = off 0 + (y 0).val := by
    intro y
    show ((Rect.unit (s := S5000000) off (Sw n).size inb).emb y 0).val = _
    rw [Rect.emb_apply]; simp
  constructor
  · intro h
    obtain ⟨y, -, rfl⟩ := Finset.mem_map.mp h
    have hy : (y 0).val < n := (y 0).isLt
    rw [hv]; omega
  · intro h
    refine Finset.mem_map.mpr ⟨fun a => ⟨(x 0).val - off 0, by rw [Subsingleton.elim a 0]; show _ < n; omega⟩, Finset.mem_univ _, ?_⟩
    funext a; rw [Subsingleton.elim a 0]; apply Fin.ext
    rw [hv]; simp; omega

/-- The counts' words `I`, at contents `f`. -/
def outPts (I : Finset S5000000.Idx) (f : Vec F S5000000 .f32) : sProp 𝕄 := iprop(outV.view.loc (tile d L) ↦[I]{fullShare} f)

theorem outPts_split {I J : Finset S5000000.Idx} (h : I ⊆ J) (f : Vec F S5000000 .f32) :
    outPts d L J f ⊣⊢ iprop(outPts (F := F) d L I f ∗ outPts d L (J \ I) f) :=
  pointsTo_split_subset h

theorem outPts_congr {I : Finset S5000000.Idx} {f g : Vec F S5000000 .f32} (h : ∀ i ∈ I, f i = g i) : outPts d L I f = outPts (F := F) d L I g :=
  pointsTo_congr h

/-- The six semaphores of the tile's copies of whole blocks, at zero. -/
def blockSems : sProp 𝕄 :=
  iprop((semVal (tile d L, SemLoc.dma cc0_scoped0.sem) 0 ∗ semVal (tile d L, SemLoc.dma cc0_scoped1.sem) 0)
    ∗ (semVal (tile d L, SemLoc.dma cc0_scoped2.sem) 0 ∗ semVal (tile d L, SemLoc.dma cc0_scoped3.sem) 0)
    ∗ (semVal (tile d L, SemLoc.dma cc0_scoped4.sem) 0 ∗ semVal (tile d L, SemLoc.dma cc0_scoped5.sem) 0))

section
variable (q q' qz : PosShare TreeShare) (src dst : IVec S500000 32) (z : Vec F S120000 .f32) (O : CellTallies nD τ sig (HIx 1))
  (W : Waits sig (HIx 1))

/-- What a tile holds between ranges, its own semaphores filled in. -/
abbrev tileS : sProp 𝕄 := tileSt (F := F) d L cc0_scratch5 cc0_scratch6 cc0_scratch7 cc0_scratch8 q q' qz src dst z O W

/-- A range's triple over the tile's own words. -/
theorem wp_rangeP (l : Scf.Loop 32) (hok : l.OK) (htr : l.trips = 125) (body : Fin l.trips → Unit → TProg F L Unit) (n : ℕ) (hn : 0 < n) (hn' : n ≤ 120000)
    (off : Fin 1 → ℕ) (inb : ∀ a, off a + (Sw n).size a ≤ S5000000.size a) (inb' : ∀ a, (![0] : Fin 1 → ℕ) a + (Sw n).size a ≤ S120000.size a)
    (r0 r1 : DmaSems sig S_) (base : BitVec 32) (r : ℕ) (hbase : base = BitVec.ofNat 32 (120000 * r)) (hoff : off 0 = 120000 * r)
    (hbody : ∀ (t : Fin l.trips) (u : Unit), chunkInv (F := F) d L cc0_scratch5 cc0_scratch6 cc0_scratch7 cc0_scratch8 q q' base src dst z O W t.val
      ⊢ wp frame (wpE (defs₀ (F := F)) 𝒱₀ (tile d L) none) Set.univ (body t u)
          fun _ => chunkInv (F := F) d L cc0_scratch5 cc0_scratch6 cc0_scratch7 cc0_scratch8 q q' base src dst z O W (t.val + 1))
    (k : TProg F L PUnit) (fo : Vec F S5000000 .f32) {Q : PUnit → sProp 𝕄} :
    iprop(tileS d L q q' qz src dst z O W ∗ semVal (tile d L, SemLoc.dma r0.sem) 0 ∗ semVal (tile d L, SemLoc.dma r1.sem) 0
        ∗ outPts d L (outS n off inb).view.set fo)
      ⊢ iprop((iprop(tileS d L q q' qz src dst z O W ∗ semVal (tile d L, SemLoc.dma r0.sem) 0 ∗ semVal (tile d L, SemLoc.dma r1.sem) 0
          ∗ outPts d L (outS n off inb).view.set (outF src dst z))
          -∗ wp frame (wpE (defs₀ (F := F)) 𝒱₀ (tile d L) none) Set.univ k Q)
        -∗ wp frame (wpE (defs₀ (F := F)) 𝒱₀ (tile d L) none) Set.univ (rangeProg L l hok body n off inb inb' cc0_scratch5 cc0_scratch6 r0 r1 k) Q) :=
  wp_range d L l hok htr body n hn hn' off inb inb' cc0_scratch5 cc0_scratch6 cc0_scratch7 cc0_scratch8 r0 r1 q q' qz base r hbase hoff src dst z O W
    hbody k fo

set_option maxHeartbeats 800000 in
/-- The tile's task leaves the words it owns at the counts. -/
theorem wp_tile (fo : Vec F S5000000 .f32) :
    iprop(tileS d L q q' qz src dst z O W ∗ blockSems (F := F) d L ∗ outPts d L (tset (wid L)) fo)
      ⊢ wp frame (wpE (defs₀ (F := F)) 𝒱₀ (tile d L) none) Set.univ (tileProg L)
          fun _ => iprop(tileS d L q q' qz src dst z O W ∗ blockSems (F := F) d L ∗ outPts d L (tset (wid L)) (outF src dst z)) := by
  have hw := wid_lt L
  have h1 : (outS 120000 (k0_off5 L) (k0_off5_inb L)).view.set ⊆ tset (wid L) := by
    intro x hx
    rw [mem_outS, off5_eq] at hx
    rw [mem_tset]
    have : (x 0).val / 120000 = wid L := by omega
    rw [this]; unfold ownerOf; rw [if_pos hw]
  unfold tileProg
  rw [wp_bind]
  unfold blockSems
  iintro ⟨Hst, ⟨⟨Hr0, Hr1⟩, ⟨Hr2, Hr3⟩, Hr4, Hr5⟩, Ho⟩
  ihave Ho := (outPts_split d L h1 fo).1 $$ Ho
  icases Ho with ⟨Ho, Hrest⟩
  iapply (wp_rangeP d L q q' qz src dst z O W k0_t1_loop k0_t1_ok rfl (body1 L) 120000 (by omega) (by omega) (k0_off5 L) (k0_off5_inb L) inb_S120000_S120000_0 cc0_scoped0 cc0_scoped1 (base1 L) (wid L) (base1_eq L) (off5_eq L)
    (hbody1 d L q q' src dst z O W) _ fo) $$ [Hst Hr0 Hr1 Ho]
  · isplitl [Hst]; · iexact Hst
    isplitl [Hr0]; · iexact Hr0
    isplitl [Hr1]; · iexact Hr1
    iexact Ho
  iintro ⟨Hst, Hr0, Hr1, Ho⟩
  by_cases h2 : k0_cond2 L = 1#1
  · have hw2 := (cond2_iff L).mp h2
    have h4 : ¬ k0_cond4 L = 1#1 := fun h => by have := (cond4_iff L).mp h; omega
    simp only [dif_pos h2, dif_neg h4]
    have h2s : (outS 120000 (k0_off10 L) (k0_off10_inb L h2)).view.set ⊆ tset (wid L) \ (outS 120000 (k0_off5 L) (k0_off5_inb L)).view.set := by
      intro x hx
      rw [mem_outS, off10_eq] at hx
      rw [Finset.mem_sdiff, mem_tset, mem_outS, off5_eq]
      have : (x 0).val / 120000 = wid L + 32 := by omega
      rw [this]; unfold ownerOf; constructor
      · rw [if_neg (by omega), if_pos (by omega)]; omega
      · omega
    have hrem : ∀ x ∈ (tset (wid L) \ (outS 120000 (k0_off5 L) (k0_off5_inb L)).view.set)
        \ (outS 120000 (k0_off10 L) (k0_off10_inb L h2)).view.set, fo x = outF src dst z x := by
      intro x hx
      exfalso
      rw [Finset.mem_sdiff, Finset.mem_sdiff, mem_tset, mem_outS, mem_outS, off5_eq, off10_eq] at hx
      obtain ⟨⟨ha, hb⟩, hc⟩ := hx
      unfold ownerOf at ha
      split at ha
      · omega
      · split at ha <;> omega
    ihave Hrest := (outPts_split d L h2s fo).1 $$ Hrest
    icases Hrest with ⟨Ho2, Hrest⟩
    iapply (wp_rangeP d L q q' qz src dst z O W k0_t4_loop (k0_t4_ok L h2) rfl (body2 L h2) 120000 (by omega) (by omega) (k0_off10 L) (k0_off10_inb L h2) inb_S120000_S120000_0 cc0_scoped2 cc0_scoped3 (base2 L) (wid L + 32) (base2_eq L) (off10_eq L)
      (hbody2 d L h2 q q' src dst z O W) _ fo) $$ [Hst Hr2 Hr3 Ho2]
    · isplitl [Hst]; · iexact Hst
      isplitl [Hr2]; · iexact Hr2
      isplitl [Hr3]; · iexact Hr3
      iexact Ho2
    iintro ⟨Hst, Hr2, Hr3, Ho2⟩
    simp only [Prog.pure_eq_ret]
    rw [wp_ret]; imodintro
    rw [wp_ret]; imodintro
    ihave Hrest := (Entails.of_eq (outPts_congr d L hrem)) $$ Hrest
    ihave Hrest := (outPts_split d L h2s (outF src dst z)).2 $$ [Ho2 Hrest]
    · isplitl [Ho2] <;> iassumption
    ihave Ho := (outPts_split d L h1 (outF src dst z)).2 $$ [Ho Hrest]
    · isplitl [Ho] <;> iassumption
    isplitl [Hst]; · iexact Hst
    isplitr [Ho]
    · isplitl [Hr0 Hr1]
      · isplitl [Hr0] <;> iassumption
      isplitl [Hr2 Hr3]
      · isplitl [Hr2] <;> iassumption
      isplitl [Hr4] <;> iassumption
    · iexact Ho
  · have hw2 : ¬ wid L < 9 := fun h => h2 ((cond2_iff L).mpr h)
    simp only [dif_neg h2, Prog.pure_eq_ret]
    rw [wp_ret]; imodintro
    by_cases h4 : k0_cond4 L = 1#1
    · have hw4 := (cond4_iff L).mp h4
      simp only [dif_pos h4]
      have h3s : (outS 80000 ![4920000] inb_S5000000_S80000_4920000).view.set ⊆ tset (wid L) \ (outS 120000 (k0_off5 L) (k0_off5_inb L)).view.set := by
        intro x hx
        have hx5 : (x 0).val < 5000000 := (x 0).isLt
        rw [mem_outS] at hx
        have hx' : 4920000 ≤ (x 0).val := hx.1
        rw [Finset.mem_sdiff, mem_tset, mem_outS, off5_eq]
        have : (x 0).val / 120000 = 41 := by omega
        rw [this]; constructor
        · rw [hw4]; rfl
        · omega
      have hrem : ∀ x ∈ (tset (wid L) \ (outS 120000 (k0_off5 L) (k0_off5_inb L)).view.set)
          \ (outS 80000 ![4920000] inb_S5000000_S80000_4920000).view.set, fo x = outF src dst z x := by
        intro x hx
        exfalso
        have hx5 : (x 0).val < 5000000 := (x 0).isLt
        rw [Finset.mem_sdiff, Finset.mem_sdiff, mem_tset, mem_outS, mem_outS, off5_eq] at hx
        obtain ⟨⟨ha, hb⟩, hc⟩ := hx
        have hc' : ¬ (4920000 ≤ (x 0).val ∧ (x 0).val < 4920000 + 80000) := hc
        unfold ownerOf at ha
        split at ha
        · omega
        · split at ha <;> omega
      ihave Hrest := (outPts_split d L h3s fo).1 $$ Hrest
      icases Hrest with ⟨Ho2, Hrest⟩
      iapply (wp_rangeP d L q q' qz src dst z O W k0_t7_loop (k0_t7_ok L h4) rfl (body3 L h4) 80000 (by omega) (by omega) ![4920000] inb_S5000000_S80000_4920000 inb_S120000_S80000_0 cc0_scoped4 cc0_scoped5 4920000#32 41 rfl rfl
        (hbody3 d L h4 q q' src dst z O W) _ fo) $$ [Hst Hr4 Hr5 Ho2]
      · isplitl [Hst]; · iexact Hst
        isplitl [Hr4]; · iexact Hr4
        isplitl [Hr5]; · iexact Hr5
        iexact Ho2
      iintro ⟨Hst, Hr4, Hr5, Ho2⟩
      simp only [Prog.pure_eq_ret]
      rw [wp_ret]; imodintro
      ihave Hrest := (Entails.of_eq (outPts_congr d L hrem)) $$ Hrest
      ihave Hrest := (outPts_split d L h3s (outF src dst z)).2 $$ [Ho2 Hrest]
      · isplitl [Ho2] <;> iassumption
      ihave Ho := (outPts_split d L h1 (outF src dst z)).2 $$ [Ho Hrest]
      · isplitl [Ho] <;> iassumption
      isplitl [Hst]; · iexact Hst
      isplitr [Ho]
      · isplitl [Hr0 Hr1]
        · isplitl [Hr0] <;> iassumption
        isplitl [Hr2 Hr3]
        · isplitl [Hr2] <;> iassumption
        isplitl [Hr4] <;> iassumption
      · iexact Ho
    · have hw4 : ¬ wid L = 9 := fun h => h4 ((cond4_iff L).mpr h)
      simp only [dif_neg h4]
      rw [wp_ret]; imodintro
      have hrem : ∀ x ∈ tset (wid L) \ (outS 120000 (k0_off5 L) (k0_off5_inb L)).view.set, fo x = outF src dst z x := by
        intro x hx
        exfalso
        rw [Finset.mem_sdiff, mem_tset, mem_outS, off5_eq] at hx
        obtain ⟨ha, hb⟩ := hx
        unfold ownerOf at ha
        split at ha
        · omega
        · split at ha <;> omega
      ihave Hrest := (Entails.of_eq (outPts_congr d L hrem)) $$ Hrest
      ihave Ho := (outPts_split d L h1 (outF src dst z)).2 $$ [Ho Hrest]
      · isplitl [Ho] <;> iassumption
      isplitl [Hst]; · iexact Hst
      isplitr [Ho]
      · isplitl [Hr0 Hr1]
        · isplitl [Hr0] <;> iassumption
        isplitl [Hr2 Hr3]
        · isplitl [Hr2] <;> iassumption
        isplitl [Hr4] <;> iassumption
      · iexact Ho

end

end Cert.Proof

end
-- ==== Proof.Call.lean ====
/-
  The counting call in the program: what the call takes and brings back, a tile's task as the launch theorem wants it,
  and the call as @main makes it.
-/
module

public import proofs.«01_k».proof.Proof.Body
public import Idealize.ShloMosaic.Lib.Pipeline.Frame

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (ucRefs unscopedBufs_held sub_ucRefs)

variable {F : FTy → Type} [FloatOps F]

local notation "𝕄" => MT nD τ sig (HIx 1) (Elt F) ℕ UU ℕ

/-! ## A tile's own buffers and semaphores -/

section Own
variable (d : Dev nD) (L : grid0.Coords)

/-- The cell of a DMA semaphore of the tile. -/
abbrev dcell (s : DmaSems sig S_) : GSem nD τ sig := (tile d L, SemLoc.dma s.sem)

theorem dcell_mem (s : DmaSems sig S_) (h : (SemLoc.dma s.sem : SemLoc sig).isScoped .scVector = true) : dcell d L s ∈ ownCells (tile d L) :=
  mem_ownCells.mpr ⟨rfl, h⟩

theorem dcell_ne {s s' : DmaSems sig S_} (h : s.sem ≠ s'.sem) : dcell d L s ≠ dcell d L s' :=
  fun e => h (SemLoc.dma.inj (Prod.mk.inj e).2)

/-- A tile's cells other than those of its copies. -/
def otherCells : Finset (GSem nD τ sig) :=
  ((((((((((ownCells (tile d L)).erase (dcell d L cc0_scratch5)).erase (dcell d L cc0_scratch6)).erase (dcell d L cc0_scratch7)).erase
    (dcell d L cc0_scratch8)).erase (dcell d L cc0_scoped0)).erase (dcell d L cc0_scoped1)).erase (dcell d L cc0_scoped2)).erase
    (dcell d L cc0_scoped3)).erase (dcell d L cc0_scoped4)).erase (dcell d L cc0_scoped5)

theorem ownSems0_tile :
    (ownSems0 (tile d L) : sProp 𝕄)
      = iprop(semVal (dcell d L cc0_scratch5) 0 ∗ semVal (dcell d L cc0_scratch6) 0 ∗ semVal (dcell d L cc0_scratch7) 0
          ∗ semVal (dcell d L cc0_scratch8) 0 ∗ semVal (dcell d L cc0_scoped0) 0 ∗ semVal (dcell d L cc0_scoped1) 0
          ∗ semVal (dcell d L cc0_scoped2) 0 ∗ semVal (dcell d L cc0_scoped3) 0 ∗ semVal (dcell d L cc0_scoped4) 0
          ∗ semVal (dcell d L cc0_scoped5) 0 ∗ bigSep (otherCells d L) fun g => semVal g 0) := by
  unfold SparseCore.Cfg.ownSems0 otherCells
  have key : ∀ (s : DmaSems sig S_) (X : Finset (GSem nD τ sig)), dcell d L s ∈ X →
      (bigSep X (fun g => (semVal g 0 : sProp 𝕄))) = iprop(semVal (dcell d L s) 0 ∗ bigSep (X.erase (dcell d L s)) fun g => semVal g 0) :=
    fun s X h => SparseCore.bigSep_erase' h
  rw [key cc0_scratch5 _ (dcell_mem d L _ (by decide)),
    key cc0_scratch6 _ ?_, key cc0_scratch7 _ ?_, key cc0_scratch8 _ ?_, key cc0_scoped0 _ ?_, key cc0_scoped1 _ ?_, key cc0_scoped2 _ ?_,
    key cc0_scoped3 _ ?_, key cc0_scoped4 _ ?_, key cc0_scoped5 _ ?_]
  all_goals
    repeat' (first | exact dcell_mem d L _ (by decide) | refine Finset.mem_erase.mpr ⟨dcell_ne d L (by decide), ?_⟩)

/-- A tile's buffer as a reference of the device. -/
abbrev dbuf (b : Ref sig .scVector) : DevRef τ sig := (Proc.scVector (cV L) (jV L)).devRef b

theorem dbuf_ne {b b' : Ref sig .scVector} (h : b ≠ b') : dbuf L b ≠ dbuf L b' := fun e => h (Proc.devRef_injective _ e)

theorem dbuf_mem (b : Ref sig .scVector) (h : (dbuf L b).owner = Owner.proc (Proc.scVector (cV L) (jV L))) :
    dbuf L b ∈ ownRefs (τ := τ) (.scVector (cV L) (jV L)) :=
  SparseCore.Cfg.mem_ownRefs_of_owner (p := Proc.scVector (cV L) (jV L)) (b := dbuf L b) h

/-- A tile's buffers other than the block and the four index buffers. -/
def otherRefs : Finset (DevRef τ sig) :=
  (((((ownRefs (τ := τ) (.scVector (cV L) (jV L))).erase (dbuf L cc0_scratch0)).erase (dbuf L cc0_scratch1)).erase (dbuf L cc0_scratch2)).erase
    (dbuf L cc0_scratch3)).erase (dbuf L cc0_scratch4)

set_option maxHeartbeats 2000000 in
theorem ownBufs_tile :
    (ownBufs (tile d L) : sProp 𝕄)
      = iprop((∃ f, (tile d L).loc cc0_scratch0 ↦{fullShare} f) ∗ (∃ f, (tile d L).loc cc0_scratch1 ↦{fullShare} f)
          ∗ (∃ f, (tile d L).loc cc0_scratch2 ↦{fullShare} f) ∗ (∃ f, (tile d L).loc cc0_scratch3 ↦{fullShare} f)
          ∗ (∃ f, (tile d L).loc cc0_scratch4 ↦{fullShare} f)
          ∗ bigSep (otherRefs L) fun b => iprop(∃ f, ((d, b) : Loc nD τ sig) ↦{fullShare} f)) := by
  unfold SparseCore.Cfg.ownBufs otherRefs
  have key : ∀ (r : Ref sig .scVector) (X : Finset (DevRef τ sig)), dbuf L r ∈ X →
      (bigSep X (fun b => (iprop(∃ f, ((d, b) : Loc nD τ sig) ↦{fullShare} f) : sProp 𝕄)))
        = iprop((∃ f, (tile d L).loc r ↦{fullShare} f) ∗ bigSep (X.erase (dbuf L r)) fun b => iprop(∃ f, ((d, b) : Loc nD τ sig) ↦{fullShare} f)) :=
    fun r X h => SparseCore.bigSep_erase' h
  refine (key cc0_scratch0 _ (SparseCore.Cfg.mem_ownRefs_of_owner (p := Proc.scVector (cV L) (jV L)) (b := dbuf L cc0_scratch0) rfl)).trans ?_
  rw [key cc0_scratch1 _ ?_, key cc0_scratch2 _ ?_, key cc0_scratch3 _ ?_, key cc0_scratch4 _ ?_]
  all_goals
    repeat' (first | exact dbuf_mem L _ rfl | refine Finset.mem_erase.mpr ⟨dbuf_ne L (by decide), ?_⟩)

end Own

/-! ## A tile's part of the arrays -/

variable (m : (ℓ : Loc nD τ sig) → Buf (Elt F) ℓ) (d : Dev nD)

/-- The zeros that the program makes for the blocks. -/
def zeros : Vec F S120000 .f32 := broadcastInDim S120000 ![] bcast_S_S120000 (constant (F := F) S_ .f32 0x00000000#32)

/-- The edge lists of device `d`. -/
def srcOf : IVec S500000 32 := m ((T d : Thread nD τ).loc main_arg1)
def dstOf : IVec S500000 32 := m ((T d : Thread nD τ).loc main_arg2)

/-- The counts of device `d`'s edges. -/
def outOf : Vec F S5000000 .f32 := outF (srcOf m d) (dstOf m d) zeros

/-- What tile `w` holds of the arrays: a read share of the edge lists and of the zeros, its words of the counts at `f`. -/
def part (w : ℕ) (f : Vec F S5000000 .f32) : sProp 𝕄 :=
  iprop(((T d : Thread nD τ).loc main_arg1 ↦[Finset.univ]{Transfers.shareTokN fullShare w} srcOf m d)
    ∗ ((T d : Thread nD τ).loc main_arg2 ↦[Finset.univ]{Transfers.shareTokN fullShare w} dstOf m d)
    ∗ ((T d : Thread nD τ).loc main_v0 ↦[Finset.univ]{Transfers.shareTokN fullShare w} (zeros : Vec F S120000 .f32))
    ∗ ((T d : Thread nD τ).loc main_v1 ↦[tset w]{fullShare} f))

section Tile
variable (L : grid0.Coords)

theorem part_tile (w : ℕ) (f : Vec F S5000000 .f32) :
    part m d w f = iprop((srcV.view.loc (tile d L) ↦[Finset.univ]{Transfers.shareTokN fullShare w} srcOf m d)
    ∗ (dstV.view.loc (tile d L) ↦[Finset.univ]{Transfers.shareTokN fullShare w} dstOf m d)
    ∗ (zerV.view.loc (tile d L) ↦[Finset.univ]{Transfers.shareTokN fullShare w} (zeros : Vec F S120000 .f32))
    ∗ outPts d L (tset w) f) := rfl

set_option maxHeartbeats 800000 in
/-- The task of tile `L`: its words of the counts go from any contents to the counts. -/
theorem tile_body (hF : (K (F := F)).Facts) (O : CellTallies nD τ sig (HIx 1)) (W : Waits sig (HIx 1)) (hO : ∀ g, O g none = 0)
    (fo : Vec F S5000000 .f32) :
    iprop(levAts (K (F := F)).L (K (F := F)).lev ∗ emp ∗ part m d (wid L) fo ∗ scopedBufs (tile d L) ∗ scopedSems0 (tile d L) ∗ owes (tile d L) O W)
      ⊢ wp frame (wpE (defs₀ (F := F)) 𝒱₀ (tile d L) none) Set.univ
          (cc0_build (F := F) L srcV (Memref.isWhole_whole _) dstV (Memref.isWhole_whole _) zerV (Memref.isWhole_whole _) outV (Memref.isWhole_whole _)
            blkV (Memref.isWhole_whole _) sb0V (Memref.isWhole_whole _) db0V (Memref.isWhole_whole _) sb1V (Memref.isWhole_whole _) db1V (Memref.isWhole_whole _)
            cc0_scratch5 cc0_scratch6 cc0_scratch7 cc0_scratch8 cc0_scoped0 cc0_scoped1 cc0_scoped2 cc0_scoped3 cc0_scoped4 cc0_scoped5)
          fun _ => iprop(part m d (wid L) (outOf m d) ∗ scopedBufs (tile d L) ∗ scopedSems0 (tile d L)
            ∗ ∃ W', ⌜∀ p ∈ W', p ∈ W ∨ p.2 = none⌝ ∗ owes (tile d L) O W') := by
  rw [(K (F := F)).scopedBufs_V hF d (cV L) (jV L), SparseCore.Cfg.scopedSems0_V (Val := Elt F) d (cV L) (jV L), ownSems0_tile, ownBufs_tile,
    tileProg_eq, part_tile m d L, part_tile m d L]
  have hsh := fun (q : PosShare TreeShare) (ℓ : Loc nD τ sig) (f : Buf (Elt F) ℓ) =>
    pointsTo_share (Ix := HIx 1) (Name := ℕ) (U := UU) (Lvl := ℕ) (Val := Elt F) (ℓ := ℓ) (I := Finset.univ) (f := f) (PosShare.mem_left_op_right q)
  iintro ⟨#Hlev, -, ⟨Hs, Hd, Hz, Ho⟩, ⟨Hb0, Hb1, Hb2, Hb3, Hb4, Hbr⟩, ⟨H5, H6, H7, H8, R0, R1, R2, R3, R4, R5, Hcr⟩, HO⟩
  ihave Hs := (hsh _ _ _).1 $$ Hs
  icases Hs with ⟨Hs, Hs'⟩
  ihave Hd := (hsh _ _ _).1 $$ Hd
  icases Hd with ⟨Hd, Hd'⟩
  iapply (wp_wand frame (wpE (defs₀ (F := F)) 𝒱₀ (tile d L) none) Set.univ) $$ [Hs Hd Hs' Hd' Hz Ho Hb0 Hb1 Hb2 Hb3 Hb4 H5 H6 H7 H8 R0 R1 R2 R3 R4 R5 HO]
  · iapply (wp_tile d L (Transfers.shareTokN fullShare (wid L)).left (Transfers.shareTokN fullShare (wid L)).right (Transfers.shareTokN fullShare (wid L))
      (srcOf m d) (dstOf m d) zeros O W fo)
    unfold tileS tileSt blockSems block idle someBuf table owed
    isplitr [Ho R0 R1 R2 R3 R4 R5]
    · isplitr; · iapply ((K (F := F)).mayWaits_none (thr := tile d L) hO); iexact Hlev
      isplitl [Hb0]; · iexact Hb0
      isplitl [Hb1 Hb2 Hs Hd H5 H6]
      · isplitl [Hb1 Hs H5]
        · isplitl [Hb1]; · iexact Hb1
          isplitl [Hs] <;> iassumption
        · isplitl [Hb2]; · iexact Hb2
          isplitl [Hd] <;> iassumption
      isplitl [Hb3 Hb4 Hs' Hd' H7 H8]
      · isplitl [Hb3 Hs' H7]
        · isplitl [Hb3]; · iexact Hb3
          isplitl [Hs'] <;> iassumption
        · isplitl [Hb4]; · iexact Hb4
          isplitl [Hd'] <;> iassumption
      isplitl [Hz]; · iexact Hz
      iexists W; isplitr
      · ipureintro; exact fun p hp => .inl hp
      · iexact HO
    isplitl [R0 R1 R2 R3 R4 R5]
    · isplitl [R0 R1]
      · isplitl [R0] <;> iassumption
      isplitl [R2 R3]
      · isplitl [R2] <;> iassumption
      isplitl [R4] <;> iassumption
    · iexact Ho
  iintro %u ⟨Hst, Hsems, Ho⟩
  unfold tileS tileSt blockSems block idle someBuf table owed
  icases Hst with ⟨-, Hb0, ⟨⟨Hb1, Hs, H5⟩, Hb2, Hd, H6⟩, ⟨⟨Hb3, Hs', H7⟩, Hb4, Hd', H8⟩, Hz, HO⟩
  icases Hsems with ⟨⟨R0, R1⟩, ⟨R2, R3⟩, R4, R5⟩
  ihave Hs := (hsh _ _ _).2 $$ [Hs Hs']
  · isplitl [Hs] <;> iassumption
  ihave Hd := (hsh _ _ _).2 $$ [Hd Hd']
  · isplitl [Hd] <;> iassumption
  isplitl [Hs Hd Hz Ho]
  · isplitl [Hs]; · iexact Hs
    isplitl [Hd]; · iexact Hd
    isplitl [Hz]; · iexact Hz
    iexact Ho
  isplitl [Hb0 Hb1 Hb2 Hb3 Hb4 Hbr]
  · isplitl [Hb0]; · iexact Hb0
    isplitl [Hb1]; · iexact Hb1
    isplitl [Hb2]; · iexact Hb2
    isplitl [Hb3]; · iexact Hb3
    isplitl [Hb4]; · iexact Hb4
    iexact Hbr
  isplitr [HO]
  · isplitl [H5]; · iexact H5
    isplitl [H6]; · iexact H6
    isplitl [H7]; · iexact H7
    isplitl [H8]; · iexact H8
    isplitl [R0]; · iexact R0
    isplitl [R1]; · iexact R1
    isplitl [R2]; · iexact R2
    isplitl [R3]; · iexact R3
    isplitl [R4]; · iexact R4
    isplitl [R5]; · iexact R5
    iexact Hcr
  iexact HO

end Tile

/-! ## What the handshakes carry -/

/-- The call takes every tile's part of the arrays, its counts at the launch contents, and brings them back at the counts. -/
def P : (K (F := F)).Pay (nD := nD) (Val := Elt F) (Name := ℕ) (U := UU) where
  st := fun q d c => match q with
    | 0 => bigSep Finset.univ fun i : Fin ((K (F := F)).nSub 0) => part m d (2 * i.val + c.val) (m ((T d : Thread nD τ).loc main_v1))
  dn := fun q d c => match q with | 0 => bigSep Finset.univ fun i : Fin ((K (F := F)).nSub 0) => part m d (2 * i.val + c.val) (outOf m d)
  go := fun q d c i => match q with | 0 => part m d (2 * i.val + c.val) (m ((T d : Thread nD τ).loc main_v1))
  td := fun q d c i => match q with | 0 => part m d (2 * i.val + c.val) (outOf m d)
  x := fun _ _ => iprop(emp)

instance part_storable (w : ℕ) (f : Vec F S5000000 .f32) : BI.Storable (upEmb : UEmb _ 𝕄) (part m d w f) := by
  unfold part; infer_instance

instance P_storable : (P (F := F) m).IsStorable where
  st q d c := match q with
    | 0 => (inferInstance : BI.Storable (upEmb : UEmb _ 𝕄)
        (bigSep Finset.univ fun i : Fin ((K (F := F)).nSub 0) => part m d (2 * i.val + c.val) (m ((T d : Thread nD τ).loc main_v1))))
  dn q d c := match q with
    | 0 => (inferInstance : BI.Storable (upEmb : UEmb _ 𝕄)
        (bigSep Finset.univ fun i : Fin ((K (F := F)).nSub 0) => part m d (2 * i.val + c.val) (outOf m d)))
  go q d c i := match q with
    | 0 => (inferInstance : BI.Storable (upEmb : UEmb _ 𝕄) (part m d (2 * i.val + c.val) (m ((T d : Thread nD τ).loc main_v1))))
  td q d c i := match q with
    | 0 => (inferInstance : BI.Storable (upEmb : UEmb _ 𝕄) (part m d (2 * i.val + c.val) (outOf m d)))

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_build (coordsV c s)
          srcV (Memref.isWhole_whole _) dstV (Memref.isWhole_whole _) zerV (Memref.isWhole_whole _) outV (Memref.isWhole_whole _)
            blkV (Memref.isWhole_whole _) sb0V (Memref.isWhole_whole _) db0V (Memref.isWhole_whole _) sb1V (Memref.isWhole_whole _) db1V (Memref.isWhole_whole _)
            cc0_scratch5 cc0_scratch6 cc0_scratch7 cc0_scratch8 cc0_scoped0 cc0_scoped1 cc0_scoped2 cc0_scoped3 cc0_scoped4 cc0_scoped5) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO _).trans (wp_mono frame _ _ fun _ => obl_post)

theorem vecSplit : (K (F := F)).VecSplit' (P m) 0 := by
  intro d c
  show (bigSep Finset.univ fun i : Fin ((K (F := F)).nSub 0) => part m d (2 * i.val + c.val) (m ((T d : Thread nD τ).loc main_v1)))
    ⊢ |={Set.univ}=> iprop(
      (bigSep Finset.univ fun i : Fin ((K (F := F)).nSub 0) => part m d (2 * i.val + c.val) (m ((T d : Thread nD τ).loc main_v1)))
      ∗ ((bigSep Finset.univ fun i : Fin ((K (F := F)).nSub 0) => part m d (2 * i.val + c.val) (outOf m d))
          -∗ (bigSep Finset.univ fun i : Fin ((K (F := F)).nSub 0) => part m d (2 * i.val + c.val) (outOf m d))))
  iintro H; imodintro
  isplitl [H]; · iexact H
  iintro H; iexact H

/-! ## The arrays dealt to the tiles and back -/

/-- Tile `2 i + c` for SparseCore `c`, subcore `i`. -/
theorem tiles_univ (Φ : ℕ → sProp 𝕄) :
    (bigSep (Finset.range 32) Φ) = bigSep Finset.univ fun c : Fin ((K (F := F)).nCore 0) =>
      bigSep Finset.univ fun i : Fin ((K (F := F)).nSub 0) => Φ (2 * i.val + c.val) := by
  show _ = bigSep (Finset.univ : Finset (Fin 2)) fun c => bigSep (Finset.univ : Finset (Fin 16)) fun i => Φ (2 * i.val + c.val)
  rw [← bigSep_univ_prod fun p : Fin 2 × Fin 16 => Φ (2 * p.2.val + p.1.val),
    show Finset.range 32 = (Finset.univ : Finset (Fin 2 × Fin 16)).image (fun p => 2 * p.2.val + p.1.val) by decide,
    SparseCore.bigSep_image_of_injOn]
  rintro ⟨a, b⟩ - ⟨a', b'⟩ - h
  have h' : 2 * b.val + a.val = 2 * b'.val + a'.val := h
  refine Prod.ext (Fin.ext ?_) (Fin.ext ?_) <;> dsimp <;> omega

theorem tset_disjoint : ∀ w ∈ Finset.range 32, ∀ w' ∈ Finset.range 32, w ≠ w' → Disjoint (tset w) (tset w') := by
  intro w _ w' _ h
  refine Finset.disjoint_left.mpr fun x hx hx' => h ?_
  rw [← mem_tset.mp hx, mem_tset.mp hx']

theorem tset_cover : (Finset.range 32).biUnion tset = Finset.univ := by
  refine Finset.eq_univ_of_forall fun x => Finset.mem_biUnion.mpr ⟨ownerOf ((x 0).val / 120000), ?_, mem_tset.mpr rfl⟩
  rw [Finset.mem_range]
  have hx : (x 0).val < 5000000 := (x 0).isLt
  unfold ownerOf
  split
  · assumption
  · split <;> omega

/-- What is left of the read arrays while the call runs. -/
def rest : sProp 𝕄 :=
  iprop(((T d : Thread nD τ).loc main_arg1 ↦[Finset.univ]{Transfers.shareDrop fullShare 32} srcOf m d)
    ∗ ((T d : Thread nD τ).loc main_arg2 ↦[Finset.univ]{Transfers.shareDrop fullShare 32} dstOf m d)
    ∗ ((T d : Thread nD τ).loc main_v0 ↦[Finset.univ]{Transfers.shareDrop fullShare 32} (zeros : Vec F S120000 .f32)))

/-- The four arrays of the call, the counts at `f`, are the tiles' parts and the rest. -/
theorem arrays_eq (f : Vec F S5000000 .f32) :
    iprop(((T d : Thread nD τ).loc main_arg1 ↦[Finset.univ]{fullShare} srcOf m d)
      ∗ ((T d : Thread nD τ).loc main_arg2 ↦[Finset.univ]{fullShare} dstOf m d)
      ∗ ((T d : Thread nD τ).loc main_v0 ↦[Finset.univ]{fullShare} (zeros : Vec F S120000 .f32))
      ∗ ((T d : Thread nD τ).loc main_v1 ↦[Finset.univ]{fullShare} f))
      ⊣⊢ iprop(rest m d ∗ bigSep (Finset.range 32) fun w => part m d w f) := by
  have htok := fun (ℓ : Loc nD τ sig) (g : Buf (Elt F) ℓ) =>
    Transfers.pointsTo_toks_range (Ix := HIx 1) (Name := ℕ) (U := UU) (Lvl := ℕ) (Val := Elt F) (ℓ := ℓ) (S := Finset.univ) (f := g) fullShare 32
  have hout : ((T d : Thread nD τ).loc main_v1 ↦[Finset.univ]{fullShare} f : sProp 𝕄)
      = bigSep (Finset.range 32) fun w => ((T d : Thread nD τ).loc main_v1 ↦[tset w]{fullShare} f) := by
    rw [← pointsTo_biUnion (Finset.range 32) (ℓ := (T d : Thread nD τ).loc main_v1) tset tset_disjoint, tset_cover]
  unfold part rest
  rw [hout, bigSep_sep', bigSep_sep', bigSep_sep']
  constructor
  · iintro ⟨Ha, Hb, Hz, Ho⟩
    ihave Ha := (htok _ _).1 $$ Ha
    ihave Hb := (htok _ _).1 $$ Hb
    ihave Hz := (htok _ _).1 $$ Hz
    icases Ha with ⟨Ha, Ha'⟩
    icases Hb with ⟨Hb, Hb'⟩
    icases Hz with ⟨Hz, Hz'⟩
    isplitl [Ha Hb Hz]
    · isplitl [Ha]; · iexact Ha
      isplitl [Hb] <;> iassumption
    isplitl [Ha']; · iexact Ha'
    isplitl [Hb']; · iexact Hb'
    isplitl [Hz']; · iexact Hz'
    iexact Ho
  · iintro ⟨⟨Ha, Hb, Hz⟩, Ha', Hb', Hz', Ho⟩
    ihave Ha := (htok _ _).2 $$ [Ha Ha']
    · isplitl [Ha] <;> iassumption
    ihave Hb := (htok _ _).2 $$ [Hb Hb']
    · isplitl [Hb] <;> iassumption
    ihave Hz := (htok _ _).2 $$ [Hz Hz']
    · isplitl [Hz] <;> iassumption
    isplitl [Ha]; · iexact Ha
    isplitl [Hb]; · iexact Hb
    isplitl [Hz]; · iexact Hz
    iexact Ho

/-! ## The call -/

theorem dn0_eq : (bigSep Finset.univ fun c : Fin ((K (F := F)).nCore 0) => (P m).dn 0 d c) = bigSep (Finset.range 32) fun w => part m d w (outOf m d) :=
  (tiles_univ (F := F) (fun w => part m d w (outOf m d))).symm

abbrev a0' : DevRef τ sig := Proc.devRef .tc (main_arg1 : Ref sig .tc)
abbrev a1' : DevRef τ sig := Proc.devRef .tc (main_arg2 : Ref sig .tc)
abbrev z' : DevRef τ sig := Proc.devRef .tc (main_v0 : Ref sig .tc)
abbrev o' : DevRef τ sig := Proc.devRef .tc (main_v1 : Ref sig .tc)

/-- The call's arrays. -/
abbrev S4 : Finset (DevRef τ sig) := {a0', a1', z', o'}

theorem S4_sub : S4 ⊆ ucRefs τ sig := by decide

theorem held_S4 (V : Valuation τ sig (Elt F)) :
    (StableHlo.held (T d) S4 V : sProp 𝕄) = iprop(((T d : Thread nD τ).loc main_arg1 ↦[Finset.univ]{fullShare} V a0')
      ∗ ((T d : Thread nD τ).loc main_arg2 ↦[Finset.univ]{fullShare} V a1')
      ∗ ((T d : Thread nD τ).loc main_v0 ↦[Finset.univ]{fullShare} V z')
      ∗ ((T d : Thread nD τ).loc main_v1 ↦[Finset.univ]{fullShare} V o')) := by
  unfold StableHlo.held S4
  rw [SparseCore.bigSep_insert' (by decide), SparseCore.bigSep_insert' (by decide), SparseCore.bigSep_insert' (by decide), bigSep_singleton]

/-- The call counts the edges: it leaves every array as it was but the counts, which it writes. -/
theorem wp_call (κ : GSem nD τ sig → ℕ) (V : Valuation τ sig (Elt F)) (h0 : V a0' = srcOf m d) (h1 : V a1' = dstOf m d)
    (hz : V z' = (zeros : Vec F S120000 .f32)) (ho : V o' = m ((T d : Thread nD τ).loc main_v1)) {Φ : PUnit → sProp 𝕄} :
    iprop((K (F := F)).ctx EH (P m) κ ∗ (K (F := F)).tcSt EH d 0 ∗ StableHlo.held (T d) (ucRefs τ sig) V
        ∗ (((K (F := F)).tcSt EH d 1 ∗ StableHlo.held (T d) (ucRefs τ sig) (Function.update V o' (outOf m d))) -∗ Φ ⟨⟩))
      ⊢ wp frame (wpE ((K (F := F)).defs (D (F := F))) 𝒱 (T d) none) Set.univ ((K (F := F)).run d 0) Φ := by
  have hr : StableHlo.held (T d) (ucRefs τ sig \ S4) (Function.update V o' (outOf m d))
      = (StableHlo.held (T d) (ucRefs τ sig \ S4) V : sProp 𝕄) := by
    refine StableHlo.held_congr _ fun b hb => Function.update_of_ne ?_ _ _
    rintro rfl
    exact absurd (show o' ∈ S4 by decide) (Finset.mem_sdiff.mp hb).2
  rw [StableHlo.held_sub_split (T d) S4_sub V, StableHlo.held_sub_split (T d) S4_sub (Function.update V o' (outOf m d)), hr,
    held_S4 d V, held_S4 d (Function.update V o' (outOf m d)), h0, h1, hz, ho, Function.update_self,
    Function.update_of_ne (show a0' ≠ o' by decide), Function.update_of_ne (show a1' ≠ o' by decide), Function.update_of_ne (show z' ≠ o' by decide),
    h0, h1, hz]
  iintro ⟨#Hctx, Hst, ⟨H4, Hrest⟩, Hk⟩
  ihave H4 := (arrays_eq m d _).1 $$ H4
  icases H4 with ⟨Hr, Hp⟩
  iapply ((K (F := F)).wp_run (D (F := F)) 𝒱 (EH := EH) (P := P m) κ d 0) $$ [Hst Hr Hp Hrest Hk]
  isplitr; · iexact Hctx
  isplitl [Hst]; · iexact Hst
  isplitl [Hp]
  · iapply (Entails.of_eq (tiles_univ (F := F) (fun w => part m d w (m ((T d : Thread nD τ).loc main_v1))))) $$ Hp
  iintro ⟨Hst, Hdn⟩
  ihave Hp := (Entails.of_eq (dn0_eq m d)) $$ Hdn
  ihave H4 := (arrays_eq m d _).2 $$ [Hr Hp]
  · isplitl [Hr] <;> iassumption
  iapply Hk
  isplitl [Hst]; · iexact Hst
  isplitl [H4] <;> iassumption

end Cert.Proof

end
-- ==== Proof.Step.lean ====
/-
  What one grid point of the dense call does, as a function of the blocks it is handed and of the four buffers that it
  carries from point to point.
-/
module

public import proofs.«01_k».proof.Proof.Base
public import Idealize.ShloMosaic.Lib.VecWindow

@[expose] public section

noncomputable section

namespace Cert.Proof

open Cert.KernelIdeal Cert.KernelIdeal.Gen
open Idealize.ShloMosaic

variable {F : FTy → Type} [FloatOps F]

/-- The four carried buffers: the items' rows, the tags' rows, the running tag aggregate and the tags' degrees. -/
structure St (F : FTy → Type) where
  hitem : Vec F S50000x128 .f32
  htag : Vec F S100x128 .f32
  agg : Vec F S100x128 .f32
  degt : Vec F S100x1 .f32

/-- The blocks that a point is handed. -/
structure Blocks (F : FTy → Type) where
  c : Vec F S2000x100 .f32
  it : Vec F S2000x128 .f32
  tt : Vec F S100x128 .f32
  wsa : Vec F S1x128x128 .f32
  wna : Vec F S1x128x128 .f32
  ba : Vec F S1x1x128 .f32
  wsr : Vec F S1x128x128 .f32
  wnr : Vec F S1x128x128 .f32
  br : Vec F S1x1x128 .f32
  g : Vec F S1x1x128 .f32
  be : Vec F S1x1x128 .f32
  wf : Vec F S128x128 .f32

variable (i : grid1.Coords)

/-- The first row of a point's block of items. -/
abbrev rowsOff : Fin 2 → ℕ := ![2000 * (i 1).val, 0]

theorem rowsOff_inb : ∀ a, rowsOff i a + S2000x128.size a ≤ S50000x128.size a := by
  have h := k1_off2_inb i
  rw [k1_off2_eq] at h
  exact h

/-- The point's rows of the items' buffer. -/
def getRows (X : Vec F S50000x128 .f32) : Vec F S2000x128 .f32 := VecWindow.window X (rowsOff i) S2000x128.size (rowsOff_inb i)

/-- The items' buffer with the point's rows replaced. -/
def putRows (X : Vec F S50000x128 .f32) (w : Vec F S2000x128 .f32) : Vec F S50000x128 .f32 := VecWindow.put X (rowsOff i) S2000x128.size w

variable (B : Blocks F) (S : St F)

/-- The tags' rows after the first reset. -/
def tag1 : Vec F S100x128 .f32 := if (i 0).val = 0 ∧ (i 1).val = 0 then k1_pay5 B.tt else S.htag
def deg1 : Vec F S100x1 .f32 := if (i 0).val = 0 ∧ (i 1).val = 0 then k1_pay6 else S.degt
def agg1 : Vec F S100x128 .f32 := if (i 1).val = 0 then k1_pay7 else S.agg
/-- The items' buffer after the first layer's loading of the table's rows. -/
def item1 : Vec F S50000x128 .f32 := if (i 0).val = 0 then putRows i S.hitem (k1_pay8 B.it) else S.hitem
def deg2 : Vec F S100x1 .f32 := if (i 0).val = 0 then k1_pay9 B.c (deg1 i S) else deg1 i S
/-- The point's rows of items, as the layer finds them. -/
def rows : Vec F S2000x128 .f32 := getRows i (item1 i B S)
def agg2 : Vec F S100x128 .f32 := k1_pay10 B.c (rows i B S) (agg1 i S)
/-- The point's rows of items, as the layer leaves them. -/
def rows' : Vec F S2000x128 .f32 :=
  k1_pay13 (k1_pay4 B.c) (rows i B S) (k1_pay11 B.c) (k1_pay12 (tag1 i B S) B.wnr) B.wsr B.br B.g B.be
def item2 : Vec F S50000x128 .f32 :=
  if (i 0).val < 3 then putRows i (item1 i B S)
    (k1_pay14 (k1_pay4 B.c) (rows i B S) (k1_pay11 B.c) (k1_pay12 (tag1 i B S) B.wnr) B.wsr B.br B.g B.be)
  else item1 i B S
/-- The point's rows of the result, at the last layer. -/
def outRows : Vec F S2000x128 .f32 := k1_pay1 (rows' i B S) B.wf
def deg3 : Vec F S100x1 .f32 := if (i 1).val = 24 ∧ (i 0).val = 0 then k1_pay2 (deg2 i B S) else deg2 i B S
def tag2 : Vec F S100x128 .f32 :=
  if (i 1).val = 24 then k1_pay3 (tag1 i B S) (agg2 i B S) (deg3 i B S) B.wsa B.wna B.ba else tag1 i B S

/-- The carried buffers after the point. -/
def step : St F := ⟨item2 i B S, tag2 i B S, agg2 i B S, deg3 i B S⟩

end Cert.Proof

end
-- ==== Proof.Dense.lean ====
/-
  The body of the dense call, run once from any blocks and any carried buffers.
-/
module

public import proofs.«01_k».proof.Proof.Step

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## Loads and stores of an owned memref -/

section Ops
variable (c : Dev nD) {s : Shape} {e : EltTy} {α : Type}

abbrev WP {α : Type} (p : Prog (TpuEff nD τ sig (Elt F) Λ₀ .tc) α) (Q : α → sProp 𝕄) : sProp 𝕄 :=
  wp frame (wpE (defs₀ (F := F)) 𝒱₀ (T c) none) Set.univ p Q

/-- A load of a whole memref yields its contents. -/
theorem wp_ldW {m : Memref sig .tc .vmem s e} {off : Fin s.rank → ℕ} {inb : ∀ a, off a + s.size a ≤ s.size a}
    {hl : m.view.LoadsAt (Rect.unit (s := s) off s.size inb).toLoadRect}
    {k : (s.Idx → Elt F e) → Prog (TpuEff nD τ sig (Elt F) Λ₀ .tc) α} {X : s.Idx → Elt F e} {R : α → sProp 𝕄} :
    (owns (T c) m fullShare X : sProp 𝕄)
      ⊢ iprop((owns (T c) m fullShare X -∗ WP c (k X) R) -∗ WP c (.op (.load m (Rect.unit (s := s) off s.size inb).toLoadRect hl) k) R) := by
  unfold owns
  iintro ⟨%f, %hf, H⟩ Hk
  have h := wp_load (defs := defs₀ (F := F)) (Ix := HIx 1) (Name := ℕ) (U := UU) (Lvl := ℕ) (Γ := []) (Q := R) 𝒱₀ (T c : Thread nD τ) none Set.univ (m := m)
    (r := (Rect.unit (s := s) off s.size inb).toLoadRect) (hl := hl) (k := k) (q := fullShare) (f := f) (S := m.view.set) (View.setOn_subset_set _ _)
  rw [View.readAt_full, hf] at h
  iapply h $$ H
  iintro H
  iapply Hk
  iexists f
  isplitr; · ipureintro; exact hf
  iexact H

/-- A load of a rectangle yields its window. -/
theorem wp_ldR {m : Memref sig .tc .vmem s e} {off off' size : Fin s.rank → ℕ} {inb : ∀ a, off a + size a ≤ s.size a}
    (inb' : ∀ a, off' a + size a ≤ s.size a) (ho : off = off')
    {hl : m.view.LoadsAt (Rect.unit (s := s) off size inb).toLoadRect}
    {k : ((Rect.unit (s := s) off size inb).shape.Idx → Elt F e) → Prog (TpuEff nD τ sig (Elt F) Λ₀ .tc) α} {X : s.Idx → Elt F e} {R : α → sProp 𝕄} :
    (owns (T c) m fullShare X : sProp 𝕄)
      ⊢ iprop((owns (T c) m fullShare X -∗ WP c (k (VecWindow.window X off' size inb')) R)
        -∗ WP c (.op (.load m (Rect.unit (s := s) off size inb).toLoadRect hl) k) R) := by
  unfold owns
  iintro ⟨%f, %hf, H⟩ Hk
  have h := wp_load (defs := defs₀ (F := F)) (Ix := HIx 1) (Name := ℕ) (U := UU) (Lvl := ℕ) (Γ := []) (Q := R) 𝒱₀ (T c : Thread nD τ) none Set.univ (m := m)
    (r := (Rect.unit (s := s) off size inb).toLoadRect) (hl := hl) (k := k) (q := fullShare) (f := f) (S := m.view.set) (View.setOn_subset_set _ _)
  rw [View.readAt_unit _ _ _ ho inb', hf] at h
  iapply h $$ H
  iintro H
  iapply Hk
  iexists f
  isplitr; · ipureintro; exact hf
  iexact H

/-- A store of a whole memref leaves the stored value. -/
theorem wp_stW {m : Memref sig .tc .vmem s e} {off : Fin s.rank → ℕ} {inb : ∀ a, off a + s.size a ≤ s.size a} {w : s.Idx → Elt F e}
    {hx : (m.access (Rect.unit (s := s) off s.size inb)).Stores Finset.univ} {hm : Finset.univ = Finset.univ ∨ ∀ a, (Rect.unit (s := s) off s.size inb).stride a = 1}
    {k : PUnit → Prog (TpuEff nD τ sig (Elt F) Λ₀ .tc) α} {X : s.Idx → Elt F e} {R : α → sProp 𝕄} :
    (owns (T c) m fullShare X : sProp 𝕄)
      ⊢ iprop((owns (T c) m fullShare w -∗ WP c (k ⟨⟩) R) -∗ WP c (.op (.store m (Rect.unit (s := s) off s.size inb) w Finset.univ hx hm) k) R) := by
  unfold owns
  iintro ⟨%f, %hf, H⟩ Hk
  have h := wp_store_writes₀ (defs := defs₀ (F := F)) (Ix := HIx 1) (Name := ℕ) (U := UU) (Lvl := ℕ) (Q := R) 𝒱₀ (T c : Thread nD τ) none Set.univ (m := m)
    (r := Rect.unit (s := s) off s.size inb) (w := w) (hx := hx) (hm := hm) (k := k) (f := f) (S := m.view.set) (View.set_slice_subset _ _)
  iapply h $$ H
  iintro H
  iapply Hk
  iexists _
  isplitr [H]; swap; · iexact H
  ipureintro
  exact View.read_writes_full _ _ _ _ _

/-- A store of a rectangle puts the stored value there. -/
theorem wp_stR {m : Memref sig .tc .vmem s e} {off off' size : Fin s.rank → ℕ} {inb : ∀ a, off a + size a ≤ s.size a}
    (ho : off = off') {w : (Rect.unit (s := s) off size inb).shape.Idx → Elt F e}
    {hx : (m.access (Rect.unit (s := s) off size inb)).Stores Finset.univ} {hm : Finset.univ = Finset.univ ∨ ∀ a, (Rect.unit (s := s) off size inb).stride a = 1}
    {k : PUnit → Prog (TpuEff nD τ sig (Elt F) Λ₀ .tc) α} {X : s.Idx → Elt F e} {R : α → sProp 𝕄} :
    (owns (T c) m fullShare X : sProp 𝕄)
      ⊢ iprop((owns (T c) m fullShare (VecWindow.put X off' size w) -∗ WP c (k ⟨⟩) R)
        -∗ WP c (.op (.store m (Rect.unit (s := s) off size inb) w Finset.univ hx hm) k) R) := by
  unfold owns
  iintro ⟨%f, %hf, H⟩ Hk
  have h := wp_store_writes₀ (defs := defs₀ (F := F)) (Ix := HIx 1) (Name := ℕ) (U := UU) (Lvl := ℕ) (Q := R) 𝒱₀ (T c : Thread nD τ) none Set.univ (m := m)
    (r := Rect.unit (s := s) off size inb) (w := w) (hx := hx) (hm := hm) (k := k) (f := f) (S := m.view.set) (View.set_slice_subset _ _)
  iapply h $$ H
  iintro H
  iapply Hk
  iexists _
  isplitr [H]; swap; · iexact H
  ipureintro
  rw [View.read_writes_cons_put _ _ _ _ _ ho, View.writes_nil, hf]

end Ops

/-! ## The grid's conditions -/

section Conds
variable (i : grid1.Coords)

set_option maxRecDepth 100000 in
theorem dcond1_iff : Scalar.cmpi .ne (Scalar.extui (Scalar.andi (Scalar.cmpi .eq (BitVec.ofNat 32 (i 0).val) 0#32)
      (Scalar.cmpi .eq (BitVec.ofNat 32 (i 1).val) 0#32)) : BitVec 32) 0#32 = 1#1 ↔ (i 0).val = 0 ∧ (i 1).val = 0 := by
  have key : ∀ (x : Fin 4) (y : Fin 25), Scalar.cmpi .ne (Scalar.extui (Scalar.andi (Scalar.cmpi .eq (BitVec.ofNat 32 x.val) 0#32)
      (Scalar.cmpi .eq (BitVec.ofNat 32 y.val) 0#32)) : BitVec 32) 0#32 = 1#1 ↔ x.val = 0 ∧ y.val = 0 := by decide
  exact key (i 0) (i 1)

theorem dcond2_iff : Scalar.cmpi .ne (Scalar.extui (Scalar.cmpi .eq (BitVec.ofNat 32 (i 1).val) 0#32) : BitVec 32) 0#32 = 1#1 ↔ (i 1).val = 0 := by
  have key : ∀ y : Fin 25, Scalar.cmpi .ne (Scalar.extui (Scalar.cmpi .eq (BitVec.ofNat 32 y.val) 0#32) : BitVec 32) 0#32 = 1#1 ↔ y.val = 0 := by decide
  exact key (i 1)

theorem dcond3_iff : k1_cond3 i = 1#1 ↔ (i 0).val = 0 := by
  have key : ∀ y : Fin 4, Scalar.cmpi .ne (Scalar.extui (Scalar.cmpi .eq (BitVec.ofNat 32 y.val) 0#32) : BitVec 32) 0#32 = 1#1 ↔ y.val = 0 := by decide
  exact key (i 0)

theorem dcond4_iff : k1_cond4 i = 1#1 ↔ (i 0).val < 3 := by
  have key : ∀ y : Fin 4, Scalar.cmpi .ne (Scalar.extui (Scalar.cmpi .slt (BitVec.ofNat 32 y.val) 3#32) : BitVec 32) 0#32 = 1#1 ↔ y.val < 3 := by decide
  exact key (i 0)

theorem dcond5_iff : k1_cond5 i = 1#1 ↔ (i 0).val = 3 := by
  have key : ∀ y : Fin 4, Scalar.cmpi .ne (Scalar.extui (Scalar.cmpi .eq (BitVec.ofNat 32 y.val) 3#32) : BitVec 32) 0#32 = 1#1 ↔ y.val = 3 := by decide
  exact key (i 0)

theorem cond6_iff : Scalar.cmpi .ne (Scalar.extui (Scalar.cmpi .eq (BitVec.ofNat 32 (i 1).val) 24#32) : BitVec 32) 0#32 = 1#1 ↔ (i 1).val = 24 := by
  have key : ∀ y : Fin 25, Scalar.cmpi .ne (Scalar.extui (Scalar.cmpi .eq (BitVec.ofNat 32 y.val) 24#32) : BitVec 32) 0#32 = 1#1 ↔ y.val = 24 := by decide
  exact key (i 1)

theorem cond7_iff : Scalar.cmpi .ne (Scalar.extui (Scalar.cmpi .eq (BitVec.ofNat 32 (i 0).val) 0#32) : BitVec 32) 0#32 = 1#1 ↔ (i 0).val = 0 := by
  have key : ∀ y : Fin 4, Scalar.cmpi .ne (Scalar.extui (Scalar.cmpi .eq (BitVec.ofNat 32 y.val) 0#32) : BitVec 32) 0#32 = 1#1 ↔ y.val = 0 := by decide
  exact key (i 0)

end Conds

/-! ## The body -/

section Body
variable (c : Dev nD) (i : grid1.Coords)
  (arg2 : Memref sig .tc .vmem S2000x100 .f32) (harg2 : arg2.IsWhole)
  (arg3 : Memref sig .tc .vmem S2000x128 .f32) (harg3 : arg3.IsWhole)
  (arg4 : Memref sig .tc .vmem S100x128 .f32) (harg4 : arg4.IsWhole)
  (arg5 : Memref sig .tc .vmem S1x128x128 .f32) (harg5 : arg5.IsWhole)
  (arg6 : Memref sig .tc .vmem S1x128x128 .f32) (harg6 : arg6.IsWhole)
  (arg7 : Memref sig .tc .vmem S1x1x128 .f32) (harg7 : arg7.IsWhole)
  (arg8 : Memref sig .tc .vmem S1x128x128 .f32) (harg8 : arg8.IsWhole)
  (arg9 : Memref sig .tc .vmem S1x128x128 .f32) (harg9 : arg9.IsWhole)
  (arg10 : Memref sig .tc .vmem S1x1x128 .f32) (harg10 : arg10.IsWhole)
  (arg11 : Memref sig .tc .vmem S1x1x128 .f32) (harg11 : arg11.IsWhole)
  (arg12 : Memref sig .tc .vmem S1x1x128 .f32) (harg12 : arg12.IsWhole)
  (arg13 : Memref sig .tc .vmem S128x128 .f32) (harg13 : arg13.IsWhole)
  (arg14 : Memref sig .tc .vmem S2000x128 .f32) (harg14 : arg14.IsWhole)
  (arg15 : Memref sig .tc .vmem S50000x128 .f32) (harg15 : arg15.IsWhole)
  (arg16 : Memref sig .tc .vmem S100x128 .f32) (harg16 : arg16.IsWhole)
  (arg17 : Memref sig .tc .vmem S100x128 .f32) (harg17 : arg17.IsWhole)
  (arg18 : Memref sig .tc .vmem S100x1 .f32) (harg18 : arg18.IsWhole)

/-- The body's memrefs, at the blocks, at the result's block and at the carried buffers. -/
def mems (B : Blocks F) (Y : Vec F S2000x128 .f32) (S : St F) : sProp 𝕄 :=
  iprop(owns (T c) arg2 fullShare B.c
    ∗ owns (T c) arg3 fullShare B.it
    ∗ owns (T c) arg4 fullShare B.tt
    ∗ owns (T c) arg5 fullShare B.wsa
    ∗ owns (T c) arg6 fullShare B.wna
    ∗ owns (T c) arg7 fullShare B.ba
    ∗ owns (T c) arg8 fullShare B.wsr
    ∗ owns (T c) arg9 fullShare B.wnr
    ∗ owns (T c) arg10 fullShare B.br
    ∗ owns (T c) arg11 fullShare B.g
    ∗ owns (T c) arg12 fullShare B.be
    ∗ owns (T c) arg13 fullShare B.wf
    ∗ owns (T c) arg14 fullShare Y
    ∗ owns (T c) arg15 fullShare S.hitem
    ∗ owns (T c) arg16 fullShare S.htag
    ∗ owns (T c) arg17 fullShare S.agg
    ∗ owns (T c) arg18 fullShare S.degt)

variable (B : Blocks F) (Y : Vec F S2000x128 .f32) (S : St F)

/-- The carried buffers after the first part. -/
def mid : St F := ⟨item1 i B S, tag1 i B S, agg2 i B S, deg2 i B S⟩

set_option maxHeartbeats 2000000 in
/-- The first part: the resets, the loading of the items' rows, the counts' sums. -/
theorem wp_part1 (Φ : (Σ' (arg0 : BitVec 32) (arg1 : BitVec 32) (v1 : FVec F S2000x100 .f32) (v15 : Vec F S2000x128 .f32) (v16 : Vec F S100x128 .f32) (v26 : FVec F S2000x1 .f32), FVec F S100x128 .f32) → sProp 𝕄) :
    iprop(mems c arg2 arg3 arg4 arg5 arg6 arg7 arg8 arg9 arg10 arg11 arg12 arg13 arg14 arg15 arg16 arg17 arg18 B Y S ∗ (mems c arg2 arg3 arg4 arg5 arg6 arg7 arg8 arg9 arg10 arg11 arg12 arg13 arg14 arg15 arg16 arg17 arg18 B Y (mid i B S)
        -∗ Φ ⟨BitVec.ofNat 32 (i 0).val, BitVec.ofNat 32 (i 1).val, k1_pay4 B.c, rows i B S, tag1 i B S, k1_pay11 B.c, k1_pay12 (tag1 i B S) B.wnr⟩))
      ⊢ WP c (k1_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) Φ := by
  rw [k1_part1_eq_skeleton]
  unfold mems k1_part1_skel WP
  by_cases hb : (i 1).val = 0 <;> by_cases hl : (i 0).val = 0
  · simp only [dif_pos ((dcond1_iff i).mpr ⟨hl, hb⟩), dif_pos ((dcond2_iff i).mpr hb), dif_pos ((dcond3_iff i).mpr hl), hb, hl, _root_.true_and, _root_.and_true, _root_.and_self, _root_.false_and, _root_.and_false, if_true, if_false, tag1, deg1, agg1, item1, deg2, rows, agg2, mid, putRows, getRows, Prog.lift, Prog.bind_op, Prog.bind_ret, Prog.pure_eq_ret]
    iintro ⟨⟨H2, H3, H4, H5, H6, H7, H8, H9, H10, H11, H12, H13, H14, H15, H16, H17, H18⟩, Hk⟩
    iapply wp_ldW c $$ H2; iintro H2
    iapply wp_ldW c $$ H4; iintro H4
    iapply wp_ldW c $$ H16; iintro H16
    iapply wp_stW c $$ H16; iintro H16
    iapply wp_ldW c $$ H18; iintro H18
    iapply wp_stW c $$ H18; iintro H18
    iapply wp_ldW c $$ H17; iintro H17
    iapply wp_stW c $$ H17; iintro H17
    iapply wp_ldW c $$ H3; iintro H3
    iapply wp_ldR c (rowsOff_inb i) (k1_off1_eq i) $$ H15; iintro H15
    iapply wp_stR c (k1_off1_eq i) $$ H15; iintro H15
    iapply wp_ldW c $$ H18; iintro H18
    iapply wp_ldW c $$ H18; iintro H18
    iapply wp_stW c $$ H18; iintro H18
    iapply wp_ldR c (rowsOff_inb i) (k1_off2_eq i) $$ H15; iintro H15
    iapply wp_ldW c $$ H16; iintro H16
    iapply wp_ldW c $$ H17; iintro H17
    iapply wp_ldW c $$ H17; iintro H17
    iapply wp_stW c $$ H17; iintro H17
    iapply wp_ldW c $$ H9; iintro H9
    try unfold WP
    rw [wp_ret]; imodintro; iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  · simp only [dif_neg (fun h => hl ((dcond1_iff i).mp h).1), dif_pos ((dcond2_iff i).mpr hb), dif_neg (fun h => hl ((dcond3_iff i).mp h)), hb, hl, _root_.true_and, _root_.and_true, _root_.and_self, _root_.false_and, _root_.and_false, if_true, if_false, tag1, deg1, agg1, item1, deg2, rows, agg2, mid, putRows, getRows, Prog.lift, Prog.bind_op, Prog.bind_ret, Prog.pure_eq_ret]
    iintro ⟨⟨H2, H3, H4, H5, H6, H7, H8, H9, H10, H11, H12, H13, H14, H15, H16, H17, H18⟩, Hk⟩
    iapply wp_ldW c $$ H2; iintro H2
    iapply wp_ldW c $$ H17; iintro H17
    iapply wp_stW c $$ H17; iintro H17
    iapply wp_ldR c (rowsOff_inb i) (k1_off2_eq i) $$ H15; iintro H15
    iapply wp_ldW c $$ H16; iintro H16
    iapply wp_ldW c $$ H17; iintro H17
    iapply wp_ldW c $$ H17; iintro H17
    iapply wp_stW c $$ H17; iintro H17
    iapply wp_ldW c $$ H9; iintro H9
    try unfold WP
    rw [wp_ret]; imodintro; iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  · simp only [dif_neg (fun h => hb ((dcond1_iff i).mp h).2), dif_neg (fun h => hb ((dcond2_iff i).mp h)), dif_pos ((dcond3_iff i).mpr hl), hb, hl, _root_.true_and, _root_.and_true, _root_.and_self, _root_.false_and, _root_.and_false, if_true, if_false, tag1, deg1, agg1, item1, deg2, rows, agg2, mid, putRows, getRows, Prog.lift, Prog.bind_op, Prog.bind_ret, Prog.pure_eq_ret]
    iintro ⟨⟨H2, H3, H4, H5, H6, H7, H8, H9, H10, H11, H12, H13, H14, H15, H16, H17, H18⟩, Hk⟩
    iapply wp_ldW c $$ H2; iintro H2
    iapply wp_ldW c $$ H3; iintro H3
    iapply wp_ldR c (rowsOff_inb i) (k1_off1_eq i) $$ H15; iintro H15
    iapply wp_stR c (k1_off1_eq i) $$ H15; iintro H15
    iapply wp_ldW c $$ H18; iintro H18
    iapply wp_ldW c $$ H18; iintro H18
    iapply wp_stW c $$ H18; iintro H18
    iapply wp_ldR c (rowsOff_inb i) (k1_off2_eq i) $$ H15; iintro H15
    iapply wp_ldW c $$ H16; iintro H16
    iapply wp_ldW c $$ H17; iintro H17
    iapply wp_ldW c $$ H17; iintro H17
    iapply wp_stW c $$ H17; iintro H17
    iapply wp_ldW c $$ H9; iintro H9
    try unfold WP
    rw [wp_ret]; imodintro; iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  · simp only [dif_neg (fun h => hl ((dcond1_iff i).mp h).1), dif_neg (fun h => hb ((dcond2_iff i).mp h)), dif_neg (fun h => hl ((dcond3_iff i).mp h)), hb, hl, _root_.true_and, _root_.and_true, _root_.and_self, _root_.false_and, _root_.and_false, if_true, if_false, tag1, deg1, agg1, item1, deg2, rows, agg2, mid, putRows, getRows, Prog.lift, Prog.bind_op, Prog.bind_ret, Prog.pure_eq_ret]
    iintro ⟨⟨H2, H3, H4, H5, H6, H7, H8, H9, H10, H11, H12, H13, H14, H15, H16, H17, H18⟩, Hk⟩
    iapply wp_ldW c $$ H2; iintro H2
    iapply wp_ldR c (rowsOff_inb i) (k1_off2_eq i) $$ H15; iintro H15
    iapply wp_ldW c $$ H16; iintro H16
    iapply wp_ldW c $$ H17; iintro H17
    iapply wp_ldW c $$ H17; iintro H17
    iapply wp_stW c $$ H17; iintro H17
    iapply wp_ldW c $$ H9; iintro H9
    try unfold WP
    rw [wp_ret]; imodintro; iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18

/-- The carried buffers after the second part. -/
def mid2 : St F := ⟨item2 i B S, tag1 i B S, agg2 i B S, deg2 i B S⟩

set_option maxHeartbeats 2000000 in
/-- The second part: the layer's new rows of items, stored unless the layer is the last. -/
theorem wp_part2 (a0 a1 : BitVec 32) (Φ : FVec F S2000x128 .f32 → sProp 𝕄) :
    iprop(mems c arg2 arg3 arg4 arg5 arg6 arg7 arg8 arg9 arg10 arg11 arg12 arg13 arg14 arg15 arg16 arg17 arg18 B Y (mid i B S) ∗ (mems c arg2 arg3 arg4 arg5 arg6 arg7 arg8 arg9 arg10 arg11 arg12 arg13 arg14 arg15 arg16 arg17 arg18 B Y (mid2 i B S) -∗ Φ (rows' i B S)))
      ⊢ WP c (k1_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 (k1_pay4 B.c) (rows i B S) (k1_pay11 B.c) (k1_pay12 (tag1 i B S) B.wnr)) Φ := by
  rw [k1_part2_eq_skeleton]
  unfold mems k1_part2_skel WP
  by_cases hl : (i 0).val < 3
  · simp only [dif_pos ((dcond4_iff i).mpr hl), hl, if_true, if_false, mid2, mid, item2, putRows, rows', Prog.lift, Prog.bind_op, Prog.bind_ret, Prog.pure_eq_ret]
    iintro ⟨⟨H2, H3, H4, H5, H6, H7, H8, H9, H10, H11, H12, H13, H14, H15, H16, H17, H18⟩, Hk⟩
    iapply wp_ldW c $$ H8; iintro H8
    iapply wp_ldW c $$ H10; iintro H10
    iapply wp_ldW c $$ H11; iintro H11
    iapply wp_ldW c $$ H12; iintro H12
    iapply wp_ldR c (rowsOff_inb i) (k1_off3_eq i) $$ H15; iintro H15
    iapply wp_stR c (k1_off3_eq i) $$ H15; iintro H15
    try unfold WP
    rw [wp_ret]; imodintro; iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  · simp only [dif_neg (fun h => hl ((dcond4_iff i).mp h)), hl, if_true, if_false, mid2, mid, item2, putRows, rows', Prog.lift, Prog.bind_op, Prog.bind_ret, Prog.pure_eq_ret]
    iintro ⟨⟨H2, H3, H4, H5, H6, H7, H8, H9, H10, H11, H12, H13, H14, H15, H16, H17, H18⟩, Hk⟩
    iapply wp_ldW c $$ H8; iintro H8
    iapply wp_ldW c $$ H10; iintro H10
    iapply wp_ldW c $$ H11; iintro H11
    iapply wp_ldW c $$ H12; iintro H12
    try unfold WP
    rw [wp_ret]; imodintro; iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18

set_option maxHeartbeats 2000000 in
/-- The body of a point: the carried buffers go one step, and the result's block is written at the last layer. -/
theorem wp_body :
    mems c arg2 arg3 arg4 arg5 arg6 arg7 arg8 arg9 arg10 arg11 arg12 arg13 arg14 arg15 arg16 arg17 arg18 B Y S
      ⊢ WP c (cc1__tc_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) fun _ => mems c arg2 arg3 arg4 arg5 arg6 arg7 arg8 arg9 arg10 arg11 arg12 arg13 arg14 arg15 arg16 arg17 arg18 B (if (i 0).val = 3 then outRows i B S else Y) (step i B S) := by
  rw [cc1__tc_body_eq_skeleton]
  unfold cc1__tc_body_skel WP
  rw [wp_bind]
  iintro H
  iapply (wp_part1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 B Y S _)
  isplitl [H]; · iexact H
  iintro H
  irevert H
  dsimp only
  rw [wp_bind]
  iintro H
  iapply (wp_part2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 B Y S _ _ _)
  isplitl [H]; · iexact H
  iintro H
  irevert H
  unfold mems
  by_cases hl3 : (i 0).val = 3 <;> by_cases hb : (i 1).val = 24 <;> by_cases hl : (i 0).val = 0
  · exact absurd (hl3.symm.trans hl) (by decide)
  · simp only [dif_pos ((dcond5_iff i).mpr hl3), dif_pos ((cond6_iff i).mpr hb), dif_neg (fun h => hl ((cond7_iff i).mp h)), Prog.lift, Prog.bind_op, Prog.bind_ret, Prog.pure_eq_ret]
    iintro ⟨H2, H3, H4, H5, H6, H7, H8, H9, H10, H11, H12, H13, H14, H15, H16, H17, H18⟩
    iapply wp_ldW c $$ H13; iintro H13
    iapply wp_ldW c $$ H14; iintro H14
    iapply wp_stW c $$ H14; iintro H14
    iapply wp_ldW c $$ H17; iintro H17
    iapply wp_ldW c $$ H18; iintro H18
    iapply wp_ldW c $$ H5; iintro H5
    iapply wp_ldW c $$ H6; iintro H6
    iapply wp_ldW c $$ H7; iintro H7
    iapply wp_ldW c $$ H16; iintro H16
    iapply wp_stW c $$ H16; iintro H16
    try unfold WP
    rw [wp_ret]; imodintro
    simp only [hl3, hb, hl, _root_.true_and, _root_.and_true, _root_.and_self, _root_.false_and, _root_.and_false, if_true, if_false, step, mid2, deg3, tag2, outRows]
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  · exact absurd (hl3.symm.trans hl) (by decide)
  · simp only [dif_pos ((dcond5_iff i).mpr hl3), dif_neg (fun h => hb ((cond6_iff i).mp h)), Prog.lift, Prog.bind_op, Prog.bind_ret, Prog.pure_eq_ret]
    iintro ⟨H2, H3, H4, H5, H6, H7, H8, H9, H10, H11, H12, H13, H14, H15, H16, H17, H18⟩
    iapply wp_ldW c $$ H13; iintro H13
    iapply wp_ldW c $$ H14; iintro H14
    iapply wp_stW c $$ H14; iintro H14
    try unfold WP
    rw [wp_ret]; imodintro
    simp only [hl3, hb, hl, _root_.true_and, _root_.and_true, _root_.and_self, _root_.false_and, _root_.and_false, if_true, if_false, step, mid2, deg3, tag2, outRows]
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  · simp only [dif_neg (fun h => hl3 ((dcond5_iff i).mp h)), dif_pos ((cond6_iff i).mpr hb), dif_pos ((cond7_iff i).mpr hl), Prog.lift, Prog.bind_op, Prog.bind_ret, Prog.pure_eq_ret]
    iintro ⟨H2, H3, H4, H5, H6, H7, H8, H9, H10, H11, H12, H13, H14, H15, H16, H17, H18⟩
    iapply wp_ldW c $$ H18; iintro H18
    iapply wp_ldW c $$ H18; iintro H18
    iapply wp_stW c $$ H18; iintro H18
    iapply wp_ldW c $$ H17; iintro H17
    iapply wp_ldW c $$ H18; iintro H18
    iapply wp_ldW c $$ H5; iintro H5
    iapply wp_ldW c $$ H6; iintro H6
    iapply wp_ldW c $$ H7; iintro H7
    iapply wp_ldW c $$ H16; iintro H16
    iapply wp_stW c $$ H16; iintro H16
    try unfold WP
    rw [wp_ret]; imodintro
    simp only [hl3, hb, hl, _root_.true_and, _root_.and_true, _root_.and_self, _root_.false_and, _root_.and_false, if_true, if_false, step, mid2, deg3, tag2, outRows]
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  · simp only [dif_neg (fun h => hl3 ((dcond5_iff i).mp h)), dif_pos ((cond6_iff i).mpr hb), dif_neg (fun h => hl ((cond7_iff i).mp h)), Prog.lift, Prog.bind_op, Prog.bind_ret, Prog.pure_eq_ret]
    iintro ⟨H2, H3, H4, H5, H6, H7, H8, H9, H10, H11, H12, H13, H14, H15, H16, H17, H18⟩
    iapply wp_ldW c $$ H17; iintro H17
    iapply wp_ldW c $$ H18; iintro H18
    iapply wp_ldW c $$ H5; iintro H5
    iapply wp_ldW c $$ H6; iintro H6
    iapply wp_ldW c $$ H7; iintro H7
    iapply wp_ldW c $$ H16; iintro H16
    iapply wp_stW c $$ H16; iintro H16
    try unfold WP
    rw [wp_ret]; imodintro
    simp only [hl3, hb, hl, _root_.true_and, _root_.and_true, _root_.and_self, _root_.false_and, _root_.and_false, if_true, if_false, step, mid2, deg3, tag2, outRows]
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  · simp only [dif_neg (fun h => hl3 ((dcond5_iff i).mp h)), dif_neg (fun h => hb ((cond6_iff i).mp h)), Prog.lift, Prog.bind_op, Prog.bind_ret, Prog.pure_eq_ret]
    iintro ⟨H2, H3, H4, H5, H6, H7, H8, H9, H10, H11, H12, H13, H14, H15, H16, H17, H18⟩
    try unfold WP
    rw [wp_ret]; imodintro
    simp only [hl3, hb, hl, _root_.true_and, _root_.and_true, _root_.and_self, _root_.false_and, _root_.and_false, if_true, if_false, step, mid2, deg3, tag2, outRows]
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  · simp only [dif_neg (fun h => hl3 ((dcond5_iff i).mp h)), dif_neg (fun h => hb ((cond6_iff i).mp h)), Prog.lift, Prog.bind_op, Prog.bind_ret, Prog.pure_eq_ret]
    iintro ⟨H2, H3, H4, H5, H6, H7, H8, H9, H10, H11, H12, H13, H14, H15, H16, H17, H18⟩
    try unfold WP
    rw [wp_ret]; imodintro
    simp only [hl3, hb, hl, _root_.true_and, _root_.and_true, _root_.and_self, _root_.false_and, _root_.and_false, if_true, if_false, step, mid2, deg3, tag2, outRows]
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18

end Body

end Cert.Proof

end
-- ==== Proof.Region.lean ====
/-
  The dense call's grid: the blocks that a point is handed, the carried buffers after a number of points, and the
  relation between the contents that a point finds in its staging buffers and those it leaves.
-/
module

public import proofs.«01_k».proof.Proof.Dense
public import proofs.«01_k».proof.Proof.Gen.KernelIdeal.Launch
public import proofs.«01_k».proof.Proof.Gen.KernelIdeal.Points
public import Idealize.ShloMosaic.Lib.Pipeline.Regions
public import Idealize.ShloMosaic.Lib.Pipeline.RegionArrays
public import Idealize.ShloMosaic.Lib.Pipeline.ArrRel

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

/-! ## An input's staging buffer holds its block -/

section Input

variable {nD' : Nat} {τ' : Topo} {sig' : RefSig} {Val : EltTy → Type} [∀ e, Nonempty (Val e)]
variable {Ix : Type} [DecidableEq Ix] {Name : Type} [DecidableEq Name] {U : Type} [URA U] {Lvl : Type}
variable {Λ' : Idealize.SL.Sem.Labels} {cfg : Pipeline.Cfg sig' Λ'} {c : Dev nD'} (rd : RDat τ' Val Ix Name U Lvl cfg c)

/-- At every point the buffer of an uncut input that the body leaves as it finds it holds the point's block. -/
theorem finds_input {w : Fin cfg.W} (ho : (cfg.win w).isOut = false) (hclip : ∀ i a, (cfg.win w).clip i a = none)
    (hafter : ∀ t Y X, rd.after w t Y X → X = Y) (d : (cfg.win w).block.Idx → Val (cfg.win w).elt) :
    ∀ (n : ℕ) (t : Fin cfg.N), t.val = n → ∀ X, rd.Finds w t X → X = rd.fetched w t d
  | n, t, hn, X, h => by
    by_cases hf : (cfg.win w).fetch t = true
    · obtain ⟨d', rfl⟩ := (rd.finds_of_fetch hf X).mp h
      unfold RDat.fetched
      exact fill_of_clip_none w _ (fun a => hclip _ a) d' d _
    · have hf' : (cfg.win w).fetch t = false := by simpa using hf
      have hu : (cfg.win w).fetch t
        = (!(cfg.win w).isOut && (t.val = 0 || decide (∃ h : 0 < t.val, (cfg.win w).index t ≠ (cfg.win w).index ⟨t.val - 1, Nat.lt_of_le_of_lt (Nat.sub_le _ _) t.isLt⟩))) := rfl
      rw [hu, ho] at hf'
      simp only [Bool.not_false, Bool.true_and, Bool.or_eq_false_iff, decide_eq_false_iff_not, not_exists, not_not] at hf'
      obtain ⟨h0, hix⟩ := hf'
      have hpos : 0 < t.val := Nat.pos_of_ne_zero h0
      rcases (rd.finds_of_pos (by simpa using hf) h0 X).mp h with hfl | ⟨Y, hY, ha⟩
      · have : (cfg.win w).flush ⟨t.val - 1, Nat.lt_of_le_of_lt (Nat.sub_le _ _) t.isLt⟩ = false := by
          unfold Window.flush; rw [ho]; rfl
        rw [this] at hfl; exact absurd hfl (by decide)
      · match n, hn with
        | 0, hn => exact absurd hn h0
        | k + 1, hn =>
          have ih := finds_input ho hclip hafter d k ⟨t.val - 1, Nat.lt_of_le_of_lt (Nat.sub_le _ _) t.isLt⟩ (by simp only [hn]; omega) Y hY
          rw [hafter _ _ _ ha, ih]
          exact (rd.fetched_congr w (hix hpos) (by funext a; rw [hclip, hclip]) d).symm

end Input

variable {F : FTy → Type} [FloatOps F]

local notation "𝕄" => MT nD τ sig (HIx 1) (Elt F) ℕ UU ℕ

/-! ## The blocks and the carried buffers -/

section Data
variable (V : Valuation τ sig (Elt F))

/-- Block `t` of a window's array. -/
def blkOf (w : Fin 13) (t : Fin cfg1.N) : ((win1 w).xblock (grid1.coords t)).Idx → Elt F (win1 w).elt :=
  ((win1 w).blk t).view.read (Elt F) (V (Proc.devRef .tc (arrRef spec1 w)))

/-- The blocks that point `t` is handed. -/
def blocks (t : Fin cfg1.N) : Blocks F where
  c := blkOf V 0 t
  it := blkOf V 1 t
  tt := blkOf V 2 t
  wsa := blkOf V 3 t
  wna := blkOf V 4 t
  ba := blkOf V 5 t
  wsr := blkOf V 6 t
  wnr := blkOf V 7 t
  br := blkOf V 8 t
  g := blkOf V 9 t
  be := blkOf V 10 t
  wf := blkOf V 11 t

/-- The carried buffers after `n` points, from `S₀`. -/
def carried (S₀ : St F) : ℕ → St F
  | 0 => S₀
  | n + 1 => if h : n < cfg1.N then step (grid1.coords ⟨n, h⟩) (blocks V ⟨n, h⟩) (carried S₀ n) else carried S₀ n

/-- What a point leaves in a window's buffer, of what it finds there: an input's is unchanged; the result's holds, at the
    last layer, the point's rows of the result for some first contents of the carried buffers. -/
def leaves : (w : Fin 13) → Fin cfg1.N → ((win1 w).block.Idx → Elt F (win1 w).elt) → ((win1 w).block.Idx → Elt F (win1 w).elt) → Prop
  | 0, _, Y, X => X = Y
  | 1, _, Y, X => X = Y
  | 2, _, Y, X => X = Y
  | 3, _, Y, X => X = Y
  | 4, _, Y, X => X = Y
  | 5, _, Y, X => X = Y
  | 6, _, Y, X => X = Y
  | 7, _, Y, X => X = Y
  | 8, _, Y, X => X = Y
  | 9, _, Y, X => X = Y
  | 10, _, Y, X => X = Y
  | 11, _, Y, X => X = Y
  | 12, t, _, X => (grid1.coords t 0).val = 3 → ∃ S₀ : St F, X = outRows (grid1.coords t) (blocks V t) (carried V S₀ t.val)

end Data

variable (V : Dev nD → Valuation τ sig (Elt F))

/-- The carried buffers, owned at the contents `S`. -/
def scr (c : Dev nD) (S : St F) : sProp 𝕄 :=
  iprop(owns (T c) (Memref.whole cc1_scratch0) fullShare S.hitem ∗ owns (T c) (Memref.whole cc1_scratch1) fullShare S.htag
    ∗ owns (T c) (Memref.whole cc1_scratch2) fullShare S.agg ∗ owns (T c) (Memref.whole cc1_scratch3) fullShare S.degt)

/-- The waits that the TensorCore has on record: below the levels of a second SparseCore call. -/
def recd (c : Dev nD) : Set (SemLoc sig × HIx 1) := {p | (K (F := F)).lev (T c, p.1) p.2 ≤ 8}

abbrev adm : (p : Fin 1) → (pcfgs (F := F) p).Adm := fun p => (cfgs p).toPCfg_adm

/-- The proof data of the dense call's pipeline. -/
def rdat (c : Dev nD) : RDat τ (Elt F) (HIx 1) ℕ UU ℕ cfg1 c where
  A w := V c (Proc.devRef .tc (arrRef spec1 w))
  after := leaves (V c)
  Φ n := iprop(∃ S₀ : St F, scr c (carried (V c) S₀ n.val))
  q _ := fullShare
  owed _ := 0
  recorded _ := recd (F := F) c

def rdats (p : Fin 1) (c : Dev nD) : RDat τ (Elt F) (HIx 1) ℕ UU ℕ (pin (pcfgs (F := F)) adm p) c :=
  match p with
  | 0 => rdat V c

variable [∀ e, Nonempty (Elt F e)]

theorem finds_in (c : Dev nD) (w : Fin 13) (hw : w ≠ 12) (t : Fin cfg1.N) (X) (h : (rdat V c).Finds w t X) (d) : X = (rdat V c).fetched w t d := by
  refine finds_input (rdat V c) ?_ ?_ ?_ d t.val t rfl X h
  · exact (show ∀ w : Fin 13, w ≠ 12 → (win1 w).isOut = false by decide) w hw
  · clear h; fin_cases w <;> first | exact fun _ _ => rfl | exact absurd rfl hw
  · clear h; fin_cases w <;> first | exact fun _ _ _ h => h | exact absurd rfl hw

theorem fetched_blk (c : Dev nD) (w : Fin 13) (t : Fin cfg1.N) (d) (hx : ∀ a, (cfg1.win w).clip (grid1.coords t) a = none) (j : (cfg1.win w).block.Idx)
    (j' : ((win1 w).xblock (grid1.coords t)).Idx) (hj : ∀ a, (j a).val = (j' a).val) : (rdat V c).fetched w t d j = blkOf (V c) w t j' := by
  unfold RDat.fetched Window.fill
  have hm : (cfg1.win w).moved (grid1.coords t) j = true :=
    ((cfg1.win w).moved_iff _ j).mpr fun a => by have := (j a).isLt; unfold Window.xsize; rw [hx a]; exact this
  rw [dif_pos hm]
  show blkOf (V c) w t _ = _
  exact congrArg _ (funext fun a => Fin.ext (hj a))

theorem fetched_eq (c : Dev nD) (t : Fin cfg1.N) (Y : (w : Fin cfg1.W) → (cfg1.win w).block.Idx → Elt F (cfg1.win w).elt)
    (hY : ∀ w, (rdat V c).Finds w t (Y w)) :
    Y 0 = (blocks (V c) t).c ∧ Y 1 = (blocks (V c) t).it ∧ Y 2 = (blocks (V c) t).tt ∧ Y 3 = (blocks (V c) t).wsa ∧ Y 4 = (blocks (V c) t).wna
      ∧ Y 5 = (blocks (V c) t).ba ∧ Y 6 = (blocks (V c) t).wsr ∧ Y 7 = (blocks (V c) t).wnr ∧ Y 8 = (blocks (V c) t).br
      ∧ Y 9 = (blocks (V c) t).g ∧ Y 10 = (blocks (V c) t).be ∧ Y 11 = (blocks (V c) t).wf := by
  refine ⟨?_, ?_, ?_, ?_, ?_, ?_, ?_, ?_, ?_, ?_, ?_, ?_⟩
  all_goals
    first
      | exact (finds_in V c 0 (by decide) t _ (hY 0) (fun _ => Classical.arbitrary _)).trans (funext fun j => fetched_blk V c 0 t _ (fun _ => rfl) j j fun _ => rfl)
      | exact (finds_in V c 1 (by decide) t _ (hY 1) (fun _ => Classical.arbitrary _)).trans (funext fun j => fetched_blk V c 1 t _ (fun _ => rfl) j j fun _ => rfl)
      | exact (finds_in V c 2 (by decide) t _ (hY 2) (fun _ => Classical.arbitrary _)).trans (funext fun j => fetched_blk V c 2 t _ (fun _ => rfl) j j fun _ => rfl)
      | exact (finds_in V c 3 (by decide) t _ (hY 3) (fun _ => Classical.arbitrary _)).trans (funext fun j => fetched_blk V c 3 t _ (fun _ => rfl) j j fun _ => rfl)
      | exact (finds_in V c 4 (by decide) t _ (hY 4) (fun _ => Classical.arbitrary _)).trans (funext fun j => fetched_blk V c 4 t _ (fun _ => rfl) j j fun _ => rfl)
      | exact (finds_in V c 5 (by decide) t _ (hY 5) (fun _ => Classical.arbitrary _)).trans (funext fun j => fetched_blk V c 5 t _ (fun _ => rfl) j j fun _ => rfl)
      | exact (finds_in V c 6 (by decide) t _ (hY 6) (fun _ => Classical.arbitrary _)).trans (funext fun j => fetched_blk V c 6 t _ (fun _ => rfl) j j fun _ => rfl)
      | exact (finds_in V c 7 (by decide) t _ (hY 7) (fun _ => Classical.arbitrary _)).trans (funext fun j => fetched_blk V c 7 t _ (fun _ => rfl) j j fun _ => rfl)
      | exact (finds_in V c 8 (by decide) t _ (hY 8) (fun _ => Classical.arbitrary _)).trans (funext fun j => fetched_blk V c 8 t _ (fun _ => rfl) j j fun _ => rfl)
      | exact (finds_in V c 9 (by decide) t _ (hY 9) (fun _ => Classical.arbitrary _)).trans (funext fun j => fetched_blk V c 9 t _ (fun _ => rfl) j j fun _ => rfl)
      | exact (finds_in V c 10 (by decide) t _ (hY 10) (fun _ => Classical.arbitrary _)).trans (funext fun j => fetched_blk V c 10 t _ (fun _ => rfl) j j fun _ => rfl)
      | exact (finds_in V c 11 (by decide) t _ (hY 11) (fun _ => Classical.arbitrary _)).trans (funext fun j => fetched_blk V c 11 t _ (fun _ => rfl) j j fun _ => rfl)

/-! ## The body at every point -/

theorem body_row (t : Fin cfg1.N) : defs₀ (F := F) .tc cfg1.body (cfg1.bodyArgs t (cfg1.slots t)) = bodyAt1 t := rfl

set_option maxHeartbeats 1000000 in
theorem body_obl (c : Dev nD) : (rdat V c).BodyObligation defs₀ 𝒱₀ none Set.univ := by
  intro t Y hY
  obtain ⟨e0, e1, e2, e3, e4, e5, e6, e7, e8, e9, e10, e11⟩ := fetched_eq V c t Y hY
  rw [bigSep_W1, bigSep_W1, body_row]
  iintro ⟨HΦ, HO, H0, H1, H2, H3, H4, H5, H6, H7, H8, H9, H10, H11, H12⟩
  ihave HΦ := (show (rdat V c).Φ t.castSucc ⊢ iprop(∃ S₀ : St F, scr c (carried (V c) S₀ t.val)) from BI.Entails.refl _) $$ HΦ
  icases HΦ with ⟨%S₀, Hs⟩
  iapply (wp_wand_r frame _ Set.univ)
  isplitl [Hs H0 H1 H2 H3 H4 H5 H6 H7 H8 H9 H10 H11 H12]
  · iapply (wp_body c (grid1.coords t) _ _ _ _ _ _ _ _ _ _ _ _ _ _ _ _ _ _ _ _ _ _ _ _ _ _ _ _ _ _ _ _ _ _ (blocks (V c) t) (Y 12) (carried (V c) S₀ t.val))
    rw [e0, e1, e2, e3, e4, e5, e6, e7, e8, e9, e10, e11]
    unfold mems scr
    icases Hs with ⟨Ha, Hb, Hc, Hd⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [Ha]; · iexact Ha
    isplitl [Hb]; · iexact Hb
    isplitl [Hc]; · iexact Hc
    iexact Hd
  iintro %_ H
  unfold mems
  icases H with ⟨H0, H1, H2, H3, H4, H5, H6, H7, H8, H9, H10, H11, H12, Ha, Hb, Hc, Hd⟩
  isplitl [Ha Hb Hc Hd]
  · iapply (show iprop(∃ S₀ : St F, scr c (carried (V c) S₀ t.succ.val)) ⊢ (rdat V c).Φ t.succ from BI.Entails.refl _)
    iexists S₀
    have hstep : carried (V c) S₀ t.succ.val = step (grid1.coords t) (blocks (V c) t) (carried (V c) S₀ t.val) := by
      show (if h : t.val < cfg1.N then _ else _) = _
      rw [dif_pos t.isLt]
    rw [hstep]
    unfold scr
    isplitl [Ha]; · iexact Ha
    isplitl [Hb]; · iexact Hb
    isplitl [Hc]; · iexact Hc
    iexact Hd
  isplitl [HO]; · iexact HO
  isplitl [H0]; · iexists _; isplitr; · ipureintro; exact e0.symm
                  iexact H0
  isplitl [H1]; · iexists _; isplitr; · ipureintro; exact e1.symm
                  iexact H1
  isplitl [H2]; · iexists _; isplitr; · ipureintro; exact e2.symm
                  iexact H2
  isplitl [H3]; · iexists _; isplitr; · ipureintro; exact e3.symm
                  iexact H3
  isplitl [H4]; · iexists _; isplitr; · ipureintro; exact e4.symm
                  iexact H4
  isplitl [H5]; · iexists _; isplitr; · ipureintro; exact e5.symm
                  iexact H5
  isplitl [H6]; · iexists _; isplitr; · ipureintro; exact e6.symm
                  iexact H6
  isplitl [H7]; · iexists _; isplitr; · ipureintro; exact e7.symm
                  iexact H7
  isplitl [H8]; · iexists _; isplitr; · ipureintro; exact e8.symm
                  iexact H8
  isplitl [H9]; · iexists _; isplitr; · ipureintro; exact e9.symm
                  iexact H9
  isplitl [H10]; · iexists _; isplitr; · ipureintro; exact e10.symm
                   iexact H10
  isplitl [H11]; · iexists _; isplitr; · ipureintro; exact e11.symm
                   iexact H11
  iexists (if (grid1.coords t 0).val = 3 then outRows (grid1.coords t) (blocks (V c) t) (carried (V c) S₀ t.val) else Y 12)
  isplitr
  · ipureintro
    exact fun h3 => ⟨S₀, if_pos h3⟩
  iexact H12

/-! ## The call as a region of @main -/

/-- What the call leaves in the result, over the contents `V`. -/
def outOk (c : Dev nD) (G : Vec F S50000x128 .f32) : Prop := (rdat V c).ArrAt 12 cfg1.N G

/-- The contents after the call: the result at `G`. -/
def after (c : Dev nD) (G : Vec F S50000x128 .f32) : Valuation τ sig (Elt F) := Function.update (V c) (Proc.devRef .tc main_v7) G

/-- What the TensorCore owes, which is nothing, with its recorded waits. -/
def owesT (c : Dev nD) : sProp 𝕄 := iprop(∃ W : Waits sig (HIx 1), ⌜(↑W : Set (SemLoc sig × HIx 1)) ⊆ recd (F := F) c⌝ ∗ owes (T c) (0 : CellTallies nD τ sig (HIx 1)) W)

theorem arr_sub : arrRefs (τ := τ) spec1 ⊆ ucRefs τ sig := by decide

theorem waits_sub (c : Dev nD) : cfg1.waitPairs (none : HIx 1) ⊆ recd (F := F) c := by
  rintro p ⟨w, s, rfl⟩
  exact Nat.zero_le _

/-- The exact data at whose arrays the relational data's are read. -/
def xdats (p : Fin 1) (c : Dev nD) : Dat τ (Elt F) (HIx 1) ℕ UU ℕ (pin (pcfgs (F := F)) adm p) c :=
  (rdats V p c).withAfter fun _ _ _ => Classical.arbitrary _

theorem kit : PLaunchFacts (nD := nD) (τ := τ) (pcfgs (F := F)) 0 := launch1.toP

theorem arrays_at (c : Dev nD) (G : (w : Fin 13) → Buf (Elt F) ((win1 w).arr.view.loc (c.tc : Thread nD τ))) (W : Valuation τ sig (Elt F))
    (hG : ∀ w, G w = W (Proc.devRef .tc (arrRef spec1 w))) :
    ((rdat V c).arrays G : sProp 𝕄) = StableHlo.held (T c) (arrRefs spec1) W :=
  arrays_held (pcfgs (F := F)) adm (xdats V) 0 kit c (fun w => by show (if _ then fullShare else fullShare) = _; exact ite_self _) G W hG

/-- After the run: the arrays at the contents they had, the result's at contents that the call may leave. -/
theorem arrays_after (c : Dev nD) : ((rdat V c).arraysAt cfg1.N : sProp 𝕄)
    ⊢ iprop(∃ G : Vec F S50000x128 .f32, ⌜outOk V c G⌝ ∗ StableHlo.held (T c) (arrRefs spec1) (after V c G)) := by
  unfold RDat.arraysAt
  refine (BI.bigSep_exists_pi Finset.univ _).trans ?_
  iintro ⟨%A, H⟩
  ihave H' := (BI.bigSep_pure_sep Finset.univ (fun w => (rdat V c).ArrAt w cfg1.N (A w)) _) $$ H
  icases H' with ⟨%hA, H⟩
  iexists (A 12)
  isplitr
  · ipureintro; exact hA 12 (Finset.mem_univ _)
  have hall : ∀ w : Fin 13, A w = after V c (A 12) (Proc.devRef .tc (arrRef spec1 w)) := by
    intro w
    unfold after
    by_cases hw : w = 12
    · subst hw; exact (Function.update_self (f := V c) (Proc.devRef .tc main_v7) (A 12)).symm
    · rw [Function.update_of_ne ((show ∀ w : Fin 13, w ≠ 12 → (Proc.devRef .tc (arrRef spec1 w) : DevRef τ sig) ≠ Proc.devRef .tc main_v7 by decide) w hw)]
      have h1 := hA w (Finset.mem_univ _)
      rw [(rdat V c).ArrAt_in w ((show ∀ w : Fin 13, w ≠ 12 → (win1 w).isOut = false by decide) w hw)] at h1
      exact h1
  rw [← arrays_at V c A (after V c (A 12)) hall]
  unfold RDat.arrays
  iexact H

/-- The dense call: entered with the arrays at `V c` and nothing owed, left with the result at some contents of the relation. -/
def region : RDat.RegionSeg (pcfgs (F := F)) adm (rdats V) none defs₀ 𝒱₀ (K (F := F)).L (K (F := F)).lev 0 where
  win := (kit (F := F)).to₀.win
  block_pos := (kit (F := F)).to₀.block_pos
  stage_whole := (kit (F := F)).to₀.stage_whole
  K := PEmpty
  osem k := k.elim
  ho := OwnSemFacts.none _
  hbody c := body_obl V c
  hwaits c := (show (levAts (K (F := F)).L (K (F := F)).lev : sProp 𝕄) ⊢ BI.emp from by iintro -; iempintro).trans
    (RDat.cellsWaits_of_owed_zero (pin (pcfgs (F := F)) adm) (rdats V) none 0 c fun _ => rfl)
  pre c := iprop(StableHlo.held (T c) (ucRefs τ sig) (V c) ∗ owesT (F := F) c)
  post c := iprop((∃ G : Vec F S50000x128 .f32, ⌜outOk V c G⌝ ∗ StableHlo.held (T c) (ucRefs τ sig) (after V c G)) ∗ owesT (F := F) c)
  X _ := iprop(emp)
  Y _ := iprop(emp)
  Z c := StableHlo.held (T c) (ucRefs τ sig \ arrRefs spec1) (V c)
  hentry c := by
    rw [prefHeld_of_none _ (show (pcfgs (F := F) 0).pre.K = 0 from rfl), StableHlo.held_sub_split (T c) arr_sub (V c),
      ← arrays_at V c (rdat V c).A (V c) (fun _ => rfl)]
    iintro ⟨⟨⟨Ha, Hr⟩, HO⟩, -, -⟩
    imodintro
    isplitl [Ha]; · iexact Ha
    isplitr; · iempintro
    isplitl [HO]
    · unfold owesT
      icases HO with ⟨%W, %hW, HO⟩
      iapply (show iprop(∃ W : Waits sig (HIx 1), ⌜(↑W : Set (SemLoc sig × HIx 1)) ⊆ recd (F := F) c ∪ cfg1.waitPairs none⌝
        ∗ owes (T c) (0 : CellTallies nD τ sig (HIx 1)) W) ⊢ ((rdats V 0 c).owesAt none 0 : sProp 𝕄) from BI.Entails.refl _)
      iexists W
      isplitr
      · ipureintro; exact hW.trans Set.subset_union_left
      iexact HO
    isplitr; · iempintro
    iexact Hr
  hin c := by
    iintro ⟨-, -, H⟩
    irevert H
    rw [show (scopedRest (pin (pcfgs (F := F)) adm 0).spec c : sProp 𝕄) = scopedRest spec1 c from rfl, scopedRest1_eq]
    iintro ⟨⟨%f0, H0⟩, ⟨%f1, H1⟩, ⟨%f2, H2⟩, ⟨%f3, H3⟩⟩
    iapply (show iprop(∃ S₀ : St F, scr c (carried (V c) S₀ 0)) ⊢ (rdats V 0 c).Φ 0 from BI.Entails.refl _)
    iexists ⟨f0, f1, f2, f3⟩
    unfold scr
    simp only [owns_whole]
    isplitl [H0]; · iexact H0
    isplitl [H1]; · iexact H1
    isplitl [H2]; · iexact H2
    iexact H3
  hout c := by
    iintro H
    ihave H := (show (rdats V 0 c).Φ (Fin.last (pin (pcfgs (F := F)) adm 0).N) ⊢ iprop(∃ S₀ : St F, scr c (carried (V c) S₀ cfg1.N)) from BI.Entails.refl _) $$ H
    icases H with ⟨%S₀, H⟩
    irevert H
    rw [show (scopedRest (pin (pcfgs (F := F)) adm 0).spec c : sProp 𝕄) = scopedRest spec1 c from rfl, scopedRest1_eq, ownSems0_none]
    unfold scr
    simp only [owns_whole]
    iintro ⟨H0, H1, H2, H3⟩
    isplitr; · iempintro
    isplitr; · iempintro
    isplitl [H0]; · iexists _; iexact H0
    isplitl [H1]; · iexists _; iexact H1
    isplitl [H2]; · iexists _; iexact H2
    iexists _; iexact H3
  hexit c := by
    iintro ⟨Ha, HO, -, Hr⟩
    imodintro
    isplitl [Ha Hr]
    · ihave Ha := (show ((rdats V 0 c).arraysAt (pin (pcfgs (F := F)) adm 0).N : sProp 𝕄) ⊢ (rdat V c).arraysAt cfg1.N from BI.Entails.refl _) $$ Ha
      ihave H := (arrays_after V c) $$ Ha
      icases H with ⟨%G, %hG, H⟩
      iexists G
      isplitr; · ipureintro; exact hG
      rw [StableHlo.held_sub_split (T c) arr_sub (after V c G),
        StableHlo.held_congr (T c) (S := ucRefs τ sig \ arrRefs spec1) (V := after V c G) (V' := V c) fun b hb => by
          unfold after
          refine Function.update_of_ne (fun e => (Finset.mem_sdiff.mp hb).2 ?_) _ _
          rw [e]; decide]
      isplitl [H]; · iexact H
      iexact Hr
    · ihave HO := (show ((rdats V 0 c).owesAt none (Fin.last (pin (pcfgs (F := F)) adm 0).N) : sProp 𝕄) ⊢ iprop(∃ W : Waits sig (HIx 1), ⌜(↑W : Set (SemLoc sig × HIx 1)) ⊆ recd (F := F) c ∪ cfg1.waitPairs none⌝
        ∗ owes (T c) (0 : CellTallies nD τ sig (HIx 1)) W) from BI.Entails.refl _) $$ HO
      icases HO with ⟨%W, %hW, HO⟩
      unfold owesT
      iexists W
      isplitr
      · ipureintro; exact hW.trans (Set.union_subset le_rfl (waits_sub c))
      iexact HO

end Cert.Proof

end
-- ==== Proof.Main.lean ====
/-
  The whole program's run: the counting call, the host's reshapes, and the dense call, from any memory; what the
  argument arrays and the result hold at the end.
-/
module

public import proofs.«01_k».proof.Proof.Call
public import proofs.«01_k».proof.Proof.Region

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (ucRefs unscopedBufs_held sub_ucRefs)

variable {F : FTy → Type} [FloatOps F] [∀ e, Nonempty (Elt F e)]

local notation "𝕄" => MT nD τ sig (HIx 1) (Elt F) ℕ UU ℕ

variable (m : (ℓ : Loc nD τ sig) → Buf (Elt F) ℓ) (d : Dev nD)

/-! ## The launch element -/

theorem pinj : Function.Injective (Pipeline.cellOf (nD := nD) (τ := τ) (Pipeline.pin (pcfgs (F := F)) adm)) := kit.to₀.cellOf_inj adm

def u₀ : UU := (initOf (K (F := F)).hsCells (K (F := F)).hsToks,
  (initOf (Pipeline.cells (Pipeline.pin (pcfgs (F := F)) adm) pinj) (Pipeline.launchToks (Pipeline.pin (pcfgs (F := F)) adm) pinj), 1))

theorem ownU_triple (a : URounds (GSem nD τ sig) ℕ) (b : URounds (GSem nD τ sig) Unit) (e : Counters) :
    (ownU (a, (b, e)) : sProp 𝕄) ⊢ iprop(BI.own (EH a) ∗ BI.own (EP b)) := by
  have h1 : (ownU (a, (b, e)) : sProp 𝕄) ⊢ iprop(BI.own (EH a) ∗ ownU ((1 : URounds (GSem nD τ sig) ℕ), (b, e))) :=
    BI.own_op_elim ((uEmb (nD := nD) (τ := τ) (sig := sig) (Ix := HIx 1) (Val := Elt F) (Name := ℕ) (U := UU) (Lvl := ℕ)).toEmb.op_of_mem
      (Prod.mk_mem_op (URA.mem_op_one a) (URA.mem_one_op (b, e))))
  have h2 : (ownU ((1 : URounds (GSem nD τ sig) ℕ), (b, e)) : sProp 𝕄) ⊢ iprop(BI.own (EP b) ∗ ownU ((1 : URounds (GSem nD τ sig) ℕ), ((1 : URounds (GSem nD τ sig) Unit), e))) :=
    BI.own_op_elim ((uEmb (nD := nD) (τ := τ) (sig := sig) (Ix := HIx 1) (Val := Elt F) (Name := ℕ) (U := UU) (Lvl := ℕ)).toEmb.op_of_mem
      (Prod.mk_mem_op (URA.mem_op_one (1 : URounds (GSem nD τ sig) ℕ)) (Prod.mk_mem_op (URA.mem_op_one b) (URA.mem_one_op e))))
  iintro H
  ihave H := h1 $$ H
  icases H with ⟨HA, HB⟩
  isplitl [HA]; · iexact HA
  ihave HB := h2 $$ HB
  icases HB with ⟨HB, -⟩
  iexact HB

theorem bigSep_emp' {I : Type} (s : Finset I) : (bigSep s fun _ => iprop(emp)) = (iprop(emp) : sProp 𝕄) := bigSep_emp_const s

/-- The staging buffers' ghost state that the launch deals each device. -/
def ghost (d : Dev nD) : sProp 𝕄 :=
  iprop((bigSep Finset.univ fun p : Fin 1 => Pipeline.cellsGhost (Pipeline.pin (pcfgs (F := F)) adm) EP p d)
    ∗ (bigSep Finset.univ fun p : Fin 1 => Pipeline.toksInit (Pipeline.pin (pcfgs (F := F)) adm) EP p d))

theorem hu₀ : (ownU (u₀ (F := F)) : sProp 𝕄)
    ⊢ |={Set.univ}=> iprop(BI.own (EH (initOf (K (F := F)).hsCells (K (F := F)).hsToks)) ∗ (bigSep Finset.univ fun d : Dev nD => ghost (F := F) d)
        ∗ bigSep Finset.univ fun thr : Thread nD τ => bigSep Finset.univ fun q : Fin 1 => (P m).x q thr) := by
  unfold u₀
  iintro Hu
  ihave H := (ownU_triple _ _ _) $$ Hu
  icases H with ⟨HH, HP⟩
  imod (Pipeline.fund_ghost (cfgs := Pipeline.pin (pcfgs (F := F)) adm) (ER := EP) (hinj := pinj)) $$ HP with ⟨Hc, Ht⟩
  imodintro
  isplitl [HH]; · iexact HH
  isplitl [Hc Ht]
  · unfold ghost
    rw [bigSep_sep']
    isplitl [Hc] <;> iassumption
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

variable (ρ : Dev nD → PrngReg)

abbrev opC : HloOp τ sig (Elt F) := StableHlo.nullary main_cst (constant S_ .f32 0x00000000#32)
abbrev opZ : HloOp τ sig (Elt F) := StableHlo.unary main_cst main_v0
  (broadcastInDim S120000 ![] bcast_S_S120000 : (⟨S_, .f32⟩ : BufTy).Contents (Elt F) → (⟨S120000, .f32⟩ : BufTy).Contents (Elt F))
abbrev opR : HloOp τ sig (Elt F) := StableHlo.reshape main_v1 main_v2 (rfl : (.f32 : EltTy) = .f32) shapeCasts_S5000000_S50000x100

abbrev opR3 : HloOp τ sig (Elt F) := StableHlo.reshape main_arg7 main_v3 (rfl : (.f32 : EltTy) = .f32) shapeCasts_S4x128_S4x1x128
abbrev opR4 : HloOp τ sig (Elt F) := StableHlo.reshape main_arg10 main_v4 (rfl : (.f32 : EltTy) = .f32) shapeCasts_S4x128_S4x1x128
abbrev opR5 : HloOp τ sig (Elt F) := StableHlo.reshape main_arg11 main_v5 (rfl : (.f32 : EltTy) = .f32) shapeCasts_S4x128_S4x1x128
abbrev opR6 : HloOp τ sig (Elt F) := StableHlo.reshape main_arg12 main_v6 (rfl : (.f32 : EltTy) = .f32) shapeCasts_S4x128_S4x1x128

/-- The arrays' contents at the launch, before the counting call, after it, and after each of the reshapes. -/
def V0 : Valuation τ sig (Elt F) := fun b => m (d, b)
def V1 : Valuation τ sig (Elt F) := (opZ (F := F)).result ((opC (F := F)).result (V0 m d))
def V2 : Valuation τ sig (Elt F) := Function.update (V1 m d) o' (outOf m d)
def V3 : Valuation τ sig (Elt F) := (opR (F := F)).result (V2 m d)

def V4 : Valuation τ sig (Elt F) := (opR3 (F := F)).result (V3 m d)
def V5 : Valuation τ sig (Elt F) := (opR4 (F := F)).result (V4 m d)
def V6 : Valuation τ sig (Elt F) := (opR5 (F := F)).result (V5 m d)
/-- The arrays' contents at the dense call. -/
def VE (d : Dev nD) : Valuation τ sig (Elt F) := (opR6 (F := F)).result (V6 m d)

theorem V1_of (b : Ref sig .tc) (h : b ≠ main_v0) (h' : b ≠ main_cst) : V1 m d (Proc.devRef .tc b) = m ((T d : Thread nD τ).loc b) := by
  unfold V1
  rw [HloOp.result_of_not_mem _ _ (by rw [StableHlo.unary_writes, Finset.mem_singleton]; exact fun e => h (Proc.devRef_injective _ e)),
    HloOp.result_of_not_mem _ _ (by rw [StableHlo.nullary_writes, Finset.mem_singleton]; exact fun e => h' (Proc.devRef_injective _ e))]
  rfl

theorem V1_zeros : V1 m d z' = (zeros : Vec F S120000 .f32) := by
  unfold V1
  rw [StableHlo.unary_result, StableHlo.nullary_result]
  rfl

/-- What @main leaves the claims: every array as the dense call found it, but the result, at contents that the dense
    call may leave. -/
abbrev FIN : sProp 𝕄 := iprop(∃ G : Vec F S50000x128 .f32, ⌜outOk (VE m) d G⌝ ∗ StableHlo.held (T d) (ucRefs τ sig) (after (VE m) d G))

/-- The TensorCore's state after the counting call, the tallies and the recorded waits apart. -/
def stRest (d : Dev nD) : sProp 𝕄 := iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some ((inferInstance : SparseCore.Cfg.Blocks 1 1).last q)) 1)))

theorem tcSt_one (d : Dev nD) : ((K (F := F)).tcSt EH d 1 : sProp 𝕄) = iprop(owesT (F := F) d ∗ stRest (F := F) d) := by
  unfold SparseCore.Cfg.tcSt owesT stRest
  rw [(K (F := F)).Otc_end d (le_refl 1)]
  rfl

theorem hmain (κ : GSem nD τ sig → ℕ) (d : Dev nD) :
    iprop((K (F := F)).ctx EH (P m) κ ∗ (K (F := F)).tcSt EH d 0 ∗ (K (F := F)).tcRes m ρ d ∗ ghost (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = StableHlo.held (T d) (ucRefs τ sig) (V0 m d) from
    unscopedBufs_held d (V0 m d)]
  simp only [main, wp_bind, wp_pure]
  iintro ⟨#Hctx, Hst, ⟨Hb, Hh, Hts, -⟩, HG⟩
  iapply (StableHlo.wp_hlo_within 𝒱 (SparseCore.T d) none Set.univ (op := opC) (S := ucRefs τ sig) (sub_ucRefs _ (StableHlo.nullary_bufs_sub ..)) (V := V0 m d)) $$ [Hb Hh]
  · isplitl [Hb]; · iexact Hb
    iexact Hh
  iintro ⟨Hb, Hh⟩
  rw [wp_ret]; imodintro
  iapply (StableHlo.wp_hlo_within 𝒱 (SparseCore.T d) none Set.univ (op := opZ) (S := ucRefs τ sig) (sub_ucRefs _ (StableHlo.unary_bufs_sub ..)) (V := (opC (F := F)).result (V0 m d))) $$ [Hb Hh]
  · isplitl [Hb]; · iexact Hb
    iexact Hh
  iintro ⟨Hb, Hh⟩
  rw [wp_ret]; imodintro
  iapply (wp_call m d κ (V1 m d) (V1_of m d main_arg1 (by decide) (by decide)) (V1_of m d main_arg2 (by decide) (by decide)) (V1_zeros m d)
    (V1_of m d main_v1 (by decide) (by decide)))
  isplitr; · iexact Hctx
  isplitl [Hst]; · iexact Hst
  isplitl [Hh]; · iexact Hh
  iintro ⟨Hst, Hh⟩
  iapply (StableHlo.wp_hlo_within 𝒱 (SparseCore.T d) none Set.univ (op := opR) (S := ucRefs τ sig) (sub_ucRefs _ (StableHlo.reshape_bufs_sub ..)) (V := V2 m d)) $$ [Hb Hh]
  · isplitl [Hb]; · iexact Hb
    iexact Hh
  iintro ⟨Hb, Hh⟩
  rw [wp_ret]; imodintro
  iapply (StableHlo.wp_hlo_within 𝒱 (SparseCore.T d) none Set.univ (op := opR3) (S := ucRefs τ sig) (sub_ucRefs _ (StableHlo.reshape_bufs_sub ..)) (V := V3 m d)) $$ [Hb Hh]
  · isplitl [Hb]; · iexact Hb
    iexact Hh
  iintro ⟨Hb, Hh⟩
  rw [wp_ret]; imodintro
  iapply (StableHlo.wp_hlo_within 𝒱 (SparseCore.T d) none Set.univ (op := opR4) (S := ucRefs τ sig) (sub_ucRefs _ (StableHlo.reshape_bufs_sub ..)) (V := V4 m d)) $$ [Hb Hh]
  · isplitl [Hb]; · iexact Hb
    iexact Hh
  iintro ⟨Hb, Hh⟩
  rw [wp_ret]; imodintro
  iapply (StableHlo.wp_hlo_within 𝒱 (SparseCore.T d) none Set.univ (op := opR5) (S := ucRefs τ sig) (sub_ucRefs _ (StableHlo.reshape_bufs_sub ..)) (V := V5 m d)) $$ [Hb Hh]
  · isplitl [Hb]; · iexact Hb
    iexact Hh
  iintro ⟨Hb, Hh⟩
  rw [wp_ret]; imodintro
  iapply (StableHlo.wp_hlo_within 𝒱 (SparseCore.T d) none Set.univ (op := opR6) (S := ucRefs τ sig) (sub_ucRefs _ (StableHlo.reshape_bufs_sub ..)) (V := V6 m d)) $$ [Hb Hh]
  · isplitl [Hb]; · iexact Hb
    iexact Hh
  iintro ⟨Hb, Hh⟩
  rw [wp_ret]; imodintro
  ihave Hst := (show ((K (F := F)).tcSt EH d 1 : sProp 𝕄) ⊢ iprop(owesT (F := F) d ∗ stRest (F := F) d) from (tcSt_one d).le) $$ Hst
  icases Hst with ⟨HO, Hst⟩
  ihave HL := ((K (F := F)).ctx_levAts (EH := EH) (P := P m) κ) $$ Hctx
  rw [show (Prog.lift (.customCall (SparseCore.inner (Pipeline.entry 0)) ()) : Prog (TpuEff nD τ sig (Elt F) (SparseCore.Sig (ΛP (F := F)) 1) .tc) PUnit)
    = SparseCore.liftProg (.op (.customCall (Pipeline.entry 0) ()) fun x => .ret x) from rfl]
  iapply ((K (F := F)).wp_liftProg (D (F := F)) 𝒱 (T d) Set.univ none)
  iapply (Pipeline.RDat.RegionSeg.wp (pcfgs (F := F)) adm (rdats (VE m)) none pinj EP defs₀ 𝒱₀ (K (F := F)).L (K (F := F)).lev (region (VE m)) d none
    (fun _ h => by cases h))
  unfold ghost
  rw [show (Finset.univ : Finset (Fin 1)) = {0} from rfl, bigSep_singleton, bigSep_singleton]
  icases HG with ⟨Hc, Ht⟩
  isplitl [Hst Hts]
  · iintro ⟨Hb, Hp⟩
    rw [wp_ret]; imodintro; imodintro
    ihave Hp := (show (region (VE m)).post d ⊢ iprop((∃ G : Vec F S50000x128 .f32, ⌜outOk (VE m) d G⌝ ∗ StableHlo.held (T d) (ucRefs τ sig) (after (VE m) d G)) ∗ owesT (F := F) d) from BI.Entails.refl _) $$ Hp
    icases Hp with ⟨Hp, HO⟩
    isplitl [Hst HO]
    · rw [tcSt_one]
      isplitl [HO] <;> iassumption
    isplitl [Hp]; · iexact Hp
    isplitl [Hb] <;> iassumption
  isplitl [Hb]; · iexact Hb
  isplitl [Hh HO]
  · iapply (show iprop(StableHlo.held (T d) (ucRefs τ sig) (VE m d) ∗ owesT (F := F) d) ⊢ (region (VE m)).pre d from BI.Entails.refl _)
    isplitl [Hh]; · iexact Hh
    iexact HO
  isplitl [HL]; · iexact HL
  isplitl [Hc] <;> iassumption

/-- The final contents of an array of the TensorCore. -/
def fq (d : Dev nD) (s' : Phys nD τ sig (Elt F)) : Prop := ∃ G : Vec F S50000x128 .f32, outOk (VE m) d G ∧ ∀ b ∈ ucRefs τ sig, s'.mem.mem (d, b) = after (VE m) d G b

theorem hfin (d : Dev nD) (s' : Phys nD τ sig (Elt F)) : iprop(FIN m d ∗ SI s') ⊢ (⌜fq m d s'⌝ : sProp 𝕄) := by
  have hall (G : Vec F S50000x128 .f32) (hG : outOk (VE m) d G) :
      iprop(StableHlo.held (T d) (ucRefs τ sig) (after (VE m) d G) ∗ SI s') ⊢ (⌜fq m d s'⌝ : sProp 𝕄) := by
    intro x hx
    refine ⟨G, hG, fun b hb => ?_⟩
    have h : iprop(StableHlo.held (T d) (ucRefs τ sig) (after (VE m) d G) ∗ SI s')
        ⊢ (⌜∀ i ∈ (Finset.univ : Finset (Idx ((d, b) : Loc nD τ sig))), s'.mem.mem (d, b) i = after (VE m) d G b i⌝ : sProp 𝕄) := by
      iintro ⟨Hh, HSI⟩
      ihave Hx := (show (StableHlo.held (T d) (ucRefs τ sig) (after (VE m) d G) : sProp 𝕄) ⊢ (((d, b) : Loc nD τ sig) ↦{fullShare} after (VE m) d G b) from
        bigSep_elim (Φ := fun b : DevRef τ sig => (((d, b) : Loc nD τ sig) ↦{fullShare} after (VE m) d G b : sProp 𝕄)) hb) $$ Hh
      iapply (SI_pointsTo_agree (st := s') (ℓ := ((d, b) : Loc nD τ sig)) (I := Finset.univ) (q := fullShare) (f := after (VE m) d G b))
      isplitl [HSI] <;> iassumption
    exact funext fun i => h x hx i (Finset.mem_univ i)
  iintro ⟨⟨%G, %hG, Hh⟩, HSI⟩
  iapply (hall G hG)
  isplitl [Hh] <;> iassumption

/-- What a run ends with: every array as the dense call found it but the result, and every semaphore at zero. -/
def QC : PUnit × MemSt nD τ sig (Elt F) → Prop := fun r =>
  (∀ d : Dev nD, ∃ G : Vec F S50000x128 .f32, outOk (VE m) d G ∧ ∀ b ∈ ucRefs τ sig, r.2.mem (d, b) = after (VE m) d G b) ∧ r.2.sem = fun _ => 0

theorem run_main :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main ghost (FIN m) (u₀ (F := F)) (sep_elim_left.trans (hu₀ m)) (hmain m ρ) (fq m) (hfin m) (QC m) (fun _ h hz => ⟨h, hz⟩)

end Cert.Proof

end
-- ==== Proof.Pays.lean ====
/-
  The dense call's payloads at the extended reals, element by element.
-/
module

public import proofs.«01_k».proof.Proof.Step
public import Idealize.ShloMosaic.Lib.Pointwise

@[expose] public section

noncomputable section

namespace Cert.Proof

open Cert.KernelIdeal Cert.KernelIdeal.Gen
open Idealize.ShloMosaic

theorem pay2_apply (v : Vec Ideal S100x1 .f32) (t : Fin 100) : k1_pay2 v (ix2 t 0) = max (v (ix2 t 0)) 1 := by
  pointwise [k1_pay2]

theorem pay9_apply (c : Vec Ideal S2000x100 .f32) (v : Vec Ideal S100x1 .f32) (t : Fin 100) :
    k1_pay9 c v (ix2 t 0) = v (ix2 t 0) + ∑ r : Fin 2000, c (ix2 r t) * 1 := by
  pointwise [k1_pay9, k1_pay4]

theorem pay10_apply (c : Vec Ideal S2000x100 .f32) (h : Vec Ideal S2000x128 .f32) (v : Vec Ideal S100x128 .f32) (t : Fin 100) (k : Fin 128) :
    k1_pay10 c h v (ix2 t k) = v (ix2 t k) + ∑ r : Fin 2000, c (ix2 r t) * h (ix2 r k) := by
  pointwise [k1_pay10, k1_pay4]

theorem pay11_apply (c : Vec Ideal S2000x100 .f32) (r : Fin 2000) :
    k1_pay11 c (ix2 r 0) = max (∑ t : Fin 100, c (ix2 r t)) 1 := by
  pointwise [k1_pay11, k1_pay4]

theorem pay12_apply (h : Vec Ideal S100x128 .f32) (w : Vec Ideal S1x128x128 .f32) (t : Fin 100) (k : Fin 128) :
    k1_pay12 h w (ix2 t k) = ∑ j : Fin 128, h (ix2 t j) * w (ix3 0 j k) := by
  pointwise [k1_pay12]

theorem pay3_apply (ht a : Vec Ideal S100x128 .f32) (d : Vec Ideal S100x1 .f32) (ws wn : Vec Ideal S1x128x128 .f32) (ba : Vec Ideal S1x1x128 .f32)
    (t : Fin 100) (k : Fin 128) :
    k1_pay3 ht a d ws wn ba (ix2 t k)
      = (∑ j : Fin 128, ht (ix2 t j) * ws (ix3 0 j k)) + (∑ j : Fin 128, Ideal.div (a (ix2 t j)) (d (ix2 t 0)) * wn (ix3 0 j k)) + ba (ix3 0 0 k) := by
  pointwise [k1_pay3]

/-- A row's linear part, before the layer norm. -/
def lin (c : Vec Ideal S2000x100 .f32) (h : Vec Ideal S2000x128 .f32) (d : Vec Ideal S2000x1 .f32) (tm : Vec Ideal S100x128 .f32)
    (ws : Vec Ideal S1x128x128 .f32) (br : Vec Ideal S1x1x128 .f32) (r : Fin 2000) (k : Fin 128) : EReal :=
  (∑ j : Fin 128, h (ix2 r j) * ws (ix3 0 j k)) + Ideal.div (∑ t : Fin 100, c (ix2 r t) * tm (ix2 t k)) (d (ix2 r 0)) + br (ix3 0 0 k)

/-- A row's mean. -/
def mean (x : Fin 128 → EReal) : EReal := Ideal.div (∑ k : Fin 128, x k) (Ideal.ofBits .f32 0x43000000#32)

theorem pay13_apply (c : Vec Ideal S2000x100 .f32) (h : Vec Ideal S2000x128 .f32) (d : Vec Ideal S2000x1 .f32) (tm : Vec Ideal S100x128 .f32)
    (ws : Vec Ideal S1x128x128 .f32) (br g be : Vec Ideal S1x1x128 .f32) (r : Fin 2000) (k : Fin 128) :
    k1_pay13 c h d tm ws br g be (ix2 r k)
      = (lin c h d tm ws br r k - mean (lin c h d tm ws br r))
          * Ideal.rsqrt (mean (fun k => (lin c h d tm ws br r k - mean (lin c h d tm ws br r)) * (lin c h d tm ws br r k - mean (lin c h d tm ws br r)))
              + Ideal.ofBits .f32 0x3727C5AC#32)
          * g (ix3 0 0 k) + be (ix3 0 0 k) := by
  pointwise [k1_pay13, lin, mean]

theorem pay1_apply (h : Vec Ideal S2000x128 .f32) (wf : Vec Ideal S128x128 .f32) (r : Fin 2000) (k : Fin 128) :
    k1_pay1 h wf (ix2 r k) = if 0 ≤ ∑ j : Fin 128, h (ix2 r j) * wf (ix2 j k) then ∑ j : Fin 128, h (ix2 r j) * wf (ix2 j k)
      else Ideal.ofBits .f32 0x3C23D70A#32 * ∑ j : Fin 128, h (ix2 r j) * wf (ix2 j k) := by
  pointwise [k1_pay1]

end Cert.Proof

end
-- ==== Proof.Model.lean ====
/-
  The network over the extended real numbers: the matrix of edge counts, a layer, the layers one after the other, the result, and
  the two forms of a layer, on the matrix of counts and edge by edge, which agree. Rows of items are numbered by natural
  numbers.
-/
module

public import Idealize.ShloMosaic.Lib.Pointwise

@[expose] public section

noncomputable section

namespace Cert.Proof

open Idealize.ShloMosaic

/-! ## Real numbers among the extended ones -/

theorem coe_sum' {I : Type} (s : Finset I) (f : I → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem coe_max' (x y : ℝ) : max (x : EReal) (y : EReal) = ((max x y : ℝ) : EReal) := (EReal.coe_strictMono.monotone.map_max).symm

theorem coe_div' {x y : ℝ} (h : y ≠ 0) : Ideal.div (x : EReal) (y : EReal) = ((x / y : ℝ) : EReal) := by
  rw [Ideal.div_coe h, ← EReal.coe_mul, mul_one_div]

theorem coe_rsqrt' {x : ℝ} (h : 0 < x) : Ideal.rsqrt (x : EReal) = (((Real.sqrt x)⁻¹ : ℝ) : EReal) := by
  rw [Ideal.rsqrt_coe, if_neg (not_lt.mpr h.le), if_neg h.ne']

theorem coe_sqrt' {x : ℝ} (h : 0 < x) : Ideal.sqrt (x : EReal) = ((Real.sqrt x : ℝ) : EReal) := by
  rw [Ideal.sqrt_coe, if_neg (not_lt.mpr h.le)]

/-- The variance's summand and the slope, as the programs write them. -/
def eps : ℝ := 10995116 * (2 ^ 40)⁻¹
def slope : ℝ := 10737418 * (2 ^ 30)⁻¹

theorem ofBits_128 : Ideal.ofBits .f32 0x43000000#32 = ((128 : ℝ) : EReal) := by
  simp [Ideal.ofBits, Ideal.ieee, -EReal.coe_mul]; norm_num

theorem ofBits_eps : Ideal.ofBits .f32 0x3727C5AC#32 = ((eps : ℝ) : EReal) := by
  unfold eps
  simp [Ideal.ofBits, Ideal.ieee, -EReal.coe_mul]

theorem eps_pos : 0 < eps := by unfold eps; norm_num

theorem ofBits_slope : Ideal.ofBits .f32 0x3C23D70A#32 = ((slope : ℝ) : EReal) := by
  unfold slope
  simp [Ideal.ofBits, Ideal.ieee, -EReal.coe_mul]

/-! ## Infinities -/

/-- An infinity. -/
def Inf (x : EReal) : Prop := x = ⊤ ∨ x = ⊥

theorem coe_of_not_inf {x : EReal} (h : ¬ Inf x) : ((EReal.toReal x : ℝ) : EReal) = x :=
  EReal.coe_toReal (fun e => h (.inl e)) (fun e => h (.inr e))

theorem Inf.add_left {x : EReal} (h : Inf x) (y : EReal) : Inf (x + y) := by
  rcases h with rfl | rfl
  · induction y with
    | bot => exact .inr rfl
    | coe y => exact .inl (EReal.top_add_coe y)
    | top => exact .inl rfl
  · exact .inr (EReal.bot_add y)

theorem Inf.add_right {x : EReal} (h : Inf x) (y : EReal) : Inf (y + x) := by
  rw [add_comm]; exact h.add_left y

theorem inf_sum {I : Type} (s : Finset I) (f : I → EReal) (i : I) (hi : i ∈ s) (h : Inf (f i)) : Inf (∑ i ∈ s, f i) := by
  classical
  rw [← Finset.add_sum_erase s f hi]
  exact h.add_left _

theorem Inf.mul {x : EReal} (h : Inf x) {r : ℝ} (hr : r ≠ 0) : Inf (x * (r : EReal)) := by
  rcases lt_or_gt_of_ne hr with hr | hr <;> rcases h with rfl | rfl
  · exact .inr (EReal.top_mul_coe_of_neg hr)
  · exact .inl (EReal.bot_mul_coe_of_neg hr)
  · exact .inl (EReal.top_mul_coe_of_pos hr)
  · exact .inr (EReal.bot_mul_coe_of_pos hr)

theorem Inf.div {x : EReal} (h : Inf x) {r : ℝ} (hr : r ≠ 0) : Inf (Ideal.div x (r : EReal)) := by
  rw [Ideal.div_coe hr]
  exact h.mul (one_div_ne_zero hr)

theorem Inf.mul_self {x : EReal} (h : Inf x) : x * x = ⊤ := by
  rcases h with rfl | rfl
  · exact EReal.top_mul_top
  · exact EReal.bot_mul_bot

theorem Inf.sub {x : EReal} (h : Inf x) (y : EReal) : Inf (y - x) := by
  rcases h with rfl | rfl
  · exact .inr (EReal.sub_top y)
  · by_cases hy : y = ⊥
    · subst hy; exact .inr rfl
    · exact .inl (EReal.sub_bot hy)

theorem mul_self_nonneg' (x : EReal) : 0 ≤ x * x := by
  by_cases h : Inf x
  · rw [h.mul_self]; exact le_top
  · rw [← coe_of_not_inf h, ← EReal.coe_mul]
    exact_mod_cast mul_self_nonneg _

/-- To divide by a square root is to multiply by its inverse. -/
theorem div_sqrt (x : EReal) {y : EReal} (h : 0 < y) : Ideal.div x (Ideal.sqrt y) = x * Ideal.rsqrt y := by
  induction y with
  | bot => exact absurd h (by simp)
  | coe y =>
    have hy : 0 < y := by exact_mod_cast h
    rw [coe_sqrt' hy, coe_rsqrt' hy, Ideal.div_coe (Real.sqrt_pos.mpr hy).ne', one_div]
  | top =>
    rw [Ideal.sqrt_top, Ideal.rsqrt_top, mul_zero]
    unfold Ideal.div
    rw [if_neg (by simp), EReal.inv_top, mul_zero]

/-! ## The network -/

/-- The network's arguments. -/
structure Net where
  src : Fin 500000 → ℕ
  dst : Fin 500000 → Fin 100
  it : ℕ → Fin 128 → EReal
  tt : Fin 100 → Fin 128 → EReal
  wsa : Fin 4 → Fin 128 → Fin 128 → EReal
  wna : Fin 4 → Fin 128 → Fin 128 → EReal
  ba : Fin 4 → Fin 128 → EReal
  wsr : Fin 4 → Fin 128 → Fin 128 → EReal
  wnr : Fin 4 → Fin 128 → Fin 128 → ℝ
  br : Fin 4 → Fin 128 → EReal
  g : Fin 4 → Fin 128 → EReal
  be : Fin 4 → Fin 128 → EReal
  wf : Fin 128 → Fin 128 → EReal

namespace Net

variable (p : Net)

/-- How many edges join item `r` and tag `t`. -/
def cnt (r : ℕ) (t : Fin 100) : ℝ := ((Finset.univ.filter fun e => p.src e = r ∧ p.dst e = t).card : ℝ)

def degT (t : Fin 100) : ℝ := max (∑ r ∈ Finset.range 50000, p.cnt r t) 1
def degI (r : ℕ) : ℝ := max (∑ t, p.cnt r t) 1

theorem degT_pos (t : Fin 100) : 0 < p.degT t := lt_of_lt_of_le one_pos (le_max_right _ _)
theorem degI_pos (r : ℕ) : 0 < p.degI r := lt_of_lt_of_le one_pos (le_max_right _ _)

/-- The sum of the items' rows over a tag's edges. -/
def aggT (h : ℕ → Fin 128 → EReal) (t : Fin 100) (k : Fin 128) : EReal := ∑ r ∈ Finset.range 50000, (p.cnt r t : EReal) * h r k

/-- A layer's new tags. -/
def newT (l : Fin 4) (h : ℕ → Fin 128 → EReal) (ht : Fin 100 → Fin 128 → EReal) (t : Fin 100) (k : Fin 128) : EReal :=
  (∑ j, ht t j * p.wsa l j k) + (∑ j, Ideal.div (p.aggT h t j) (p.degT t : EReal) * p.wna l j k) + p.ba l k

/-- The neighbours' part of a layer's new items: the tags' rows times the weights, times the counts, over the degree. -/
def neigh (l : Fin 4) (ht : Fin 100 → Fin 128 → EReal) (r : ℕ) (k : Fin 128) : EReal :=
  Ideal.div (∑ t, (p.cnt r t : EReal) * ∑ j, ht t j * (p.wnr l j k : EReal)) (p.degI r : EReal)

/-- The same with the counts first, then the degree, and the weights last. -/
def neighE (l : Fin 4) (ht : Fin 100 → Fin 128 → EReal) (r : ℕ) (k : Fin 128) : EReal :=
  ∑ j, Ideal.div (∑ t, (p.cnt r t : EReal) * ht t j) (p.degI r : EReal) * (p.wnr l j k : EReal)

/-- A layer's new items, before the layer norm. -/
def lin (l : Fin 4) (h : ℕ → Fin 128 → EReal) (ht : Fin 100 → Fin 128 → EReal) (r : ℕ) (k : Fin 128) : EReal :=
  (∑ j, h r j * p.wsr l j k) + p.neigh l ht r k + p.br l k

/-- The same, edge by edge. -/
def linE (l : Fin 4) (h : ℕ → Fin 128 → EReal) (ht : Fin 100 → Fin 128 → EReal) (r : ℕ) (k : Fin 128) : EReal :=
  (∑ j, h r j * p.wsr l j k) + p.neighE l ht r k + p.br l k

def mean (x : Fin 128 → EReal) : EReal := Ideal.div (∑ k, x k) ((128 : ℝ) : EReal)

def var (x : Fin 128 → EReal) : EReal := mean fun k => (x k - mean x) * (x k - mean x)

theorem var_nonneg (x : Fin 128 → EReal) : 0 ≤ var x := by
  unfold var mean
  rw [Ideal.div_coe (by norm_num)]
  exact mul_nonneg (Finset.sum_nonneg fun _ _ => mul_self_nonneg' _) (by exact_mod_cast (by norm_num : (0 : ℝ) ≤ 1 / 128))

theorem var_eps_pos (x : Fin 128 → EReal) : 0 < var x + (eps : EReal) :=
  lt_of_lt_of_le (by exact_mod_cast eps_pos) (le_add_of_nonneg_left (var_nonneg x))

/-- The layer norm of a row. -/
def norm (l : Fin 4) (x : Fin 128 → EReal) (k : Fin 128) : EReal := (x k - mean x) * Ideal.rsqrt (var x + (eps : EReal)) * p.g l k + p.be l k

def newI (l : Fin 4) (h : ℕ → Fin 128 → EReal) (ht : Fin 100 → Fin 128 → EReal) (r : ℕ) (k : Fin 128) : EReal := p.norm l (p.lin l h ht r) k

/-- The items' and the tags' rows before layer `l`. -/
def layers : ℕ → (ℕ → Fin 128 → EReal) × (Fin 100 → Fin 128 → EReal)
  | 0 => (p.it, p.tt)
  | l + 1 => (p.newI (Fin.ofNat 4 l) (layers l).1 (layers l).2, p.newT (Fin.ofNat 4 l) (layers l).1 (layers l).2)

def hI (l : ℕ) : ℕ → Fin 128 → EReal := (p.layers l).1
def hT (l : ℕ) : Fin 100 → Fin 128 → EReal := (p.layers l).2

/-- The result. -/
def out (r : ℕ) (k : Fin 128) : EReal :=
  if 0 ≤ ∑ j, p.hI 4 r j * p.wf j k then ∑ j, p.hI 4 r j * p.wf j k else (slope : EReal) * ∑ j, p.hI 4 r j * p.wf j k

/-! ## Counts and sums over edges -/

/-- A sum over a tag's edges is the sum over the items, each as often as edges join it. -/
theorem sum_tag' {M : Type} [AddCommMonoid M] (hs : ∀ e, p.src e < 50000) (f : ℕ → M) (t : Fin 100) :
    ∑ e ∈ Finset.univ.filter (fun e => p.dst e = t), f (p.src e)
      = ∑ r ∈ Finset.range 50000, (Finset.univ.filter fun e => p.src e = r ∧ p.dst e = t).card • f r := by
  rw [← Finset.sum_fiberwise_of_maps_to (t := Finset.range 50000) (g := p.src) (fun e _ => Finset.mem_range.mpr (hs e))]
  refine Finset.sum_congr rfl fun r _ => ?_
  rw [Finset.sum_congr rfl (g := fun _ => f r) (fun e he => by rw [(Finset.mem_filter.mp he).2]), Finset.sum_const, Finset.filter_filter]
  refine congrArg (fun n : ℕ => n • f r) (congrArg Finset.card (Finset.filter_congr fun e _ => and_comm))

/-- A sum over an item's edges is the sum over the tags, each as often as edges join it. -/
theorem sum_item' {M : Type} [AddCommMonoid M] (f : Fin 100 → M) (r : ℕ) :
    ∑ e ∈ Finset.univ.filter (fun e => p.src e = r), f (p.dst e)
      = ∑ t, (Finset.univ.filter fun e => p.src e = r ∧ p.dst e = t).card • f t := by
  rw [← Finset.sum_fiberwise (g := p.dst)]
  refine Finset.sum_congr rfl fun t _ => ?_
  rw [Finset.sum_congr rfl (g := fun _ => f t) (fun e he => by rw [(Finset.mem_filter.mp he).2]), Finset.sum_const, Finset.filter_filter]

theorem nsmul_cnt (r : ℕ) (t : Fin 100) (x : EReal) :
    (Finset.univ.filter fun e => p.src e = r ∧ p.dst e = t).card • x = (p.cnt r t : EReal) * x := by
  rw [EReal.nsmul_eq_mul]
  rfl

theorem sum_tag (hs : ∀ e, p.src e < 50000) (f : ℕ → EReal) (t : Fin 100) :
    ∑ e ∈ Finset.univ.filter (fun e => p.dst e = t), f (p.src e) = ∑ r ∈ Finset.range 50000, (p.cnt r t : EReal) * f r :=
  (p.sum_tag' hs f t).trans (Finset.sum_congr rfl fun r _ => p.nsmul_cnt r t (f r))

theorem sum_item (f : Fin 100 → EReal) (r : ℕ) :
    ∑ e ∈ Finset.univ.filter (fun e => p.src e = r), f (p.dst e) = ∑ t, (p.cnt r t : EReal) * f t :=
  (p.sum_item' f r).trans (Finset.sum_congr rfl fun t _ => p.nsmul_cnt r t (f t))

theorem card_tag (hs : ∀ e, p.src e < 50000) (t : Fin 100) :
    ((Finset.univ.filter fun e => p.dst e = t).card : ℝ) = ∑ r ∈ Finset.range 50000, p.cnt r t := by
  have h := p.sum_tag' hs (fun _ => (1 : ℝ)) t
  simp only [Finset.sum_const, nsmul_eq_mul, mul_one] at h
  exact h

theorem card_item (r : ℕ) : ((Finset.univ.filter fun e => p.src e = r).card : ℝ) = ∑ t, p.cnt r t := by
  have h := p.sum_item' (fun _ => (1 : ℝ)) r
  simp only [Finset.sum_const, nsmul_eq_mul, mul_one] at h
  exact h

/-! ## The two forms of a layer -/

/-- The neighbours' part where no infinity counts: the real numbers' identity. -/
theorem neigh_real (l : Fin 4) (ht : Fin 100 → Fin 128 → EReal) (r : ℕ) (k : Fin 128)
    (h : ∀ t j, p.cnt r t ≠ 0 → p.wnr l j k ≠ 0 → ¬ Inf (ht t j)) : p.neighE l ht r k = p.neigh l ht r k := by
  have hw (t : Fin 100) (hc : p.cnt r t ≠ 0) (j : Fin 128) :
      ht t j * (p.wnr l j k : EReal) = ((EReal.toReal (ht t j) * p.wnr l j k : ℝ) : EReal) := by
    by_cases hw : p.wnr l j k = 0
    · rw [hw, EReal.coe_zero, mul_zero, mul_zero, EReal.coe_zero]
    · rw [EReal.coe_mul, coe_of_not_inf (h t j hc hw)]
  have h1 (t : Fin 100) : (p.cnt r t : EReal) * ∑ j, ht t j * (p.wnr l j k : EReal)
      = ((p.cnt r t * ∑ j, EReal.toReal (ht t j) * p.wnr l j k : ℝ) : EReal) := by
    by_cases hc : p.cnt r t = 0
    · rw [hc, EReal.coe_zero, zero_mul, zero_mul, EReal.coe_zero]
    · rw [Finset.sum_congr rfl fun j _ => hw t hc j, coe_sum', EReal.coe_mul]
  have h2 (j : Fin 128) : Ideal.div (∑ t, (p.cnt r t : EReal) * ht t j) (p.degI r : EReal) * (p.wnr l j k : EReal)
      = (((∑ t, p.cnt r t * EReal.toReal (ht t j)) / p.degI r * p.wnr l j k : ℝ) : EReal) := by
    by_cases hw : p.wnr l j k = 0
    · rw [hw, EReal.coe_zero, mul_zero, mul_zero, EReal.coe_zero]
    · have h3 (t : Fin 100) : (p.cnt r t : EReal) * ht t j = ((p.cnt r t * EReal.toReal (ht t j) : ℝ) : EReal) := by
        by_cases hc : p.cnt r t = 0
        · rw [hc, EReal.coe_zero, zero_mul, zero_mul, EReal.coe_zero]
        · rw [EReal.coe_mul, coe_of_not_inf (h t j hc hw)]
      rw [Finset.sum_congr rfl fun t _ => h3 t, coe_sum', coe_div' (p.degI_pos r).ne', EReal.coe_mul]
  unfold neighE neigh
  rw [Finset.sum_congr rfl fun j _ => h2 j, Finset.sum_congr rfl fun t _ => h1 t, coe_sum', coe_sum', coe_div' (p.degI_pos r).ne']
  refine congrArg (fun x : ℝ => (x : EReal)) ?_
  simp only [Finset.mul_sum, Finset.sum_div, Finset.sum_mul]
  rw [Finset.sum_comm]
  refine Finset.sum_congr rfl fun t _ => Finset.sum_congr rfl fun j _ => ?_
  ring

/-- The two neighbours' parts are equal, or both infinities. -/
theorem neigh_cases (l : Fin 4) (ht : Fin 100 → Fin 128 → EReal) (r : ℕ) (k : Fin 128) :
    p.neighE l ht r k = p.neigh l ht r k ∨ (Inf (p.neighE l ht r k) ∧ Inf (p.neigh l ht r k)) := by
  by_cases h : ∀ t j, p.cnt r t ≠ 0 → p.wnr l j k ≠ 0 → ¬ Inf (ht t j)
  · exact .inl (p.neigh_real l ht r k h)
  · push Not at h
    obtain ⟨t, j, hc, hw, hi⟩ := h
    refine .inr ⟨?_, ?_⟩
    · refine inf_sum _ _ j (Finset.mem_univ _) (Inf.mul (Inf.div (inf_sum _ _ t (Finset.mem_univ _) ?_) (p.degI_pos r).ne') hw)
      rw [mul_comm]
      exact hi.mul hc
    · refine Inf.div (inf_sum _ _ t (Finset.mem_univ _) ?_) (p.degI_pos r).ne'
      rw [mul_comm]
      exact Inf.mul (inf_sum _ _ j (Finset.mem_univ _) (hi.mul hw)) hc

theorem lin_cases (l : Fin 4) (h : ℕ → Fin 128 → EReal) (ht : Fin 100 → Fin 128 → EReal) (r : ℕ) (k : Fin 128) :
    p.linE l h ht r k = p.lin l h ht r k ∨ (Inf (p.linE l h ht r k) ∧ Inf (p.lin l h ht r k)) := by
  unfold linE lin
  rcases p.neigh_cases l ht r k with e | ⟨e, e'⟩
  · exact .inl (by rw [e])
  · exact .inr ⟨(e.add_right _).add_left _, (e'.add_right _).add_left _⟩

/-- In a row with an infinity, the scaled difference to the mean is zero everywhere. -/
theorem norm_inf (x : Fin 128 → EReal) (i : Fin 128) (h : Inf (x i)) (k : Fin 128) : (x k - mean x) * Ideal.rsqrt (var x + (eps : EReal)) = 0 := by
  have hm : Inf (mean x) := Inf.div (inf_sum _ _ i (Finset.mem_univ _) h) (by norm_num)
  have hs : (∑ k, (x k - mean x) * (x k - mean x)) = ⊤ :=
    top_le_iff.mp (((hm.sub (x i)).mul_self).symm.le.trans
      (Finset.single_le_sum (f := fun k => (x k - mean x) * (x k - mean x)) (fun k _ => mul_self_nonneg' _) (Finset.mem_univ i)))
  have hv : var x = ⊤ := by
    show Ideal.div (∑ k, (x k - mean x) * (x k - mean x)) ((128 : ℝ) : EReal) = ⊤
    rw [hs, Ideal.div_coe (by norm_num)]
    exact EReal.top_mul_coe_of_pos (by norm_num)
  rw [hv, EReal.top_add_coe, Ideal.rsqrt_top, mul_zero]

/-- The layer norm takes the two forms to the same row. -/
theorem norm_linE (l : Fin 4) (h : ℕ → Fin 128 → EReal) (ht : Fin 100 → Fin 128 → EReal) (r : ℕ) (k : Fin 128) :
    p.norm l (p.linE l h ht r) k = p.newI l h ht r k := by
  unfold newI
  by_cases hi : ∃ i, Inf (p.lin l h ht r i)
  · obtain ⟨i, hi⟩ := hi
    have hi' : Inf (p.linE l h ht r i) := by
      rcases p.lin_cases l h ht r i with e | ⟨e, -⟩
      · rw [e]; exact hi
      · exact e
    unfold norm
    rw [norm_inf _ i hi, norm_inf _ i hi']
  · refine congrArg (fun x => p.norm l x k) (funext fun i => ?_)
    rcases p.lin_cases l h ht r i with e | ⟨-, e⟩
    · exact e
    · exact absurd ⟨i, e⟩ hi

end Net

end Cert.Proof

end
-- ==== Proof.Layers.lean ====
/-
  What the dense call's carried buffers hold between its grid points, at the extended reals: the network's rows, layer by
  layer and block by block.
-/
module

public import proofs.«01_k».proof.Proof.Pays
public import proofs.«01_k».proof.Proof.Model

@[expose] public section

noncomputable section

namespace Cert.Proof

open Cert.KernelIdeal Cert.KernelIdeal.Gen
open Idealize.ShloMosaic

variable (p : Net) (i : grid1.Coords)

theorem i0_lt : (i 0).val < 4 := (i 0).isLt
theorem i1_lt : (i 1).val < 25 := (i 1).isLt

/-- The layer of a point. -/
abbrev lay : Fin 4 := Fin.ofNat 4 (i 0).val

/-- The blocks that a point is handed are the network's arguments. -/
structure Good (B : Blocks Ideal) : Prop where
  c : ∀ (r : Fin 2000) (t : Fin 100), B.c (ix2 r t) = ((p.cnt (2000 * (i 1).val + r.val) t : ℝ) : EReal)
  it : ∀ (r : Fin 2000) (k : Fin 128), B.it (ix2 r k) = p.it (2000 * (i 1).val + r.val) k
  tt : ∀ (t : Fin 100) (k : Fin 128), B.tt (ix2 t k) = p.tt t k
  wsa : ∀ j k : Fin 128, B.wsa (ix3 0 j k) = p.wsa (lay i) j k
  wna : ∀ j k : Fin 128, B.wna (ix3 0 j k) = p.wna (lay i) j k
  ba : ∀ k : Fin 128, B.ba (ix3 0 0 k) = p.ba (lay i) k
  wsr : ∀ j k : Fin 128, B.wsr (ix3 0 j k) = p.wsr (lay i) j k
  wnr : ∀ j k : Fin 128, B.wnr (ix3 0 j k) = ((p.wnr (lay i) j k : ℝ) : EReal)
  br : ∀ k : Fin 128, B.br (ix3 0 0 k) = p.br (lay i) k
  g : ∀ k : Fin 128, B.g (ix3 0 0 k) = p.g (lay i) k
  be : ∀ k : Fin 128, B.be (ix3 0 0 k) = p.be (lay i) k
  wf : ∀ j k : Fin 128, B.wf (ix2 j k) = p.wf j k

/-- The carried buffers before block `b` of layer `l`. -/
structure Inv (l b : ℕ) (S : St Ideal) : Prop where
  old : ∀ (r : Fin 50000) (k : Fin 128), 2000 * b ≤ r.val → 1 ≤ l ∧ l ≤ 3 → S.hitem (ix2 r k) = p.hI l r.val k
  new : ∀ (r : Fin 50000) (k : Fin 128), r.val < 2000 * b → l < 3 → S.hitem (ix2 r k) = p.hI (l + 1) r.val k
  tag : 1 ≤ l ∨ 1 ≤ b → ∀ (t : Fin 100) (k : Fin 128), S.htag (ix2 t k) = p.hT l t k
  agg : 1 ≤ b → ∀ (t : Fin 100) (k : Fin 128), S.agg (ix2 t k) = ∑ r ∈ Finset.range (2000 * b), (p.cnt r t : EReal) * p.hI l r k
  deg0 : l = 0 → 1 ≤ b → ∀ t : Fin 100, S.degt (ix2 t 0) = ((∑ r ∈ Finset.range (2000 * b), p.cnt r t : ℝ) : EReal)
  deg : 1 ≤ l → ∀ t : Fin 100, S.degt (ix2 t 0) = ((p.degT t : ℝ) : EReal)

theorem Inv.zero (S : St Ideal) : Inv p 0 0 S :=
  ⟨fun _ _ _ h => absurd h (by omega), fun _ _ h => absurd h (by omega), fun h => absurd h (by omega), fun h => absurd h (by omega),
    fun _ h => absurd h (by omega), fun h => absurd h (by omega)⟩

/-- A sum over the blocks up to one, and that block's own. -/
theorem sum_blocks' (n b : ℕ) (f : ℕ → EReal) :
    ∑ r ∈ Finset.range (n * (b + 1)), f r = ∑ r ∈ Finset.range (n * b), f r + ∑ r : Fin n, f (n * b + r.val) := by
  rw [Nat.mul_add, Nat.mul_one, Finset.sum_range_add, Finset.sum_range fun x => f (n * b + x)]

theorem sum_blocks (n b : ℕ) (f : ℕ → ℝ) :
    ((∑ r ∈ Finset.range (n * (b + 1)), f r : ℝ) : EReal) = ((∑ r ∈ Finset.range (n * b), f r : ℝ) : EReal) + ∑ r : Fin n, ((f (n * b + r.val) : ℝ) : EReal) := by
  rw [← coe_sum', ← coe_sum', sum_blocks']

/-! ## The point's rows of a buffer -/

theorem getRows_apply (X : Vec Ideal S50000x128 .f32) (r : Fin 2000) (k : Fin 128) (R : Fin 50000) (hR : R.val = 2000 * (i 1).val + r.val) :
    getRows i X (ix2 r k) = X (ix2 R k) := by
  unfold getRows VecWindow.window
  refine congrArg X (funext fun a => Fin.ext ?_)
  match a with
  | ⟨0, _⟩ => show 2000 * (i 1).val + 1 * r.val = R.val; omega
  | ⟨1, _⟩ => show 0 + 1 * k.val = k.val; omega

theorem putRows_in (X : Vec Ideal S50000x128 .f32) (w : Vec Ideal S2000x128 .f32) (R : Fin 50000) (k : Fin 128) (r : Fin 2000)
    (hR : R.val = 2000 * (i 1).val + r.val) : putRows i X w (ix2 R k) = w (ix2 r k) := by
  have hr := r.isLt
  have hk := k.isLt
  unfold putRows VecWindow.put
  rw [dif_pos (fun a => by
    match a with
    | ⟨0, _⟩ => exact ⟨by show 2000 * (i 1).val ≤ R.val; omega, by show R.val < 2000 * (i 1).val + 2000; omega⟩
    | ⟨1, _⟩ => exact ⟨Nat.zero_le _, by show k.val < 0 + 128; omega⟩)]
  refine congrArg w (funext fun a => Fin.ext ?_)
  match a with
  | ⟨0, _⟩ => show R.val - 2000 * (i 1).val = r.val; omega
  | ⟨1, _⟩ => show k.val - 0 = k.val; omega

theorem putRows_out (X : Vec Ideal S50000x128 .f32) (w : Vec Ideal S2000x128 .f32) (R : Fin 50000) (k : Fin 128)
    (hR : R.val < 2000 * (i 1).val ∨ 2000 * (i 1).val + 2000 ≤ R.val) : putRows i X w (ix2 R k) = X (ix2 R k) := by
  unfold putRows VecWindow.put
  rw [dif_neg (fun h => by
    have h0 := h 0
    have h1 : 2000 * (i 1).val ≤ R.val := h0.1
    have h2 : R.val < 2000 * (i 1).val + 2000 := h0.2
    omega)]

/-! ## The point -/

variable {p i} {B : Blocks Ideal} {S : St Ideal} (hB : Good p i B) (hS : Inv p (i 0).val (i 1).val S)

include hB hS

/-- The item rows that the point finds. -/
theorem rows_eq (r : Fin 2000) (k : Fin 128) : rows i B S (ix2 r k) = p.hI (i 0).val (2000 * (i 1).val + r.val) k := by
  have hb := i1_lt i
  have hr := r.isLt
  unfold rows
  rw [getRows_apply i _ r k ⟨2000 * (i 1).val + r.val, by omega⟩ rfl]
  unfold item1
  by_cases h0 : (i 0).val = 0
  · rw [if_pos h0, putRows_in i _ _ _ k r rfl]
    have : k1_pay8 B.it = B.it := by unfold k1_pay8; exact shapeCast_self ..
    rw [this, hB.it, h0]
    rfl
  · rw [if_neg h0]
    exact hS.old _ k (Nat.le_add_right _ _) ⟨by omega, by have := i0_lt i; omega⟩

/-- The tag rows that the point finds. -/
theorem tag1_eq (t : Fin 100) (k : Fin 128) : tag1 i B S (ix2 t k) = p.hT (i 0).val t k := by
  unfold tag1
  by_cases h : (i 0).val = 0 ∧ (i 1).val = 0
  · rw [if_pos h]
    have : k1_pay5 B.tt = B.tt := by unfold k1_pay5; exact shapeCast_self ..
    rw [this, hB.tt, h.1]
    rfl
  · rw [if_neg h]
    exact hS.tag (by omega) t k

omit hB in
theorem agg1_eq (t : Fin 100) (k : Fin 128) :
    agg1 i S (ix2 t k) = ∑ r ∈ Finset.range (2000 * (i 1).val), (p.cnt r t : EReal) * p.hI (i 0).val r k := by
  unfold agg1
  by_cases h : (i 1).val = 0
  · rw [if_pos h, h]
    simp only [Nat.mul_zero, Finset.range_zero, Finset.sum_empty]
    pointwise [k1_pay7]
  · rw [if_neg h]
    exact hS.agg (by omega) t k

theorem agg2_eq (t : Fin 100) (k : Fin 128) :
    agg2 i B S (ix2 t k) = ∑ r ∈ Finset.range (2000 * ((i 1).val + 1)), (p.cnt r t : EReal) * p.hI (i 0).val r k := by
  unfold agg2
  rw [pay10_apply, agg1_eq hS, sum_blocks' 2000 (i 1).val fun r => (p.cnt r t : EReal) * p.hI (i 0).val r k]
  refine congrArg _ (Finset.sum_congr rfl fun r _ => ?_)
  rw [hB.c, rows_eq hB hS]

theorem deg2_zero (h0 : (i 0).val = 0) (t : Fin 100) :
    deg2 i B S (ix2 t 0) = ((∑ r ∈ Finset.range (2000 * ((i 1).val + 1)), p.cnt r t : ℝ) : EReal) := by
  have h1 : deg1 i S (ix2 t 0) = ((∑ r ∈ Finset.range (2000 * (i 1).val), p.cnt r t : ℝ) : EReal) := by
    unfold deg1
    by_cases h : (i 1).val = 0
    · rw [if_pos ⟨h0, h⟩, h]
      simp only [Nat.mul_zero, Finset.range_zero, Finset.sum_empty, EReal.coe_zero]
      pointwise [k1_pay6]
    · rw [if_neg fun hh => h hh.2]
      exact hS.deg0 h0 (by omega) t
  unfold deg2
  rw [if_pos h0, pay9_apply, h1, sum_blocks 2000 (i 1).val fun r => p.cnt r t]
  refine congrArg _ (Finset.sum_congr rfl fun r _ => ?_)
  rw [hB.c, mul_one]

omit hB in
theorem deg2_pos (h0 : 1 ≤ (i 0).val) (t : Fin 100) : deg2 i B S (ix2 t 0) = ((p.degT t : ℝ) : EReal) := by
  unfold deg2 deg1
  rw [if_neg (by omega), if_neg (by omega)]
  exact hS.deg h0 t

/-- The tags' degrees after the last block. -/
theorem deg3_last (h : (i 1).val = 24) (t : Fin 100) : deg3 i B S (ix2 t 0) = ((p.degT t : ℝ) : EReal) := by
  unfold deg3
  by_cases h0 : (i 0).val = 0
  · rw [if_pos ⟨h, h0⟩, pay2_apply, deg2_zero hB hS h0, h]
    rw [show (1 : EReal) = ((1 : ℝ) : EReal) from rfl, coe_max']
    rfl
  · rw [if_neg fun hh => h0 hh.2]
    exact deg2_pos hS (by omega) t

/-- The item rows that the point leaves. -/
theorem rows'_eq (r : Fin 2000) (k : Fin 128) : rows' i B S (ix2 r k) = p.hI ((i 0).val + 1) (2000 * (i 1).val + r.val) k := by
  have hlin (k : Fin 128) : lin (k1_pay4 B.c) (rows i B S) (k1_pay11 B.c) (k1_pay12 (tag1 i B S) B.wnr) B.wsr B.br r k
      = p.lin (lay i) (p.hI (i 0).val) (p.hT (i 0).val) (2000 * (i 1).val + r.val) k := by
    unfold lin Net.lin Net.neigh
    have hc : k1_pay4 B.c = B.c := by unfold k1_pay4; exact shapeCast_self ..
    have hd : k1_pay11 B.c (ix2 r 0) = ((p.degI (2000 * (i 1).val + r.val) : ℝ) : EReal) := by
      rw [pay11_apply]
      simp only [hB.c, coe_sum']
      rw [show (1 : EReal) = ((1 : ℝ) : EReal) from rfl, coe_max']
      rfl
    rw [hd, hc]
    simp only [pay12_apply, tag1_eq hB hS, rows_eq hB hS, hB.c, hB.wnr, hB.wsr, hB.br]
  have hm (x : Fin 128 → EReal) : mean x = Net.mean x := by
    unfold mean Net.mean
    rw [ofBits_128]
  have hl : lin (k1_pay4 B.c) (rows i B S) (k1_pay11 B.c) (k1_pay12 (tag1 i B S) B.wnr) B.wsr B.br r
      = p.lin (lay i) (p.hI (i 0).val) (p.hT (i 0).val) (2000 * (i 1).val + r.val) := funext hlin
  unfold rows'
  rw [pay13_apply, hl, hm, hm, ofBits_eps, hB.g, hB.be]
  rfl

/-- The tag rows that the last block leaves. -/
theorem tag2_last (h : (i 1).val = 24) (t : Fin 100) (k : Fin 128) : tag2 i B S (ix2 t k) = p.hT ((i 0).val + 1) t k := by
  unfold tag2
  rw [if_pos h, pay3_apply]
  simp only [tag1_eq hB hS, agg2_eq hB hS, deg3_last hB hS h, hB.wsa, hB.wna, hB.ba, h]
  rfl

theorem item2_eq (R : Fin 50000) (k : Fin 128) : item2 i B S (ix2 R k)
    = if (i 0).val < 3 ∧ 2000 * (i 1).val ≤ R.val ∧ R.val < 2000 * (i 1).val + 2000 then p.hI ((i 0).val + 1) R.val k else item1 i B S (ix2 R k) := by
  unfold item2
  by_cases h3 : (i 0).val < 3
  · rw [if_pos h3]
    by_cases hR : 2000 * (i 1).val ≤ R.val ∧ R.val < 2000 * (i 1).val + 2000
    · rw [if_pos ⟨h3, hR⟩, putRows_in i _ _ R k ⟨R.val - 2000 * (i 1).val, by omega⟩ (by simp only; omega)]
      have : ∀ a b c d e f g h, k1_pay14 (F := Ideal) a b c d e f g h = k1_pay13 a b c d e f g h := fun _ _ _ _ _ _ _ _ => by
        unfold k1_pay14; exact shapeCast_self ..
      rw [this]
      have hh := rows'_eq hB hS ⟨R.val - 2000 * (i 1).val, by omega⟩ k
      unfold rows' at hh
      rw [hh]
      simp only [Nat.add_sub_cancel' hR.1]
    · rw [if_neg fun hh => hR hh.2, putRows_out i _ _ R k (by omega)]
  · rw [if_neg h3, if_neg fun hh => h3 hh.1]

omit hB hS in
theorem item1_out (R : Fin 50000) (k : Fin 128) (hR : R.val < 2000 * (i 1).val ∨ 2000 * (i 1).val + 2000 ≤ R.val) :
    item1 i B S (ix2 R k) = S.hitem (ix2 R k) := by
  unfold item1
  split
  · exact putRows_out i _ _ R k hR
  · rfl

theorem item2_new (R : Fin 50000) (k : Fin 128) (h3 : (i 0).val < 3) (hR : R.val < 2000 * ((i 1).val + 1)) :
    item2 i B S (ix2 R k) = p.hI ((i 0).val + 1) R.val k := by
  rw [item2_eq hB hS]
  by_cases h : 2000 * (i 1).val ≤ R.val
  · rw [if_pos ⟨h3, h, by omega⟩]
  · rw [if_neg fun hh => h hh.2.1, item1_out R k (by omega)]
    exact hS.new R k (by omega) h3

/-- The invariant goes to the next block of the layer. -/
theorem Inv.next (h : (i 1).val < 24) : Inv p (i 0).val ((i 1).val + 1) (step i B S) where
  old R k hR hl := by
    show item2 i B S (ix2 R k) = _
    rw [item2_eq hB hS, if_neg (by omega), item1_out R k (by omega)]
    exact hS.old R k (by omega) hl
  new R k hR hl := item2_new hB hS R k hl hR
  tag _ t k := by
    show tag2 i B S (ix2 t k) = _
    unfold tag2
    rw [if_neg (by omega)]
    exact tag1_eq hB hS t k
  agg _ t k := agg2_eq hB hS t k
  deg0 h0 _ t := by
    show deg3 i B S (ix2 t 0) = _
    unfold deg3
    rw [if_neg (by omega)]
    exact deg2_zero hB hS h0 t
  deg hl t := by
    show deg3 i B S (ix2 t 0) = _
    unfold deg3
    rw [if_neg (by omega)]
    exact deg2_pos hS hl t

/-- The invariant goes to the next layer. -/
theorem Inv.nextLayer (h : (i 1).val = 24) : Inv p ((i 0).val + 1) 0 (step i B S) where
  old R k _ hl := item2_new hB hS R k (by omega) (by have := R.isLt; omega)
  new R k hR := absurd hR (by omega)
  tag _ t k := tag2_last hB hS h t k
  agg hb := absurd hb (by omega)
  deg0 h0 := absurd h0 (by omega)
  deg _ t := deg3_last hB hS h t

/-- The result's rows. -/
theorem outRows_eq (h : (i 0).val = 3) (r : Fin 2000) (k : Fin 128) : outRows i B S (ix2 r k) = p.out (2000 * (i 1).val + r.val) k := by
  unfold outRows Net.out
  rw [pay1_apply]
  simp only [rows'_eq hB hS, h, hB.wf, ofBits_slope]

end Cert.Proof

end
-- ==== Proof.Entry.lean ====
/-
  The dense call's result at the extended reals: what any contents that the call may leave hold, when the arrays that it
  reads are a network's arguments.
-/
module

public import proofs.«01_k».proof.Proof.Region
public import proofs.«01_k».proof.Proof.Layers

@[expose] public section

noncomputable section

namespace Cert.Proof

open Cert.KernelIdeal Cert.KernelIdeal.Gen
open Idealize.ShloMosaic
open Idealize.ShloMosaic.Pipeline

theorem coords0 (t : Fin cfg1.N) : (grid1.coords t 0).val = t.val / 25 := by
  have h := Grid.coords_val (G := grid1) t 0 (S := 25) (B := 4) (by decide) rfl
  have ht : t.val < 100 := lt_of_lt_of_eq t.isLt N_1
  omega

theorem coords1 (t : Fin cfg1.N) : (grid1.coords t 1).val = t.val % 25 := by
  have h := Grid.coords_val (G := grid1) t 1 (S := 1) (B := 25) (by decide) rfl
  omega

/-! ## The blocks, element by element -/

section Blocks
variable (V : Valuation τ sig (Elt Ideal)) (t : Fin cfg1.N)

theorem toNat_coord (i : grid1.Coords) (a : Fin 2) : (BitVec.ofNat 32 (i a).val).toNat = (i a).val := by
  rw [BitVec.toNat_ofNat]
  refine Nat.mod_eq_of_lt ?_
  match a with
  | 0 => have : (i 0).val < 4 := (i 0).isLt; show (i 0).val < _; omega
  | 1 => have : (i 1).val < 25 := (i 1).isLt; show (i 1).val < _; omega

theorem blk_c (r : Fin 2000) (k : Fin 100) (R : Fin 50000) (hR : R.val = 2000 * (grid1.coords t 1).val + r.val) :
    (blocks V t).c (ix2 r k) = (V (Proc.devRef .tc main_v2) : Vec Ideal S50000x100 .f32) (ix2 R k) := by
  refine congrArg (V (Proc.devRef .tc main_v2) : Vec Ideal S50000x100 .f32) (funext fun a => Fin.ext ?_)
  show ((win1_0.rect t).emb (ix2 r k) a).val = _
  refine (Window.rect_emb_val win1_0 _ _ a rfl).trans ?_
  match a with
  | ⟨0, _⟩ => show (BitVec.ofNat 32 (grid1.coords t 1).val).toNat * 2000 + r.val = R.val; rw [toNat_coord]; omega
  | ⟨1, _⟩ => show 0 * 100 + k.val = k.val; omega

theorem blk_it (r : Fin 2000) (k : Fin 128) (R : Fin 50000) (hR : R.val = 2000 * (grid1.coords t 1).val + r.val) :
    (blocks V t).it (ix2 r k) = (V (Proc.devRef .tc main_arg3) : Vec Ideal S50000x128 .f32) (ix2 R k) := by
  refine congrArg (V (Proc.devRef .tc main_arg3) : Vec Ideal S50000x128 .f32) (funext fun a => Fin.ext ?_)
  show ((win1_1.rect t).emb (ix2 r k) a).val = _
  refine (Window.rect_emb_val win1_1 _ _ a rfl).trans ?_
  match a with
  | ⟨0, _⟩ => show (BitVec.ofNat 32 (grid1.coords t 1).val).toNat * 2000 + r.val = R.val; rw [toNat_coord]; omega
  | ⟨1, _⟩ => show 0 * 128 + k.val = k.val; omega

theorem blk_tt (j : Fin 100) (k : Fin 128) :
    (blocks V t).tt (ix2 j k) = (V (Proc.devRef .tc main_arg4) : Vec Ideal S100x128 .f32) (ix2 j k) := by
  refine congrArg (V (Proc.devRef .tc main_arg4) : Vec Ideal S100x128 .f32) (funext fun a => Fin.ext ?_)
  show ((win1_2.rect t).emb (ix2 j k) a).val = _
  refine (Window.rect_emb_val win1_2 _ _ a rfl).trans ?_
  match a with
  | ⟨0, _⟩ => show 0 * 100 + j.val = j.val; omega
  | ⟨1, _⟩ => show 0 * 128 + k.val = k.val; omega

theorem blk_wf (j : Fin 128) (k : Fin 128) :
    (blocks V t).wf (ix2 j k) = (V (Proc.devRef .tc main_arg13) : Vec Ideal S128x128 .f32) (ix2 j k) := by
  refine congrArg (V (Proc.devRef .tc main_arg13) : Vec Ideal S128x128 .f32) (funext fun a => Fin.ext ?_)
  show ((win1_11.rect t).emb (ix2 j k) a).val = _
  refine (Window.rect_emb_val win1_11 _ _ a rfl).trans ?_
  match a with
  | ⟨0, _⟩ => show 0 * 128 + j.val = j.val; omega
  | ⟨1, _⟩ => show 0 * 128 + k.val = k.val; omega

theorem blk_wsa (j k : Fin 128) :
    (blocks V t).wsa (ix3 0 j k) = (V (Proc.devRef .tc main_arg5) : Vec Ideal S4x128x128 .f32) (ix3 (lay (grid1.coords t)) j k) := by
  refine congrArg (V (Proc.devRef .tc main_arg5) : Vec Ideal S4x128x128 .f32) (funext fun a => Fin.ext ?_)
  show ((win1_3.rect t).emb (ix3 0 j k) a).val = _
  refine (Window.rect_emb_val win1_3 _ _ a rfl).trans ?_
  match a with
  | ⟨0, _⟩ =>
    show (BitVec.ofNat 32 (grid1.coords t 0).val).toNat * 1 + 0 = (grid1.coords t 0).val % 4
    rw [toNat_coord]; have := i0_lt (grid1.coords t); omega
  | ⟨1, _⟩ => show 0 * 128 + j.val = j.val; omega
  | ⟨2, _⟩ => show 0 * 128 + k.val = k.val; omega

theorem blk_wna (j k : Fin 128) :
    (blocks V t).wna (ix3 0 j k) = (V (Proc.devRef .tc main_arg6) : Vec Ideal S4x128x128 .f32) (ix3 (lay (grid1.coords t)) j k) := by
  refine congrArg (V (Proc.devRef .tc main_arg6) : Vec Ideal S4x128x128 .f32) (funext fun a => Fin.ext ?_)
  show ((win1_4.rect t).emb (ix3 0 j k) a).val = _
  refine (Window.rect_emb_val win1_4 _ _ a rfl).trans ?_
  match a with
  | ⟨0, _⟩ =>
    show (BitVec.ofNat 32 (grid1.coords t 0).val).toNat * 1 + 0 = (grid1.coords t 0).val % 4
    rw [toNat_coord]; have := i0_lt (grid1.coords t); omega
  | ⟨1, _⟩ => show 0 * 128 + j.val = j.val; omega
  | ⟨2, _⟩ => show 0 * 128 + k.val = k.val; omega

theorem blk_wsr (j k : Fin 128) :
    (blocks V t).wsr (ix3 0 j k) = (V (Proc.devRef .tc main_arg8) : Vec Ideal S4x128x128 .f32) (ix3 (lay (grid1.coords t)) j k) := by
  refine congrArg (V (Proc.devRef .tc main_arg8) : Vec Ideal S4x128x128 .f32) (funext fun a => Fin.ext ?_)
  show ((win1_6.rect t).emb (ix3 0 j k) a).val = _
  refine (Window.rect_emb_val win1_6 _ _ a rfl).trans ?_
  match a with
  | ⟨0, _⟩ =>
    show (BitVec.ofNat 32 (grid1.coords t 0).val).toNat * 1 + 0 = (grid1.coords t 0).val % 4
    rw [toNat_coord]; have := i0_lt (grid1.coords t); omega
  | ⟨1, _⟩ => show 0 * 128 + j.val = j.val; omega
  | ⟨2, _⟩ => show 0 * 128 + k.val = k.val; omega

theorem blk_wnr (j k : Fin 128) :
    (blocks V t).wnr (ix3 0 j k) = (V (Proc.devRef .tc main_arg9) : Vec Ideal S4x128x128 .f32) (ix3 (lay (grid1.coords t)) j k) := by
  refine congrArg (V (Proc.devRef .tc main_arg9) : Vec Ideal S4x128x128 .f32) (funext fun a => Fin.ext ?_)
  show ((win1_7.rect t).emb (ix3 0 j k) a).val = _
  refine (Window.rect_emb_val win1_7 _ _ a rfl).trans ?_
  match a with
  | ⟨0, _⟩ =>
    show (BitVec.ofNat 32 (grid1.coords t 0).val).toNat * 1 + 0 = (grid1.coords t 0).val % 4
    rw [toNat_coord]; have := i0_lt (grid1.coords t); omega
  | ⟨1, _⟩ => show 0 * 128 + j.val = j.val; omega
  | ⟨2, _⟩ => show 0 * 128 + k.val = k.val; omega

theorem blk_ba (k : Fin 128) :
    (blocks V t).ba (ix3 0 0 k) = (V (Proc.devRef .tc main_v3) : Vec Ideal S4x1x128 .f32) (ix3 (lay (grid1.coords t)) 0 k) := by
  refine congrArg (V (Proc.devRef .tc main_v3) : Vec Ideal S4x1x128 .f32) (funext fun a => Fin.ext ?_)
  show ((win1_5.rect t).emb (ix3 0 0 k) a).val = _
  refine (Window.rect_emb_val win1_5 _ _ a rfl).trans ?_
  match a with
  | ⟨0, _⟩ =>
    show (BitVec.ofNat 32 (grid1.coords t 0).val).toNat * 1 + 0 = (grid1.coords t 0).val % 4
    rw [toNat_coord]; have := i0_lt (grid1.coords t); omega
  | ⟨1, _⟩ => rfl
  | ⟨2, _⟩ => show 0 * 128 + k.val = k.val; omega

theorem blk_br (k : Fin 128) :
    (blocks V t).br (ix3 0 0 k) = (V (Proc.devRef .tc main_v4) : Vec Ideal S4x1x128 .f32) (ix3 (lay (grid1.coords t)) 0 k) := by
  refine congrArg (V (Proc.devRef .tc main_v4) : Vec Ideal S4x1x128 .f32) (funext fun a => Fin.ext ?_)
  show ((win1_8.rect t).emb (ix3 0 0 k) a).val = _
  refine (Window.rect_emb_val win1_8 _ _ a rfl).trans ?_
  match a with
  | ⟨0, _⟩ =>
    show (BitVec.ofNat 32 (grid1.coords t 0).val).toNat * 1 + 0 = (grid1.coords t 0).val % 4
    rw [toNat_coord]; have := i0_lt (grid1.coords t); omega
  | ⟨1, _⟩ => rfl
  | ⟨2, _⟩ => show 0 * 128 + k.val = k.val; omega

theorem blk_g (k : Fin 128) :
    (blocks V t).g (ix3 0 0 k) = (V (Proc.devRef .tc main_v5) : Vec Ideal S4x1x128 .f32) (ix3 (lay (grid1.coords t)) 0 k) := by
  refine congrArg (V (Proc.devRef .tc main_v5) : Vec Ideal S4x1x128 .f32) (funext fun a => Fin.ext ?_)
  show ((win1_9.rect t).emb (ix3 0 0 k) a).val = _
  refine (Window.rect_emb_val win1_9 _ _ a rfl).trans ?_
  match a with
  | ⟨0, _⟩ =>
    show (BitVec.ofNat 32 (grid1.coords t 0).val).toNat * 1 + 0 = (grid1.coords t 0).val % 4
    rw [toNat_coord]; have := i0_lt (grid1.coords t); omega
  | ⟨1, _⟩ => rfl
  | ⟨2, _⟩ => show 0 * 128 + k.val = k.val; omega

theorem blk_be (k : Fin 128) :
    (blocks V t).be (ix3 0 0 k) = (V (Proc.devRef .tc main_v6) : Vec Ideal S4x1x128 .f32) (ix3 (lay (grid1.coords t)) 0 k) := by
  refine congrArg (V (Proc.devRef .tc main_v6) : Vec Ideal S4x1x128 .f32) (funext fun a => Fin.ext ?_)
  show ((win1_10.rect t).emb (ix3 0 0 k) a).val = _
  refine (Window.rect_emb_val win1_10 _ _ a rfl).trans ?_
  match a with
  | ⟨0, _⟩ =>
    show (BitVec.ofNat 32 (grid1.coords t 0).val).toNat * 1 + 0 = (grid1.coords t 0).val % 4
    rw [toNat_coord]; have := i0_lt (grid1.coords t); omega
  | ⟨1, _⟩ => rfl
  | ⟨2, _⟩ => show 0 * 128 + k.val = k.val; omega

end Blocks

/-- The arrays that the dense call reads are a network's arguments. -/
structure Args (p : Net) (V : Valuation τ sig (Elt Ideal)) : Prop where
  c : ∀ (r : Fin 50000) (t : Fin 100), (V (Proc.devRef .tc main_v2) : Vec Ideal S50000x100 .f32) (ix2 r t) = ((p.cnt r.val t : ℝ) : EReal)
  it : ∀ (r : Fin 50000) (k : Fin 128), (V (Proc.devRef .tc main_arg3) : Vec Ideal S50000x128 .f32) (ix2 r k) = p.it r.val k
  tt : ∀ (t : Fin 100) (k : Fin 128), (V (Proc.devRef .tc main_arg4) : Vec Ideal S100x128 .f32) (ix2 t k) = p.tt t k
  wsa : ∀ (l : Fin 4) (j k : Fin 128), (V (Proc.devRef .tc main_arg5) : Vec Ideal S4x128x128 .f32) (ix3 l j k) = p.wsa l j k
  wna : ∀ (l : Fin 4) (j k : Fin 128), (V (Proc.devRef .tc main_arg6) : Vec Ideal S4x128x128 .f32) (ix3 l j k) = p.wna l j k
  ba : ∀ (l : Fin 4) (k : Fin 128), (V (Proc.devRef .tc main_v3) : Vec Ideal S4x1x128 .f32) (ix3 l 0 k) = p.ba l k
  wsr : ∀ (l : Fin 4) (j k : Fin 128), (V (Proc.devRef .tc main_arg8) : Vec Ideal S4x128x128 .f32) (ix3 l j k) = p.wsr l j k
  wnr : ∀ (l : Fin 4) (j k : Fin 128), (V (Proc.devRef .tc main_arg9) : Vec Ideal S4x128x128 .f32) (ix3 l j k) = ((p.wnr l j k : ℝ) : EReal)
  br : ∀ (l : Fin 4) (k : Fin 128), (V (Proc.devRef .tc main_v4) : Vec Ideal S4x1x128 .f32) (ix3 l 0 k) = p.br l k
  g : ∀ (l : Fin 4) (k : Fin 128), (V (Proc.devRef .tc main_v5) : Vec Ideal S4x1x128 .f32) (ix3 l 0 k) = p.g l k
  be : ∀ (l : Fin 4) (k : Fin 128), (V (Proc.devRef .tc main_v6) : Vec Ideal S4x1x128 .f32) (ix3 l 0 k) = p.be l k
  wf : ∀ j k : Fin 128, (V (Proc.devRef .tc main_arg13) : Vec Ideal S128x128 .f32) (ix2 j k) = p.wf j k

theorem Args.good {p : Net} {V : Valuation τ sig (Elt Ideal)} (h : Args p V) (t : Fin cfg1.N) : Good p (grid1.coords t) (blocks V t) where
  c r k := by
    have := i1_lt (grid1.coords t)
    have := r.isLt
    rw [blk_c V t r k ⟨2000 * (grid1.coords t 1).val + r.val, by omega⟩ rfl, h.c]
  it r k := by
    have := i1_lt (grid1.coords t)
    have := r.isLt
    rw [blk_it V t r k ⟨2000 * (grid1.coords t 1).val + r.val, by omega⟩ rfl, h.it]
  tt j k := by rw [blk_tt, h.tt]
  wsa j k := by rw [blk_wsa, h.wsa]
  wna j k := by rw [blk_wna, h.wna]
  ba k := by rw [blk_ba, h.ba]
  wsr j k := by rw [blk_wsr, h.wsr]
  wnr j k := by rw [blk_wnr, h.wnr]
  br k := by rw [blk_br, h.br]
  g k := by rw [blk_g, h.g]
  be k := by rw [blk_be, h.be]
  wf j k := by rw [blk_wf, h.wf]

/-- What the carried buffers hold after `n` points, whatever they held at first. -/
theorem Args.inv {p : Net} {V : Valuation τ sig (Elt Ideal)} (h : Args p V) (S₀ : St Ideal) :
    ∀ n, n ≤ 100 → Inv p (n / 25) (n % 25) (carried V S₀ n)
  | 0, _ => Inv.zero p S₀
  | n + 1, hn => by
    have hlt : n < cfg1.N := lt_of_lt_of_eq hn N_1.symm
    have ih := h.inv S₀ n (by omega)
    have hg := h.good ⟨n, hlt⟩
    have e0 : (grid1.coords ⟨n, hlt⟩ 0).val = n / 25 := coords0 _
    have e1 : (grid1.coords ⟨n, hlt⟩ 1).val = n % 25 := coords1 _
    rw [← e0, ← e1] at ih
    show Inv p _ _ (if h : n < cfg1.N then step (grid1.coords ⟨n, h⟩) (blocks V ⟨n, h⟩) (carried V S₀ n) else carried V S₀ n)
    rw [dif_pos hlt]
    by_cases hb : n % 25 = 24
    · have := Inv.nextLayer hg ih (by omega)
      rw [show (n + 1) / 25 = (grid1.coords ⟨n, hlt⟩ 0).val + 1 by omega, show (n + 1) % 25 = 0 by omega]
      exact this
    · have := Inv.next hg ih (by omega)
      rw [show (n + 1) / 25 = (grid1.coords ⟨n, hlt⟩ 0).val by omega, show (n + 1) % 25 = (grid1.coords ⟨n, hlt⟩ 1).val + 1 by omega]
      exact this

/-! ## The array after the call -/

/-- A block's element keeps, to the end, what its point wrote, if no later point's block covers it. -/
theorem arrAt_last {c : Dev nD} (dat : Dat τ (Elt Ideal) (SparseCore.Cfg.HIx 1) ℕ UU ℕ cfg1 c) (t : Fin cfg1.N)
    (hf : (cfg1.win 12).flush t = true) (y : ((cfg1.win 12).xblock (cfg1.grid.coords t)).Idx)
    (hlater : ∀ t' : Fin cfg1.N, t.val < t'.val → ((cfg1.win 12).blk t).view.emb y ∉ ((cfg1.win 12).blk t').view.set) :
    ∀ n, t.val < n → (dat.arrAt 12 n : Vec Ideal S50000x128 .f32) (((cfg1.win 12).blk t).view.emb y) = dat.flushed 12 t y
  | 0, h => absurd h (Nat.not_lt_zero _)
  | n + 1, h => by
    rw [dat.arrAt_succ_apply]
    by_cases hn : n < cfg1.N
    · rw [dif_pos hn]
      by_cases e : t.val = n
      · obtain rfl : t = ⟨n, hn⟩ := Fin.ext e
        rw [if_pos hf]
        exact (View.write_emb_of_mem _ _ (Finset.mem_univ _)).trans (cast_eq _ _)
      · have ih := arrAt_last dat t hf y hlater n (by omega)
        by_cases hf' : (cfg1.win 12).flush ⟨n, hn⟩ = true
        · rw [if_pos hf', View.write_of_not_mem _ _ _ (by rw [View.setOn_univ]; exact hlater ⟨n, hn⟩ (by show t.val < n; omega))]
          exact ih
        · rw [if_neg hf']; exact ih
    · rw [dif_neg hn]
      exact arrAt_last dat t hf y hlater n (by have := t.isLt; omega)

/-- The result that the dense call leaves is the network's. -/
theorem out_of_outOk (p : Net) (V : Dev nD → Valuation τ sig (Elt Ideal)) (c : Dev nD) (h : Args p (V c)) (G : Vec Ideal S50000x128 .f32)
    (hG : outOk V c G) (R : Fin 50000) (k : Fin 128) : G (ix2 R k) = p.out R.val k := by
  obtain ⟨X, hX, hA⟩ := hG.exists_exact
  have hR := R.isLt
  have hN : cfg1.N = 100 := N_1
  have ht : 75 + R.val / 2000 < cfg1.N := by omega
  have hr : R.val % 2000 < 2000 := Nat.mod_lt _ (by decide)
  have e0 := coords0 ⟨75 + R.val / 2000, ht⟩
  have e1 := coords1 ⟨75 + R.val / 2000, ht⟩
  simp only at e0 e1
  obtain ⟨Y, -, hL⟩ := hX ⟨75 + R.val / 2000, ht⟩ ht (flush1_12 _)
  obtain ⟨S₀, hS⟩ := hL (by omega)
  have hi := h.inv S₀ (75 + R.val / 2000) (by omega)
  rw [← e0, ← e1] at hi
  have ho := outRows_eq (h.good ⟨75 + R.val / 2000, ht⟩) hi (by omega) ⟨R.val % 2000, hr⟩ k
  rw [hA (fun w u => if hw : w = 12 then hw ▸ X u else Classical.arbitrary _) (fun u _ _ => rfl)]
  have hemb : (ix2 R k : S50000x128.Idx) = ((cfg1.win 12).blk ⟨75 + R.val / 2000, ht⟩).view.emb (ix2 ⟨R.val % 2000, hr⟩ k) := by
    refine funext fun a => Fin.ext ?_
    show _ = ((win1_12.rect _).emb (ix2 ⟨R.val % 2000, hr⟩ k) a).val
    refine Eq.trans ?_ (Window.rect_emb_val win1_12 _ _ a rfl).symm
    match a with
    | ⟨0, _⟩ =>
      show R.val = (BitVec.ofNat 32 (grid1.coords ⟨75 + R.val / 2000, ht⟩ 1).val).toNat * 2000 + R.val % 2000
      rw [toNat_coord]; omega
    | ⟨1, _⟩ => show k.val = 0 * 128 + k.val; omega
  rw [hemb]
  refine (arrAt_last _ ⟨75 + R.val / 2000, ht⟩ (flush1_12 _) _ ?_ cfg1.N ht).trans ?_
  · intro t' ht' hmem
    rw [← hemb] at hmem
    have hm := (Window.emb_mem_blk_iff win1_12 t' (ix2 R k)).mp hmem 0
    have hm1 : (BitVec.ofNat 32 (grid1.coords t' 1).val).toNat * 2000 ≤ R.val := hm.1
    have hm2 : R.val < (BitVec.ofNat 32 (grid1.coords t' 1).val).toNat * 2000 + 2000 := hm.2
    rw [toNat_coord] at hm1 hm2
    have e1' := coords1 t'
    have := t'.isLt
    simp only at ht'
    omega
  · show X ⟨75 + R.val / 2000, ht⟩ _ = _
    rw [hS]
    refine Eq.trans (congrArg _ ?_) (ho.trans ?_)
    · rfl
    · refine congrArg (fun n => p.out n k) ?_
      show 2000 * (grid1.coords ⟨75 + R.val / 2000, ht⟩ 1).val + R.val % 2000 = R.val
      omega

end Cert.Proof

end
-- ==== Proof.Hist.lean ====
/-
  What the kernel's arithmetic counts, at the ideal instance: one vector of edges adds to each word of the block the number
  of its edges whose key is that word; a range's 31250 vectors add the number of all the edges that have that key.
-/
module

public import proofs.«01_k».proof.Proof.Base
public import Mathlib.Data.EReal.Operations
public import Mathlib.Data.Nat.Count

@[expose] public section

noncomputable section

namespace Cert.Proof

open Cert.KernelIdeal Cert.KernelIdeal.Gen

open Idealize.ShloMosaic

/-- A lane of a vector, from its number. -/
def lane (k : Fin 16) : S16.Idx := Shape.ofLane k

/-- The number of a lane. -/
def laneNo (x : S16.Idx) : Fin 16 := x 0

theorem lane_of (x : S16.Idx) : lane (laneNo x) = x := by
  funext a
  obtain rfl : a = 0 := Subsingleton.elim _ _
  rfl

theorem pos_lane (k : Fin 16) : (S16.rowMajor (lane k)).val = k.val := by
  rw [Shape.rowMajor_val_one]; rfl

/-- A fold that adds the values of the hits is its start plus their sum. -/
theorem foldl_hits {β : Type} (P : β → Prop) [DecidablePred P] (v : β → EReal) : ∀ (L : List β) (a : EReal),
    L.foldl (fun a k => if P k then a + v k else a) a = a + (L.map fun k => if P k then v k else 0).sum
  | [], a => by simp
  | k :: L, a => by
    rw [List.foldl_cons, foldl_hits P v L, List.map_cons, List.sum_cons, ← add_assoc]
    by_cases h : P k <;> simp [h]

/-- One lane's step of a scatter with add. -/
def laneStep (p : IVec S16 32) (v : Vec Ideal S16 .f32) (mask : IVec S16 1)
    (h : ∀ a x, ((![p] : Fin 1 → IVec S16 32) a x).toNat < S120000.size a) (g : Vec Ideal S120000 .f32) (k : Fin 16) : Vec Ideal S120000 .f32 :=
  if mask (lane k) = 1 then
    fun j => if (∀ a, (j a).val = (idxAt ![p] h (lane k) a).val) then Elt.idxAdd .f32 (g (idxAt ![p] h (lane k))) (v (lane k)) else g j
  else g

theorem laneStep_at (p : IVec S16 32) (v : Vec Ideal S16 .f32) (mask : IVec S16 1)
    (h : ∀ a x, ((![p] : Fin 1 → IVec S16 32) a x).toNat < S120000.size a) (g : Vec Ideal S120000 .f32) (k : Fin 16) (w : S120000.Idx) :
    laneStep p v mask h g k w
      = (if mask (lane k) = 1 ∧ (p (lane k)).toNat = (w 0).val then (g w + v (lane k) : EReal) else (g w : EReal)) := by
  unfold laneStep
  by_cases hm : mask (lane k) = 1
  · rw [if_pos hm]
    by_cases hw : (p (lane k)).toNat = (w 0).val
    · have e : idxAt ![p] h (lane k) = w := by
        funext a
        obtain rfl : a = 0 := Subsingleton.elim _ _
        exact Fin.ext hw
      rw [e, if_pos (fun a => rfl), if_pos ⟨hm, hw⟩]
      rfl
    · rw [if_neg (fun hc => hw (hc 0).symm), if_neg (fun hc => hw hc.2)]
  · rw [if_neg hm, if_neg (fun hc => hm hc.1)]

theorem laneSteps_at (p : IVec S16 32) (v : Vec Ideal S16 .f32) (mask : IVec S16 1)
    (h : ∀ a x, ((![p] : Fin 1 → IVec S16 32) a x).toNat < S120000.size a) (w : S120000.Idx) :
    ∀ (L : List (Fin 16)) (g : Vec Ideal S120000 .f32), L.foldl (laneStep p v mask h) g w
      = L.foldl (fun (a : EReal) k => if mask (lane k) = 1 ∧ (p (lane k)).toNat = (w 0).val then a + (v (lane k) : EReal) else a) (g w)
  | [], _ => rfl
  | k :: L, g => by
    rw [List.foldl_cons, List.foldl_cons, laneSteps_at p v mask h w L, laneStep_at]

/-- A scatter with add at one word of the block: its contents and the values of the set lanes placed there. -/
theorem storeIdx_at (f : Vec Ideal S120000 .f32) (p : IVec S16 32) (v : Vec Ideal S16 .f32) (mask : IVec S16 1)
    (h : ∀ a x, ((![p] : Fin 1 → IVec S16 32) a x).toNat < S120000.size a) (w : S120000.Idx) :
    storeIdx f ![p] v mask true h w
      = (f w + ∑ k : Fin 16, if mask (lane k) = 1 ∧ (p (lane k)).toNat = (w 0).val then (v (lane k) : EReal) else 0 : EReal) := by
  have e : storeIdx f ![p] v mask true h w = (List.finRange 16).foldl (laneStep p v mask h) f w := by
    unfold storeIdx
    refine congrFun (congrArg (fun st => List.foldl st f (List.finRange 16)) (funext fun g => funext fun k => ?_)) w
    unfold laneStep
    show (if mask (lane k) = 1 then _ else _) = _
    by_cases hm : mask (lane k) = 1
    · rw [if_pos hm, if_pos hm]
      funext j
      by_cases hc : ∀ a, (j a).val = (idxAt ![p] h (lane k) a).val
      · exact (if_pos hc).trans (if_pos hc).symm
      · exact (if_neg hc).trans (if_neg hc).symm
    · rw [if_neg hm, if_neg hm]
  refine e.trans ?_
  rw [laneSteps_at, foldl_hits (fun k : Fin 16 => mask (lane k) = 1 ∧ (p (lane k)).toNat = (w 0).val) (fun k => (v (lane k) : EReal))]
  rw [← List.sum_ofFn, List.ofFn_eq_map]

/-- The lanes whose key lies in the block and is `j`. -/
def hits (base : BitVec 32) (s t : IVec S16 32) (j : ℕ) (k : Fin 16) : Prop :=
  (key base s t (lane k)).toNat = j
instance (base : BitVec 32) (s t : IVec S16 32) (j : ℕ) : DecidablePred (hits base s t j) := fun _ => by unfold hits; infer_instance

theorem inBlk_iff (base : BitVec 32) (s t : IVec S16 32) (x : S16.Idx) : inBlk base s t x = 1 ↔ (key base s t x).toNat < 120000 := by
  show BitVec.ofBool ((key base s t x).ult 120000#32) = 1#1 ↔ _
  rw [BitVec.ult_eq_decide]
  by_cases h : (key base s t x).toNat < (120000#32).toNat
  · rw [decide_eq_true h]; exact ⟨fun _ => h, fun _ => rfl⟩
  · rw [decide_eq_false h]; exact ⟨fun hc => absurd hc (by decide), fun hc => absurd hc h⟩

theorem place_of_in {base : BitVec 32} {s t : IVec S16 32} {x : S16.Idx} (h : inBlk base s t x = 1) : place base s t x = key base s t x := by
  unfold place select Scalar.select
  rw [if_pos h]

theorem lastOf_iff (base : BitVec 32) (s t : IVec S16 32) (k : Fin 16) :
    lastOf base s t (lane k) = 1 ↔ inBlk base s t (lane k) = 1 ∧ ∀ l : Fin 16, k < l → ¬ (inBlk base s t (lane l) = 1 ∧ key base s t (lane l) = key base s t (lane k)) := by
  unfold lastOf scanCount
  dsimp only
  have e : (∀ j : S16.Idx, (S16.rowMajor (lane k)).val < (S16.rowMajor j).val → ¬ (inBlk base s t j = 1 ∧ key base s t j = key base s t (lane k)))
      ↔ ∀ l : Fin 16, k < l → ¬ (inBlk base s t (lane l) = 1 ∧ key base s t (lane l) = key base s t (lane k)) := by
    constructor
    · intro h l hl
      exact h (lane l) (by rw [pos_lane, pos_lane]; exact hl)
    · intro h j hj
      rw [← lane_of j, pos_lane, pos_lane] at hj
      have := h (laneNo j) hj
      rwa [lane_of] at this
  rw [← e]
  split
  · rename_i h; exact ⟨fun _ => h, fun _ => rfl⟩
  · rename_i h; exact ⟨fun hc => absurd hc (by decide), fun hc => absurd hc h⟩

theorem countOf_eq (base : BitVec 32) (s t : IVec S16 32) (k : Fin 16) (h : inBlk base s t (lane k) = 1) :
    (countOf base s t (lane k)).toInt
      = ((Finset.univ.filter fun l : Fin 16 => l ≤ k ∧ inBlk base s t (lane l) = 1 ∧ key base s t (lane l) = key base s t (lane k)).card : ℤ) := by
  unfold countOf scanCount
  dsimp only
  rw [if_pos h]
  have e : (Finset.univ.filter fun j : S16.Idx => (S16.rowMajor j).val ≤ (S16.rowMajor (lane k)).val ∧ inBlk base s t j = 1
        ∧ key base s t j = key base s t (lane k)).card
      = (Finset.univ.filter fun l : Fin 16 => l ≤ k ∧ inBlk base s t (lane l) = 1 ∧ key base s t (lane l) = key base s t (lane k)).card := by
    refine Finset.card_bij' (fun j _ => laneNo j) (fun l _ => lane l) ?_ ?_ ?_ ?_
    · intro j hj
      rw [Finset.mem_filter] at hj ⊢
      refine ⟨Finset.mem_univ _, ?_⟩
      have h1 := hj.2.1
      rw [← lane_of j, pos_lane, pos_lane] at h1
      rw [lane_of]
      exact ⟨h1, hj.2.2⟩
    · intro l hl
      rw [Finset.mem_filter] at hl ⊢
      refine ⟨Finset.mem_univ _, ?_⟩
      rw [pos_lane, pos_lane]
      exact hl.2
    · intro j _; exact lane_of j
    · intro l _; rfl
  rw [e]
  have hle : (Finset.univ.filter fun l : Fin 16 => l ≤ k ∧ inBlk base s t (lane l) = 1 ∧ key base s t (lane l) = key base s t (lane k)).card ≤ 16 :=
    (Finset.card_le_univ _).trans (by rw [Fintype.card_fin])
  generalize (Finset.univ.filter fun l : Fin 16 => l ≤ k ∧ inBlk base s t (lane l) = 1 ∧ key base s t (lane l) = key base s t (lane k)).card = c at hle
  rw [BitVec.toInt_eq_toNat_of_lt (by rw [BitVec.toNat_ofNat]; omega), BitVec.toNat_ofNat]
  omega

/-- One vector of edges adds to a word of the block the number of its lanes whose key is that word. -/
theorem stepF_at (base : BitVec 32) (s t : IVec S16 32) (f : Vec Ideal S120000 .f32) (w : S120000.Idx) :
    stepF base s t f w = (f w + ((Finset.univ.filter (hits base s t (w 0).val)).card : EReal) : EReal) := by
  have hw : (w 0).val < 120000 := (w 0).isLt
  unfold stepF
  rw [storeIdx_at]
  congr 1
  have cond : ∀ k : Fin 16, (lastOf base s t (lane k) = 1 ∧ (place base s t (lane k)).toNat = (w 0).val)
      ↔ (hits base s t (w 0).val k ∧ ∀ l, k < l → ¬ hits base s t (w 0).val l) := by
    intro k
    rw [lastOf_iff]
    constructor
    · rintro ⟨⟨hin, hl⟩, hp⟩
      rw [place_of_in hin] at hp
      refine ⟨hp, fun l hkl hh => hl l hkl ⟨(inBlk_iff ..).2 (by unfold hits at hh; omega), BitVec.eq_of_toNat_eq (hh.trans hp.symm)⟩⟩
    · rintro ⟨hp, hl⟩
      have hin : inBlk base s t (lane k) = 1 := (inBlk_iff ..).2 (by unfold hits at hp; omega)
      refine ⟨⟨hin, fun l hkl hh => hl l hkl ?_⟩, ?_⟩
      · unfold hits; rw [hh.2]; exact hp
      · rw [place_of_in hin]; exact hp
  by_cases hne : (Finset.univ.filter (hits base s t (w 0).val)).Nonempty
  · obtain ⟨k, hk, hmax⟩ := Finset.exists_max_image (Finset.univ.filter (hits base s t (w 0).val)) id hne
    have hk' : hits base s t (w 0).val k := (Finset.mem_filter.1 hk).2
    have hlast : ∀ l, k < l → ¬ hits base s t (w 0).val l := fun l hl hh =>
      absurd (hmax l (Finset.mem_filter.2 ⟨Finset.mem_univ _, hh⟩)) (not_le.2 hl)
    have hin : inBlk base s t (lane k) = 1 := (inBlk_iff ..).2 (by unfold hits at hk'; omega)
    rw [Finset.sum_eq_single k]
    · rw [if_pos ((cond k).2 ⟨hk', hlast⟩)]
      show (((countOf base s t (lane k)).toInt : ℝ) : EReal) = _
      rw [countOf_eq base s t k hin]
      have e : (Finset.univ.filter fun l : Fin 16 => l ≤ k ∧ inBlk base s t (lane l) = 1 ∧ key base s t (lane l) = key base s t (lane k))
          = Finset.univ.filter (hits base s t (w 0).val) := by
        ext l
        rw [Finset.mem_filter, Finset.mem_filter]
        refine and_congr_right fun _ => ⟨fun h => ?_, fun h => ⟨?_, ?_, ?_⟩⟩
        · unfold hits; rw [h.2.2]; exact hk'
        · exact hmax l (Finset.mem_filter.2 ⟨Finset.mem_univ _, h⟩)
        · exact (inBlk_iff ..).2 (by unfold hits at h; omega)
        · exact BitVec.eq_of_toNat_eq (h.trans hk'.symm)
      rw [e, Int.cast_natCast]
      rfl
    · intro l _ hlk
      rw [if_neg]
      intro hc
      have := (cond l).1 hc
      rcases lt_trichotomy l k with h | h | h
      · exact this.2 k h hk'
      · exact hlk h
      · exact hlast l h this.1
    · intro h; exact absurd (Finset.mem_univ _) h
  · have h0 : ∀ k, ¬ hits base s t (w 0).val k := fun k hk => hne ⟨k, Finset.mem_filter.2 ⟨Finset.mem_univ _, hk⟩⟩
    rw [Finset.sum_eq_zero (fun k _ => if_neg fun hc => h0 k ((cond k).1 hc).1), Finset.not_nonempty_iff_eq_empty.1 hne]
    simp

/-- Edge `e` has, relative to the first word of the block, the key `j`. -/
def edgeHit (base : BitVec 32) (src dst : IVec S500000 32) (j : ℕ) (e : ℕ) : Prop :=
  (edgeAt src e * 100#32 + edgeAt dst e - base).toNat = j
instance (base : BitVec 32) (src dst : IVec S500000 32) (j : ℕ) : DecidablePred (edgeHit base src dst j) := fun _ => by unfold edgeHit; infer_instance

/-- After `n` vectors a word of the block holds its first contents and the number of the edges so far with its key. -/
theorem blkAfter_at (base : BitVec 32) (src dst : IVec S500000 32) (f : Vec Ideal S120000 .f32) (w : S120000.Idx) : ∀ n : ℕ,
    blkAfter base src dst f n w = (f w + (Nat.count (edgeHit base src dst (w 0).val) (16 * n) : EReal) : EReal)
  | 0 => by
    show f w = _
    rw [Nat.mul_zero, Nat.count_zero]; simp
  | n + 1 => by
    show stepF base (edgeVec src n) (edgeVec dst n) (blkAfter base src dst f n) w = _
    rw [stepF_at, blkAfter_at base src dst f w n, Nat.mul_succ, Nat.count_add, add_assoc]
    congr 1
    rw [Nat.cast_add]
    congr 2
    rw [Nat.count_eq_card_filter_range]
    symm
    refine Finset.card_bij' (fun a ha => (⟨a, Finset.mem_range.1 (Finset.mem_filter.1 ha).1⟩ : Fin 16)) (fun k _ => k.val) ?_ ?_ ?_ ?_
    · intro a ha; exact Finset.mem_filter.2 ⟨Finset.mem_univ _, (Finset.mem_filter.1 ha).2⟩
    · intro k hk; exact Finset.mem_filter.2 ⟨Finset.mem_range.2 k.isLt, (Finset.mem_filter.1 hk).2⟩
    · intro a _; rfl
    · intro k _; rfl

end Cert.Proof

end
-- ==== Proof.Ref.lean ====
/-
  The counts, as numbers: what the kernel's keys count at (item, tag) is the number of the edges between them.
-/
module

public import proofs.«01_k».proof.Proof.Hist
public import Idealize.ShloMosaic.Lib.Routing.OpsPair
public import Idealize.ShloMosaic.Lib.ReduceAll
public import Idealize.ShloMosaic.Lib.IdealHost
public import Idealize.ShloMosaic.Lib.Pipeline.Value
public import Idealize.ShloMosaic.Lib.Affine

@[expose] public section

noncomputable section

namespace Cert.Proof

open Idealize.ShloMosaic Idealize.ShloMosaic.ValueIdx

local notation "IV" => IVec (⟨1, ![500000]⟩ : Shape) 32

/-- Every edge names an item and a tag. -/
def InRange (src dst : IV) : Prop := ∀ e : Fin 500000, (src (ix1 e)).toNat < 50000 ∧ (dst (ix1 e)).toNat < 100

/-- The number of the edges from item `i` to tag `t`. -/
def cnt (src dst : IV) (i t : ℕ) : ℕ :=
  (Finset.univ.filter fun e : Fin 500000 => (src (ix1 e)).toNat = i ∧ (dst (ix1 e)).toNat = t).card

/-! ## A word in range -/

theorem word_range (x : BitVec 32) (n : ℕ) (hn : n < 2 ^ 31)
    (h : IntOp.andi (IntOp.cmpi .sge x 0#32) (IntOp.cmpi .slt x (BitVec.ofNat 32 n)) = 1#1) : x.toNat < n := by
  obtain ⟨h1, h2⟩ := IntOp.andi_eq_one.1 h
  have h1' : (0#32).sle x = true := by
    by_contra hc
    rw [Bool.not_eq_true] at hc
    have : IntOp.cmpi .sge x 0#32 = BitVec.ofBool ((0#32).sle x) := rfl
    rw [this, hc] at h1; exact absurd h1 (by decide)
  have h2' : x.slt (BitVec.ofNat 32 n) = true := by
    by_contra hc
    rw [Bool.not_eq_true] at hc
    have : IntOp.cmpi .slt x (BitVec.ofNat 32 n) = BitVec.ofBool (x.slt (BitVec.ofNat 32 n)) := rfl
    rw [this, hc] at h2; exact absurd h2 (by decide)
  rw [BitVec.sle_eq_decide, decide_eq_true_iff] at h1'
  rw [BitVec.slt_eq_decide, decide_eq_true_iff] at h2'
  rw [BitVec.toInt_eq_toNat_of_lt (x := BitVec.ofNat 32 n) (by rw [BitVec.toNat_ofNat]; omega), BitVec.toNat_ofNat] at h2'
  have h0 : (0#32).toInt = 0 := by decide
  rw [h0] at h1'
  rw [BitVec.toInt_eq_toNat_cond] at h1' h2'
  split at h2' <;> omega

/-! ## The kernel's words -/

theorem edgeAt_of (g : IV) (e : Fin 500000) : edgeAt g e.val = g (ix1 e) := by
  unfold edgeAt
  rw [dif_pos e.isLt]
  congr 1
  funext a
  obtain rfl : a = 0 := Subsingleton.elim _ _
  rfl

/-- In the block that begins at word `120000 r`, the edges with key `j` are those whose item and tag make word `120000 r + j`. -/
theorem count_hits (src dst : IV) (h : InRange src dst) (i t r j : ℕ) (ht : t < 100) (hj : j < 120000) (hi : i < 50000)
    (hw : 100 * i + t = 120000 * r + j) :
    Nat.count (edgeHit (BitVec.ofNat 32 (120000 * r)) src dst j) 500000 = cnt src dst i t := by
  rw [Nat.count_eq_card_filter_range]
  unfold cnt
  refine Finset.card_bij' (fun a ha => (⟨a, Finset.mem_range.1 (Finset.mem_filter.1 ha).1⟩ : Fin 500000)) (fun k _ => k.val) ?_ ?_ ?_ ?_
  · intro a ha
    have ha1 := Finset.mem_range.1 (Finset.mem_filter.1 ha).1
    have ha2 := (Finset.mem_filter.1 ha).2
    unfold edgeHit at ha2
    rw [edgeAt_of src ⟨a, ha1⟩, edgeAt_of dst ⟨a, ha1⟩] at ha2
    refine Finset.mem_filter.2 ⟨Finset.mem_univ _, ?_⟩
    have := h ⟨a, ha1⟩
    revert ha2 this
    generalize src (ix1 ⟨a, ha1⟩) = x
    generalize dst (ix1 ⟨a, ha1⟩) = y
    intro ha2 this
    rw [BitVec.toNat_sub, BitVec.toNat_add, BitVec.toNat_mul, BitVec.toNat_ofNat, BitVec.toNat_ofNat] at ha2
    have : x.toNat * 100 + y.toNat = 100 * i + t := by omega
    omega
  · intro k hk
    have hk2 := (Finset.mem_filter.1 hk).2
    refine Finset.mem_filter.2 ⟨Finset.mem_range.2 k.isLt, ?_⟩
    unfold edgeHit
    rw [edgeAt_of src k, edgeAt_of dst k]
    revert hk2
    generalize src (ix1 k) = x
    generalize dst (ix1 k) = y
    rintro ⟨rfl, rfl⟩
    rw [BitVec.toNat_sub, BitVec.toNat_add, BitVec.toNat_mul, BitVec.toNat_ofNat, BitVec.toNat_ofNat]
    omega
  · intro a _; rfl
  · intro k _; rfl

end Cert.Proof

end
-- ==== Proof.Pre.lean ====
/-
  The network that the arguments are, and what the precondition says of them: every edge names an item and a tag, and
  the neighbours' weights of the items are real numbers.
-/
module

public import proofs.«01_k».proof.Defs
public import proofs.«01_k».proof.Proof.Ref
public import proofs.«01_k».proof.Proof.Model
public import proofs.«01_k».proof.Proof.Gen.Pre_items_in_order_edges_in_range_weights_finite
public import Idealize.ShloMosaic.Lib.ReduceAll
public import Idealize.ShloMosaic.Lib.IdealHost

@[expose] public section

noncomputable section

namespace Cert.Proof

open Idealize.ShloMosaic

local notation "IV" => IVec (⟨1, ![500000]⟩ : Shape) 32
/-- A table over the extended reals. -/
abbrev M2 (n m : ℕ) := (⟨2, ![n, m]⟩ : Shape).Idx → Ideal .f32

/-- A stack of them. -/
abbrev M3 (n m o : ℕ) := (⟨3, ![n, m, o]⟩ : Shape).Idx → Ideal .f32

theorem vix1 {n : ℕ} (a : Fin n) : ValueIdx.ix1 a = ix1 a := funext fun d => match d with | ⟨0, _⟩ => rfl

theorem vix2 {n m : ℕ} (a : Fin n) (b : Fin m) : ValueIdx.ix2 a b = ix2 a b := funext fun d => match d with | ⟨0, _⟩ => rfl | ⟨1, _⟩ => rfl

/-- The arguments are the network `p`. -/
structure Fits (p : Net) (src dst : IV) (a3 : M2 50000 128) (a4 : M2 100 128) (a5 a6 : M3 4 128 128) (a7 : M2 4 128) (a8 a9 : M3 4 128 128)
    (a10 a11 a12 : M2 4 128) (a13 : M2 128 128) : Prop where
  src : ∀ e : Fin 500000, (src (ix1 e)).toNat = p.src e
  src_lt : ∀ e, p.src e < 50000
  dst : ∀ e : Fin 500000, (dst (ix1 e)).toNat = (p.dst e).val
  it : ∀ r k, (a3 (ix2 r k) : EReal) = p.it r.val k
  tt : ∀ t k, (a4 (ix2 t k) : EReal) = p.tt t k
  wsa : ∀ l j k, (a5 (ix3 l j k) : EReal) = p.wsa l j k
  wna : ∀ l j k, (a6 (ix3 l j k) : EReal) = p.wna l j k
  ba : ∀ l k, (a7 (ix2 l k) : EReal) = p.ba l k
  wsr : ∀ l j k, (a8 (ix3 l j k) : EReal) = p.wsr l j k
  wnr : ∀ l j k, (a9 (ix3 l j k) : EReal) = ((p.wnr l j k : ℝ) : EReal)
  br : ∀ l k, (a10 (ix2 l k) : EReal) = p.br l k
  g : ∀ l k, (a11 (ix2 l k) : EReal) = p.g l k
  be : ∀ l k, (a12 (ix2 l k) : EReal) = p.be l k
  wf : ∀ j k, (a13 (ix2 j k) : EReal) = p.wf j k

/-- The network that the arguments hold. -/
def netOf (src dst : IV) (a3 : M2 50000 128) (a4 : M2 100 128) (a5 a6 : M3 4 128 128) (a7 : M2 4 128) (a8 a9 : M3 4 128 128)
    (a10 a11 a12 : M2 4 128) (a13 : M2 128 128) : Net where
  src e := (src (ix1 e)).toNat
  dst e := Fin.ofNat 100 (dst (ix1 e)).toNat
  it r k := if h : r < 50000 then a3 (ix2 ⟨r, h⟩ k) else 0
  tt t k := a4 (ix2 t k)
  wsa l j k := a5 (ix3 l j k)
  wna l j k := a6 (ix3 l j k)
  ba l k := a7 (ix2 l k)
  wsr l j k := a8 (ix3 l j k)
  wnr l j k := EReal.toReal (a9 (ix3 l j k))
  br l k := a10 (ix2 l k)
  g l k := a11 (ix2 l k)
  be l k := a12 (ix2 l k)
  wf j k := a13 (ix2 j k)

theorem finite_word (x : Ideal .f32)
    (h : FloatOps.cmpf .olt (FloatOps.hostAbsf x) (FloatOps.ofBits (F := Ideal) .f32 0x7F800000#32) = 1#1) : (x : EReal) = (EReal.toReal x : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  by_cases hx : x = ⊤ ∨ x = ⊥
  · have hn : ¬ (max (x : EReal) (-x) < ⊤) := by rcases hx with hx | hx <;> subst hx <;> simp
    exact absurd h (by unfold Ideal.cmp; simp [hn])
  · exact (EReal.coe_toReal (fun e => hx (.inl e)) (fun e => hx (.inr e))).symm

/-- The precondition says that the arguments are a network. -/
theorem fits_of_pre (a0 : IVec (⟨1, ![50000]⟩ : Shape) 32) (src dst : IV) (a3 : M2 50000 128) (a4 : M2 100 128) (a5 a6 : M3 4 128 128) (a7 : M2 4 128)
    (a8 a9 : M3 4 128 128) (a10 a11 a12 : M2 4 128) (a13 : M2 128 128)
    (h : letI := Cert.Pre_items_in_order_edges_in_range_weights_finite.Gen.facts
      Cert.Pre_items_in_order_edges_in_range_weights_finite.fn (F := Ideal) a0 src dst a3 a4 a5 a6 a7 a8 a9 a10 a11 a12 a13 = fun _ => 1#1) :
    Fits (netOf src dst a3 a4 a5 a6 a7 a8 a9 a10 a11 a12 a13) src dst a3 a4 a5 a6 a7 a8 a9 a10 a11 a12 a13 := by
  have h0 := congrFun h (fun a : Fin 0 => a.elim0)
  obtain ⟨h0, -⟩ := IntOp.andi_eq_one.1 h0
  obtain ⟨h0, h9⟩ := IntOp.andi_eq_one.1 h0
  obtain ⟨h1, h2⟩ := IntOp.andi_eq_one.1 h0
  haveI : Subsingleton Cert.Pre_items_in_order_edges_in_range_weights_finite.S_.Idx := ⟨fun a b => funext fun k => k.elim0⟩
  have hs : ∀ e : Fin 500000, (src (ix1 e)).toNat < 50000 := fun e => word_range _ _ (by decide) (Host.reduce_andi_all _ _ _ _ _ h1 (ix1 e))
  have hd : ∀ e : Fin 500000, (dst (ix1 e)).toNat < 100 := fun e => word_range _ _ (by decide) (Host.reduce_andi_all _ _ _ _ _ h2 (ix1 e))
  exact {
    src := fun e => rfl
    src_lt := hs
    dst := fun e => (Nat.mod_eq_of_lt (hd e)).symm
    it := fun r k => by
      show _ = dite _ _ _
      rw [dif_pos r.isLt]
    tt := fun _ _ => rfl
    wsa := fun _ _ _ => rfl
    wna := fun _ _ _ => rfl
    ba := fun _ _ => rfl
    wsr := fun _ _ _ => rfl
    wnr := fun l j k => finite_word _ (Host.reduce_andi_all _ _ _ _ _ h9 (ix3 l j k))
    br := fun _ _ => rfl
    g := fun _ _ => rfl
    be := fun _ _ => rfl
    wf := fun _ _ => rfl }

/-- The precondition says that the items are 0, 1, 2, … in order. -/
theorem items_of_pre (a0 : IVec (⟨1, ![50000]⟩ : Shape) 32) (src dst : IV) (a3 : M2 50000 128) (a4 : M2 100 128) (a5 a6 : M3 4 128 128) (a7 : M2 4 128)
    (a8 a9 : M3 4 128 128) (a10 a11 a12 : M2 4 128) (a13 : M2 128 128)
    (h : letI := Cert.Pre_items_in_order_edges_in_range_weights_finite.Gen.facts
      Cert.Pre_items_in_order_edges_in_range_weights_finite.fn (F := Ideal) a0 src dst a3 a4 a5 a6 a7 a8 a9 a10 a11 a12 a13 = fun _ => 1#1)
    (i : Fin 50000) : a0 (ix1 i) = BitVec.ofNat 32 i.val := by
  have h0 := congrFun h (fun a : Fin 0 => a.elim0)
  obtain ⟨-, h14⟩ := IntOp.andi_eq_one.1 h0
  haveI : Subsingleton Cert.Pre_items_in_order_edges_in_range_weights_finite.S_.Idx := ⟨fun a b => funext fun k => k.elim0⟩
  have e : IntOp.cmpi .eq (a0 (ix1 i)) (BitVec.ofNat 32 i.val) = 1#1 := Host.reduce_andi_all _ _ _ _ _ h14 (ix1 i)
  by_contra hn
  have e' : IntOp.cmpi .eq (a0 (ix1 i)) (BitVec.ofNat 32 i.val) = BitVec.ofBool (decide (a0 (ix1 i) = BitVec.ofNat 32 i.val)) := rfl
  rw [e', decide_eq_false hn] at e
  exact absurd e (by decide)

theorem Fits.inRange {p : Net} {src dst : IV} {a3 : M2 50000 128} {a4 : M2 100 128} {a5 a6 : M3 4 128 128} {a7 : M2 4 128} {a8 a9 : M3 4 128 128}
    {a10 a11 a12 : M2 4 128} {a13 : M2 128 128} (h : Fits p src dst a3 a4 a5 a6 a7 a8 a9 a10 a11 a12 a13) : InRange src dst :=
  fun e => ⟨by rw [vix1, h.src]; exact h.src_lt e, by rw [vix1, h.dst]; exact (p.dst e).isLt⟩

theorem Fits.cnt_eq {p : Net} {src dst : IV} {a3 : M2 50000 128} {a4 : M2 100 128} {a5 a6 : M3 4 128 128} {a7 : M2 4 128} {a8 a9 : M3 4 128 128}
    {a10 a11 a12 : M2 4 128} {a13 : M2 128 128} (h : Fits p src dst a3 a4 a5 a6 a7 a8 a9 a10 a11 a12 a13) (r : ℕ) (t : Fin 100) :
    ((cnt src dst r t.val : ℕ) : ℝ) = p.cnt r t := by
  unfold cnt Net.cnt
  refine congrArg (fun n : ℕ => (n : ℝ)) (congrArg Finset.card (Finset.filter_congr fun e _ => ?_))
  rw [vix1, h.src, h.dst, Fin.ext_iff]

end Cert.Proof

end
-- ==== Proof.Value.lean ====
/-
  The kernel's value at the ideal instance: the counting call leaves at (item, tag) the number of the edges between
  them, the dense call's arrays are the network's, and the result is the network's at every item and feature.
-/
module

public import proofs.«01_k».proof.Proof.Main
public import proofs.«01_k».proof.Proof.Entry
public import proofs.«01_k».proof.Proof.Pre

@[expose] public section

noncomputable section

namespace Cert.Proof

open Cert.KernelIdeal Cert.KernelIdeal.Gen

open Idealize.ShloMosaic Idealize.SL.Sem
open Idealize.ShloMosaic.SparseCore (S V T)
open Idealize.ShloMosaic.Pipeline (ucRefs)

/-- The counting call's array, read at (item, tag). -/
theorem counts_at (src dst : IVec S500000 32) (h : InRange src dst) (i : Fin 50000) (t : Fin 100) :
    (shapeCast S50000x100 (outF src dst (zeros : Vec Ideal S120000 .f32)) shapeCasts_S5000000_S50000x100 : Vec Ideal S50000x100 .f32) (ix2 i t)
      = ((cnt src dst i.val t.val : ℕ) : EReal) := by
  have hi := i.isLt
  have ht := t.isLt
  have hlt : 100 * i.val + t.val < 5000000 := by omega
  have e : Shape.reshapeEquiv shapeCasts_S5000000_S50000x100 (ix2 i t) = (ValueIdx.ix1 ⟨100 * i.val + t.val, hlt⟩ : S5000000.Idx) :=
    Shape.reshapeEquiv_eq_of_rowMajor _ (by
      rw [Shape.rowMajor_val_one, Shape.rowMajor_val_two]
      show 100 * i.val + t.val = i.val * 100 + t.val
      omega)
  show outF src dst zeros (Shape.reshapeEquiv shapeCasts_S5000000_S50000x100 (ix2 i t)) = _
  rw [e]
  unfold outF
  rw [blkAfter_at, show 16 * (250 * 125) = 500000 from rfl]
  show ((Ideal.ofBits .f32 0x00000000#32 : EReal) + (Nat.count (edgeHit (BitVec.ofNat 32 (120000 * ((100 * i.val + t.val) / 120000))) src dst
    ((100 * i.val + t.val) % 120000)) 500000 : EReal) : EReal) = _
  rw [Ideal.ofBits_zero_f32, zero_add, count_hits src dst h i.val t.val ((100 * i.val + t.val) / 120000) ((100 * i.val + t.val) % 120000) ht
    (Nat.mod_lt _ (by decide)) hi (by omega)]

section
variable {F : FTy → Type} [FloatOps F] [∀ e, Nonempty (Elt F e)] (m : (ℓ : Loc nD τ sig) → Buf (Elt F) ℓ) (d : Dev nD)

/-! ## The dense call's arrays -/

/-- The arrays that @main writes before the dense call. -/
abbrev wrote : List (Ref sig .tc) := [main_cst, main_v0, main_v1, main_v2, main_v3, main_v4, main_v5, main_v6]

theorem V2_of (b : Ref sig .tc) (h : b ∉ wrote) : V2 m d (Proc.devRef .tc b) = m ((T d : Thread nD τ).loc b) := by
  simp only [wrote, List.mem_cons, List.not_mem_nil, or_false, not_or] at h
  unfold V2
  rw [Function.update_of_ne (fun e => h.2.2.1 (Proc.devRef_injective _ e)), V1_of m d b h.2.1 h.1]

theorem V3_of (b : Ref sig .tc) (h : b ∉ wrote) : V3 m d (Proc.devRef .tc b) = m ((T d : Thread nD τ).loc b) := by
  rw [← V2_of m d b h]
  simp only [wrote, List.mem_cons, List.not_mem_nil, or_false, not_or] at h
  exact StableHlo.reshape_result_ne (h := h.2.2.2.1) ..

theorem V4_of (b : Ref sig .tc) (h : b ∉ wrote) : V4 m d (Proc.devRef .tc b) = m ((T d : Thread nD τ).loc b) := by
  rw [← V3_of m d b h]
  simp only [wrote, List.mem_cons, List.not_mem_nil, or_false, not_or] at h
  exact StableHlo.reshape_result_ne (h := h.2.2.2.2.1) ..

theorem V5_of (b : Ref sig .tc) (h : b ∉ wrote) : V5 m d (Proc.devRef .tc b) = m ((T d : Thread nD τ).loc b) := by
  rw [← V4_of m d b h]
  simp only [wrote, List.mem_cons, List.not_mem_nil, or_false, not_or] at h
  exact StableHlo.reshape_result_ne (h := h.2.2.2.2.2.1) ..

theorem V6_of (b : Ref sig .tc) (h : b ∉ wrote) : V6 m d (Proc.devRef .tc b) = m ((T d : Thread nD τ).loc b) := by
  rw [← V5_of m d b h]
  simp only [wrote, List.mem_cons, List.not_mem_nil, or_false, not_or] at h
  exact StableHlo.reshape_result_ne (h := h.2.2.2.2.2.2.1) ..

theorem VE_of (b : Ref sig .tc) (h : b ∉ wrote) : VE m d (Proc.devRef .tc b) = m ((T d : Thread nD τ).loc b) := by
  rw [← V6_of m d b h]
  simp only [wrote, List.mem_cons, List.not_mem_nil, or_false, not_or] at h
  exact StableHlo.reshape_result_ne (h := h.2.2.2.2.2.2.2) ..

theorem VE_v6 : VE m d (Proc.devRef .tc main_v6) = (shapeCast S4x1x128 (m ((T d : Thread nD τ).loc main_arg12) : Vec F S4x128 .f32) shapeCasts_S4x128_S4x1x128 : Vec F S4x1x128 .f32) := by
  unfold VE
  rw [StableHlo.reshape_result, V6_of m d main_arg12 (by decide)]
  rfl

theorem VE_v5 : VE m d (Proc.devRef .tc main_v5) = (shapeCast S4x1x128 (m ((T d : Thread nD τ).loc main_arg11) : Vec F S4x128 .f32) shapeCasts_S4x128_S4x1x128 : Vec F S4x1x128 .f32) := by
  unfold VE V6
  rw [StableHlo.reshape_result_ne (h := by decide), StableHlo.reshape_result, V5_of m d main_arg11 (by decide)]
  rfl

theorem VE_v4 : VE m d (Proc.devRef .tc main_v4) = (shapeCast S4x1x128 (m ((T d : Thread nD τ).loc main_arg10) : Vec F S4x128 .f32) shapeCasts_S4x128_S4x1x128 : Vec F S4x1x128 .f32) := by
  unfold VE V6 V5
  rw [StableHlo.reshape_result_ne (h := by decide), StableHlo.reshape_result_ne (h := by decide), StableHlo.reshape_result, V4_of m d main_arg10 (by decide)]
  rfl

theorem VE_v3 : VE m d (Proc.devRef .tc main_v3) = (shapeCast S4x1x128 (m ((T d : Thread nD τ).loc main_arg7) : Vec F S4x128 .f32) shapeCasts_S4x128_S4x1x128 : Vec F S4x1x128 .f32) := by
  unfold VE V6 V5 V4
  rw [StableHlo.reshape_result_ne (h := by decide), StableHlo.reshape_result_ne (h := by decide), StableHlo.reshape_result_ne (h := by decide),
    StableHlo.reshape_result, V3_of m d main_arg7 (by decide)]
  rfl

theorem VE_v2 : VE m d (Proc.devRef .tc main_v2) = (shapeCast S50000x100 (outOf m d) shapeCasts_S5000000_S50000x100 : Vec F S50000x100 .f32) := by
  unfold VE V6 V5 V4 V3
  rw [StableHlo.reshape_result_ne (h := by decide), StableHlo.reshape_result_ne (h := by decide), StableHlo.reshape_result_ne (h := by decide),
    StableHlo.reshape_result_ne (h := by decide), StableHlo.reshape_result]
  unfold V2
  rw [Function.update_self]
  rfl

/-! ## What a run leaves -/

/-- A run leaves an array that @main does not write as it was. -/
theorem kept {r : PUnit × MemSt nD τ sig (Elt F)} (h : QC m r) (b : Ref sig .tc) (hb : b ∉ wrote) (h7 : b ≠ main_v7)
    (hu : (Proc.devRef .tc b : DevRef τ sig) ∈ ucRefs τ sig) : r.2.mem ((T d : Thread nD τ).loc b) = m ((T d : Thread nD τ).loc b) := by
  obtain ⟨G, -, hG⟩ := h.1 d
  refine (hG _ hu).trans ?_
  unfold after
  rw [Function.update_of_ne (fun e => h7 (Proc.devRef_injective _ e))]
  exact VE_of m d b hb

end

/-- The biases as the dense call reads them. -/
theorem bias_at (w : Vec Ideal S4x128 .f32) (l : Fin 4) (k : Fin 128) :
    (shapeCast S4x1x128 w shapeCasts_S4x128_S4x1x128 : Vec Ideal S4x1x128 .f32) (ix3 l 0 k) = w (ix2 l k) := by
  pointwise

/-- The kernel's arguments on device `d` are the network `p`. -/
abbrev KFits (p : Net) (m : (ℓ : Loc nD τ sig) → Buf (Elt Ideal) ℓ) (d : Dev nD) : Prop :=
  Fits p (m ((T d : Thread nD τ).loc main_arg1)) (m ((T d : Thread nD τ).loc main_arg2)) (m ((T d : Thread nD τ).loc main_arg3))
    (m ((T d : Thread nD τ).loc main_arg4)) (m ((T d : Thread nD τ).loc main_arg5)) (m ((T d : Thread nD τ).loc main_arg6))
    (m ((T d : Thread nD τ).loc main_arg7)) (m ((T d : Thread nD τ).loc main_arg8)) (m ((T d : Thread nD τ).loc main_arg9))
    (m ((T d : Thread nD τ).loc main_arg10)) (m ((T d : Thread nD τ).loc main_arg11)) (m ((T d : Thread nD τ).loc main_arg12))
    (m ((T d : Thread nD τ).loc main_arg13))

/-- The dense call's arrays are the network's. -/
theorem args_of_fits {p : Net} (m : (ℓ : Loc nD τ sig) → Buf (Elt Ideal) ℓ) (d : Dev nD) (h : KFits p m d) : Args p (VE m d) where
  c r t := by
    rw [VE_v2]
    refine (counts_at _ _ h.inRange r t).trans ?_
    rw [← h.cnt_eq r.val t]
    exact EReal.coe_natCast.symm
  it r k := by rw [VE_of m d _ (by decide)]; exact h.it r k
  tt t k := by rw [VE_of m d _ (by decide)]; exact h.tt t k
  wsa l j k := by rw [VE_of m d _ (by decide)]; exact h.wsa l j k
  wna l j k := by rw [VE_of m d _ (by decide)]; exact h.wna l j k
  ba l k := by rw [VE_v3]; exact (bias_at _ l k).trans (h.ba l k)
  wsr l j k := by rw [VE_of m d _ (by decide)]; exact h.wsr l j k
  wnr l j k := by rw [VE_of m d _ (by decide)]; exact h.wnr l j k
  br l k := by rw [VE_v4]; exact (bias_at _ l k).trans (h.br l k)
  g l k := by rw [VE_v5]; exact (bias_at _ l k).trans (h.g l k)
  be l k := by rw [VE_v6]; exact (bias_at _ l k).trans (h.be l k)
  wf j k := by rw [VE_of m d _ (by decide)]; exact h.wf j k

/-- The kernel's result is the network's. -/
theorem kernel_at {p : Net} (m : (ℓ : Loc nD τ sig) → Buf (Elt Ideal) ℓ) (d : Dev nD) (h : KFits p m d)
    {r : PUnit × MemSt nD τ sig (Elt Ideal)} (hr : QC m r) (i : Fin 50000) (k : Fin 128) :
    ((r.2.mem ((T d : Thread nD τ).loc main_v7) : Vec Ideal S50000x128 .f32) (ix2 i k) : EReal) = p.out i.val k := by
  obtain ⟨G, hG, hm⟩ := hr.1 d
  have e : r.2.mem ((T d : Thread nD τ).loc main_v7) = G := (hm (Proc.devRef .tc main_v7) (by decide)).trans (Function.update_self _ _ _)
  rw [e]
  exact out_of_outOk p (VE m) d (args_of_fits m d h) G hG i k

end Cert.Proof

end
-- ==== Proof.Scat.lean ====
/-
  The reference's sums over edges and its row look-ups, read at an index: a scatter's row is the sum of the updates that
  name it, and a look-up of a row that is in range is that row.
-/
module

public import proofs.«01_k».proof.Proof.Pre
public import proofs.«01_k».proof.Proof.Gen.ReferenceIdeal
public import Idealize.ShloMosaic.Lib.Routing.Ops
public import Idealize.ShloMosaic.Lib.Routing.OpsPair
public import Idealize.ShloMosaic.Lib.ReduceAll
public import Idealize.ShloMosaic.Lib.IdealHost
public import Idealize.ShloMosaic.Lib.Pointwise

@[expose] public section

noncomputable section

namespace Cert.Proof

open Cert.ReferenceIdeal Cert.ReferenceIdeal.Gen
open Idealize.ShloMosaic

theorem select_one {s : Shape} {α : Type} (m : IVec s 1) (a b : s.Idx → α) (i : s.Idx) (h : m i = 1#1) : select m a b i = a i := by
  show Scalar.select (m i) (a i) (b i) = a i
  rw [h]
  rfl

theorem in_bounds (x : BitVec 32) (n : ℕ) (hn : n < 2 ^ 31) (h : x.toNat ≤ n) :
    IntOp.andi (IntOp.cmpi .sge x 0#32) (IntOp.cmpi .sle x (BitVec.ofNat 32 n)) = 1#1 := by
  refine IntOp.andi_eq_one.2 ⟨?_, ?_⟩
  · show BitVec.ofBool ((0#32).sle x) = 1#1
    rw [show (0#32).sle x = true by
      rw [BitVec.sle_eq_decide, decide_eq_true_iff, BitVec.toInt_eq_toNat_of_lt (x := x) (by omega)]
      exact Int.natCast_nonneg _]
    rfl
  · show BitVec.ofBool (x.sle (BitVec.ofNat 32 n)) = 1#1
    rw [show x.sle (BitVec.ofNat 32 n) = true by
      rw [BitVec.sle_eq_decide, decide_eq_true_iff, BitVec.toInt_eq_toNat_of_lt (x := x) (by omega),
        BitVec.toInt_eq_toNat_of_lt (x := BitVec.ofNat 32 n) (by rw [BitVec.toNat_ofNat]; omega), BitVec.toNat_ofNat]
      omega]
    rfl

/-- Update `(e, k')` of the scatter of rows lands at row `t` and column `k` exactly when its index is `t` and its column is `k`. -/
theorem landsRow_100 (idx : IVec S500000x1 32) (e : Fin 500000) (k' : Fin 128) (t : Fin 100) (k : Fin 128) :
    scatter_S100x128_S500000x1_S500000x128_1_0_0_1.resultIdx? (ix2 e k') idx = some (ix2 t k)
      ↔ (idx (ix2 e 0)).toInt = (t.val : ℤ) ∧ k' = k := by
  have h0 : scatter_S100x128_S500000x1_S500000x128_1_0_0_1.start (ix2 e k') idx 0 = (idx (ix2 e 0)).toInt := by
    unfold ScatterDims.start
    refine (dif_pos (by decide)).trans (congrArg (fun j => (idx j).toInt) (funext fun b => ?_))
    match b with
    | ⟨0, _⟩ => rfl
    | ⟨1, _⟩ => rfl
  have h1 : scatter_S100x128_S500000x1_S500000x128_1_0_0_1.start (ix2 e k') idx 1 = 0 := by
    unfold ScatterDims.start
    exact dif_neg (by decide)
  have w0 : scatter_S100x128_S500000x1_S500000x128_1_0_0_1.window (ix2 e k') 0 = 0 := by
    unfold ScatterDims.window
    exact dif_neg (by decide)
  have w1 : scatter_S100x128_S500000x1_S500000x128_1_0_0_1.window (ix2 e k') 1 = k'.val := by
    unfold ScatterDims.window
    exact (dif_pos (by decide)).trans rfl
  rw [Routing.resultIdx?_eq_some]
  constructor
  · intro h
    have a := h 0
    have b := h 1
    rw [h0, w0] at a
    rw [h1, w1] at b
    change _ = (t.val : ℤ) at a
    change _ = (k.val : ℤ) at b
    exact ⟨by omega, Fin.ext (by omega)⟩
  · rintro ⟨a, rfl⟩ b
    match b with
    | ⟨0, _⟩ =>
      show scatter_S100x128_S500000x1_S500000x128_1_0_0_1.start (ix2 e k') idx 0 + (scatter_S100x128_S500000x1_S500000x128_1_0_0_1.window (ix2 e k') 0 : ℤ) = (t.val : ℤ)
      rw [h0, w0, a]; rfl
    | ⟨1, _⟩ =>
      show scatter_S100x128_S500000x1_S500000x128_1_0_0_1.start (ix2 e k') idx 1 + (scatter_S100x128_S500000x1_S500000x128_1_0_0_1.window (ix2 e k') 1 : ℤ) = (k'.val : ℤ)
      rw [h1, w1]; omega

/-- A row of the scatter of rows: the sum of the updates whose index is that row. -/
theorem rows_100 (idx : IVec S500000x1 32) (upd : FVec Ideal S500000x128 .f32) (c : Fin 500000 → ℕ) (U : Fin 500000 → Fin 128 → EReal)
    (hidx : ∀ e, (idx (ix2 e 0)).toInt = (c e : ℤ)) (hU : ∀ e k, (upd (ix2 e k) : EReal) = U e k) (t : Fin 100) (k : Fin 128) :
    (Host.scatterAdd scatter_S100x128_S500000x1_S500000x128_1_0_0_1 (broadcastInDim S100x128 ![] bcast_S_S100x128 (constant (F := Ideal) S_ .f32 0x00000000#32)) idx upd
        : FVec Ideal S100x128 .f32) (ix2 t k)
      = ∑ e ∈ Finset.univ.filter (fun e => c e = t.val), U e k := by
  show (Ideal.ofBits .f32 0x00000000#32 : EReal) + ∑ j ∈ Finset.univ.filter (fun j : S500000x128.Idx =>
      scatter_S100x128_S500000x1_S500000x128_1_0_0_1.resultIdx? j idx = some (ix2 t k)), (upd j : EReal) = _
  rw [Ideal.ofBits_zero_f32, zero_add, Finset.sum_filter, sum_idx2, Finset.sum_filter]
  refine Finset.sum_congr rfl fun e _ => ?_
  rw [Finset.sum_eq_single k]
  · refine (if_congr ((landsRow_100 idx e k t k).trans ?_) (hU e k) rfl)
    rw [hidx]
    exact ⟨fun h => by exact_mod_cast h.1, fun h => ⟨by exact_mod_cast h, rfl⟩⟩
  · intro k' _ hk
    exact if_neg fun h => hk ((landsRow_100 idx e k' t k).1 h).2
  · exact fun h => absurd (Finset.mem_univ k) h

/-- Update `e` of the scatter of numbers lands at `t` exactly when its index is `t`. -/
theorem landsOne_100 (idx : IVec S500000x1 32) (e : Fin 500000) (t : Fin 100) :
    scatter_S100_S500000x1_S500000_n_0_0_1.resultIdx? (ix1 e) idx = some (ix1 t) ↔ (idx (ix2 e 0)).toInt = (t.val : ℤ) := by
  have h0 : scatter_S100_S500000x1_S500000_n_0_0_1.start (ix1 e) idx 0 = (idx (ix2 e 0)).toInt := by
    unfold ScatterDims.start
    refine (dif_pos (by decide)).trans (congrArg (fun j => (idx j).toInt) (funext fun b => ?_))
    match b with
    | ⟨0, _⟩ => rfl
    | ⟨1, _⟩ => rfl
  have w0 : scatter_S100_S500000x1_S500000_n_0_0_1.window (ix1 e) 0 = 0 := by
    unfold ScatterDims.window
    exact dif_neg (by decide)
  rw [Routing.resultIdx?_eq_some]
  constructor
  · intro h
    have a := h 0
    rw [h0, w0] at a
    change _ = (t.val : ℤ) at a
    omega
  · intro a b
    match b with
    | ⟨0, _⟩ =>
      show scatter_S100_S500000x1_S500000_n_0_0_1.start (ix1 e) idx 0 + (scatter_S100_S500000x1_S500000_n_0_0_1.window (ix1 e) 0 : ℤ) = (t.val : ℤ)
      rw [h0, w0, a]; rfl

/-- The scatter of ones: the number of the updates whose index is `t`. -/
theorem ones_100 (idx : IVec S500000x1 32) (c : Fin 500000 → ℕ) (hidx : ∀ e, (idx (ix2 e 0)).toInt = (c e : ℤ)) (t : Fin 100) :
    (Host.scatterAdd scatter_S100_S500000x1_S500000_n_0_0_1 (broadcastInDim S100 ![] bcast_S_S100 (constant (F := Ideal) S_ .f32 0x00000000#32)) idx
        (broadcastInDim S500000 ![] bcast_S_S500000 (constant (F := Ideal) S_ .f32 0x3F800000#32)) : FVec Ideal S100 .f32) (ix1 t)
      = (((Finset.univ.filter (fun e => c e = t.val)).card : ℝ) : EReal) := by
  show (Ideal.ofBits .f32 0x00000000#32 : EReal) + ∑ j ∈ Finset.univ.filter (fun j : S500000.Idx =>
      scatter_S100_S500000x1_S500000_n_0_0_1.resultIdx? j idx = some (ix1 t)), (Ideal.ofBits .f32 0x3F800000#32 : EReal) = _
  rw [Ideal.ofBits_one_f32, Ideal.ofBits_zero_f32, zero_add, Finset.sum_filter, sum_idx1]
  rw [Finset.sum_congr rfl (g := fun e => if c e = t.val then (1 : EReal) else 0) fun e _ => if_congr (by
    rw [landsOne_100, hidx]; exact_mod_cast Iff.rfl) rfl rfl]
  rw [← Finset.sum_filter, Finset.sum_const, nsmul_one]
  rfl

/-- A row taken from a table of 100 rows: the row that the index names, when it names one. -/
theorem take_100 (h : FVec Ideal S100x128 .f32) (idx : IVec S500000x1 32) (c : Fin 500000 → ℕ) (hidx : ∀ e, (idx (ix2 e 0)).toNat = c e)
    (hc : ∀ e, c e < 100) (e : Fin 500000) (k : Fin 128) :
    select (broadcastInDim S500000x128 ![0] bcast_S500000_S500000x128_0 (Host.reduce IntOp.andi (andi (cmpi .sge idx (broadcastInDim S500000x1 ![] bcast_S_S500000x1 (constantI S_ 32 0#32))) (cmpi .sle idx (broadcastInDim S500000x1 ![0, 1] bcast_S1x1_S500000x1_0_1 (broadcastInDim S1x1 ![1] bcast_S1_S1x1_1 (constantI S1 32 99#32))))) (constantI S_ 1 1#1) reducesTo_S500000x1_S500000_d1 h_S_)) (Host.gather gather_S100x128_S500000x1_S500000x128_1_0_n_n_0_1_1128 h idx) (broadcastInDim S500000x128 ![] bcast_S_S500000x128 (constant (F := Ideal) S_ .f32 0x7FC00000#32)) (ix2 e k)
      = h (ix2 ⟨c e, hc e⟩ k) := by
  have hm : broadcastInDim S500000x128 ![0] bcast_S500000_S500000x128_0 (Host.reduce IntOp.andi (andi (cmpi .sge idx (broadcastInDim S500000x1 ![] bcast_S_S500000x1 (constantI S_ 32 0#32))) (cmpi .sle idx (broadcastInDim S500000x1 ![0, 1] bcast_S1x1_S500000x1_0_1 (broadcastInDim S1x1 ![1] bcast_S1_S1x1_1 (constantI S1 32 99#32))))) (constantI S_ 1 1#1) reducesTo_S500000x1_S500000_d1 h_S_) (ix2 e k) = 1#1 := by
    refine Host.reduce_andi_one _ _ _ _ _ rfl fun i => ?_
    obtain ⟨f, z, rfl⟩ : ∃ (f : Fin 500000) (z : Fin 1), i = ix2 f z := ⟨i 0, i 1, eq_ix2 i⟩
    obtain rfl : z = 0 := Subsingleton.elim _ _
    show IntOp.andi (IntOp.cmpi .sge (idx (ix2 f 0)) 0#32) (IntOp.cmpi .sle (idx (ix2 f 0)) 99#32) = 1#1
    exact in_bounds _ _ (by decide) (by have := hc f; rw [hidx]; omega)
  refine (select_one _ _ _ _ hm).trans ?_
  have hg := Routing.gather_row gather_S100x128_S500000x1_S500000x128_1_0_n_n_0_1_1128 rfl rfl rfl rfl rfl h idx e k ⟨c e, hc e⟩
    (by rw [vix2]; exact BitVec.eq_of_toNat_eq (by rw [hidx, BitVec.toNat_ofNat]; have := hc e; show c e = c e % _; omega)) (by decide)
  rw [vix2, vix2] at hg
  exact hg

/-- Update `(e, k')` of the scatter of rows lands at row `t` and column `k` exactly when its index is `t` and its column is `k`. -/
theorem landsRow_50000 (idx : IVec S500000x1 32) (e : Fin 500000) (k' : Fin 128) (t : Fin 50000) (k : Fin 128) :
    scatter_S50000x128_S500000x1_S500000x128_1_0_0_1.resultIdx? (ix2 e k') idx = some (ix2 t k)
      ↔ (idx (ix2 e 0)).toInt = (t.val : ℤ) ∧ k' = k := by
  have h0 : scatter_S50000x128_S500000x1_S500000x128_1_0_0_1.start (ix2 e k') idx 0 = (idx (ix2 e 0)).toInt := by
    unfold ScatterDims.start
    refine (dif_pos (by decide)).trans (congrArg (fun j => (idx j).toInt) (funext fun b => ?_))
    match b with
    | ⟨0, _⟩ => rfl
    | ⟨1, _⟩ => rfl
  have h1 : scatter_S50000x128_S500000x1_S500000x128_1_0_0_1.start (ix2 e k') idx 1 = 0 := by
    unfold ScatterDims.start
    exact dif_neg (by decide)
  have w0 : scatter_S50000x128_S500000x1_S500000x128_1_0_0_1.window (ix2 e k') 0 = 0 := by
    unfold ScatterDims.window
    exact dif_neg (by decide)
  have w1 : scatter_S50000x128_S500000x1_S500000x128_1_0_0_1.window (ix2 e k') 1 = k'.val := by
    unfold ScatterDims.window
    exact (dif_pos (by decide)).trans rfl
  rw [Routing.resultIdx?_eq_some]
  constructor
  · intro h
    have a := h 0
    have b := h 1
    rw [h0, w0] at a
    rw [h1, w1] at b
    change _ = (t.val : ℤ) at a
    change _ = (k.val : ℤ) at b
    exact ⟨by omega, Fin.ext (by omega)⟩
  · rintro ⟨a, rfl⟩ b
    match b with
    | ⟨0, _⟩ =>
      show scatter_S50000x128_S500000x1_S500000x128_1_0_0_1.start (ix2 e k') idx 0 + (scatter_S50000x128_S500000x1_S500000x128_1_0_0_1.window (ix2 e k') 0 : ℤ) = (t.val : ℤ)
      rw [h0, w0, a]; rfl
    | ⟨1, _⟩ =>
      show scatter_S50000x128_S500000x1_S500000x128_1_0_0_1.start (ix2 e k') idx 1 + (scatter_S50000x128_S500000x1_S500000x128_1_0_0_1.window (ix2 e k') 1 : ℤ) = (k'.val : ℤ)
      rw [h1, w1]; omega

/-- A row of the scatter of rows: the sum of the updates whose index is that row. -/
theorem rows_50000 (idx : IVec S500000x1 32) (upd : FVec Ideal S500000x128 .f32) (c : Fin 500000 → ℕ) (U : Fin 500000 → Fin 128 → EReal)
    (hidx : ∀ e, (idx (ix2 e 0)).toInt = (c e : ℤ)) (hU : ∀ e k, (upd (ix2 e k) : EReal) = U e k) (t : Fin 50000) (k : Fin 128) :
    (Host.scatterAdd scatter_S50000x128_S500000x1_S500000x128_1_0_0_1 (broadcastInDim S50000x128 ![] bcast_S_S50000x128 (constant (F := Ideal) S_ .f32 0x00000000#32)) idx upd
        : FVec Ideal S50000x128 .f32) (ix2 t k)
      = ∑ e ∈ Finset.univ.filter (fun e => c e = t.val), U e k := by
  show (Ideal.ofBits .f32 0x00000000#32 : EReal) + ∑ j ∈ Finset.univ.filter (fun j : S500000x128.Idx =>
      scatter_S50000x128_S500000x1_S500000x128_1_0_0_1.resultIdx? j idx = some (ix2 t k)), (upd j : EReal) = _
  rw [Ideal.ofBits_zero_f32, zero_add, Finset.sum_filter, sum_idx2, Finset.sum_filter]
  refine Finset.sum_congr rfl fun e _ => ?_
  rw [Finset.sum_eq_single k]
  · refine (if_congr ((landsRow_50000 idx e k t k).trans ?_) (hU e k) rfl)
    rw [hidx]
    exact ⟨fun h => by exact_mod_cast h.1, fun h => ⟨by exact_mod_cast h, rfl⟩⟩
  · intro k' _ hk
    exact if_neg fun h => hk ((landsRow_50000 idx e k' t k).1 h).2
  · exact fun h => absurd (Finset.mem_univ k) h

/-- Update `e` of the scatter of numbers lands at `t` exactly when its index is `t`. -/
theorem landsOne_50000 (idx : IVec S500000x1 32) (e : Fin 500000) (t : Fin 50000) :
    scatter_S50000_S500000x1_S500000_n_0_0_1.resultIdx? (ix1 e) idx = some (ix1 t) ↔ (idx (ix2 e 0)).toInt = (t.val : ℤ) := by
  have h0 : scatter_S50000_S500000x1_S500000_n_0_0_1.start (ix1 e) idx 0 = (idx (ix2 e 0)).toInt := by
    unfold ScatterDims.start
    refine (dif_pos (by decide)).trans (congrArg (fun j => (idx j).toInt) (funext fun b => ?_))
    match b with
    | ⟨0, _⟩ => rfl
    | ⟨1, _⟩ => rfl
  have w0 : scatter_S50000_S500000x1_S500000_n_0_0_1.window (ix1 e) 0 = 0 := by
    unfold ScatterDims.window
    exact dif_neg (by decide)
  rw [Routing.resultIdx?_eq_some]
  constructor
  · intro h
    have a := h 0
    rw [h0, w0] at a
    change _ = (t.val : ℤ) at a
    omega
  · intro a b
    match b with
    | ⟨0, _⟩ =>
      show scatter_S50000_S500000x1_S500000_n_0_0_1.start (ix1 e) idx 0 + (scatter_S50000_S500000x1_S500000_n_0_0_1.window (ix1 e) 0 : ℤ) = (t.val : ℤ)
      rw [h0, w0, a]; rfl

/-- The scatter of ones: the number of the updates whose index is `t`. -/
theorem ones_50000 (idx : IVec S500000x1 32) (c : Fin 500000 → ℕ) (hidx : ∀ e, (idx (ix2 e 0)).toInt = (c e : ℤ)) (t : Fin 50000) :
    (Host.scatterAdd scatter_S50000_S500000x1_S500000_n_0_0_1 (broadcastInDim S50000 ![] bcast_S_S50000 (constant (F := Ideal) S_ .f32 0x00000000#32)) idx
        (broadcastInDim S500000 ![] bcast_S_S500000 (constant (F := Ideal) S_ .f32 0x3F800000#32)) : FVec Ideal S50000 .f32) (ix1 t)
      = (((Finset.univ.filter (fun e => c e = t.val)).card : ℝ) : EReal) := by
  show (Ideal.ofBits .f32 0x00000000#32 : EReal) + ∑ j ∈ Finset.univ.filter (fun j : S500000.Idx =>
      scatter_S50000_S500000x1_S500000_n_0_0_1.resultIdx? j idx = some (ix1 t)), (Ideal.ofBits .f32 0x3F800000#32 : EReal) = _
  rw [Ideal.ofBits_one_f32, Ideal.ofBits_zero_f32, zero_add, Finset.sum_filter, sum_idx1]
  rw [Finset.sum_congr rfl (g := fun e => if c e = t.val then (1 : EReal) else 0) fun e _ => if_congr (by
    rw [landsOne_50000, hidx]; exact_mod_cast Iff.rfl) rfl rfl]
  rw [← Finset.sum_filter, Finset.sum_const, nsmul_one]
  rfl

/-- A row taken from a table of 50000 rows: the row that the index names, when it names one. -/
theorem take_50000 (h : FVec Ideal S50000x128 .f32) (idx : IVec S500000x1 32) (c : Fin 500000 → ℕ) (hidx : ∀ e, (idx (ix2 e 0)).toNat = c e)
    (hc : ∀ e, c e < 50000) (e : Fin 500000) (k : Fin 128) :
    select (broadcastInDim S500000x128 ![0] bcast_S500000_S500000x128_0 (Host.reduce IntOp.andi (andi (cmpi .sge idx (broadcastInDim S500000x1 ![] bcast_S_S500000x1 (constantI S_ 32 0#32))) (cmpi .sle idx (broadcastInDim S500000x1 ![0, 1] bcast_S1x1_S500000x1_0_1 (broadcastInDim S1x1 ![1] bcast_S1_S1x1_1 (constantI S1 32 49999#32))))) (constantI S_ 1 1#1) reducesTo_S500000x1_S500000_d1 h_S_)) (Host.gather gather_S50000x128_S500000x1_S500000x128_1_0_n_n_0_1_1128 h idx) (broadcastInDim S500000x128 ![] bcast_S_S500000x128 (constant (F := Ideal) S_ .f32 0x7FC00000#32)) (ix2 e k)
      = h (ix2 ⟨c e, hc e⟩ k) := by
  have hm : broadcastInDim S500000x128 ![0] bcast_S500000_S500000x128_0 (Host.reduce IntOp.andi (andi (cmpi .sge idx (broadcastInDim S500000x1 ![] bcast_S_S500000x1 (constantI S_ 32 0#32))) (cmpi .sle idx (broadcastInDim S500000x1 ![0, 1] bcast_S1x1_S500000x1_0_1 (broadcastInDim S1x1 ![1] bcast_S1_S1x1_1 (constantI S1 32 49999#32))))) (constantI S_ 1 1#1) reducesTo_S500000x1_S500000_d1 h_S_) (ix2 e k) = 1#1 := by
    refine Host.reduce_andi_one _ _ _ _ _ rfl fun i => ?_
    obtain ⟨f, z, rfl⟩ : ∃ (f : Fin 500000) (z : Fin 1), i = ix2 f z := ⟨i 0, i 1, eq_ix2 i⟩
    obtain rfl : z = 0 := Subsingleton.elim _ _
    show IntOp.andi (IntOp.cmpi .sge (idx (ix2 f 0)) 0#32) (IntOp.cmpi .sle (idx (ix2 f 0)) 49999#32) = 1#1
    exact in_bounds _ _ (by decide) (by have := hc f; rw [hidx]; omega)
  refine (select_one _ _ _ _ hm).trans ?_
  have hg := Routing.gather_row gather_S50000x128_S500000x1_S500000x128_1_0_n_n_0_1_1128 rfl rfl rfl rfl rfl h idx e k ⟨c e, hc e⟩
    (by rw [vix2]; exact BitVec.eq_of_toNat_eq (by rw [hidx, BitVec.toNat_ofNat]; have := hc e; show c e = c e % _; omega)) (by decide)
  rw [vix2, vix2] at hg
  exact hg

end Cert.Proof

end
-- ==== Proof.Terms.lean ====
/-
  The reference's operations of one layer, as functions of what the layer takes, and what they are at the network's arguments.
-/
module

public import proofs.«01_k».proof.Proof.Scat

@[expose] public section

noncomputable section

namespace Cert.Proof

open Cert.ReferenceIdeal Cert.ReferenceIdeal.Gen
open Idealize.ShloMosaic

/-- The index column of a scatter. -/
def col (g : IVec S500000 32) : IVec S500000x1 32 := broadcastInDim S500000x1 ![0] bcast_S500000_S500000x1_0 g

/-- The index column of a look-up in a table of 50000 rows. -/
def colI (g : IVec S500000 32) : IVec S500000x1 32 :=
  broadcastInDim S500000x1 ![0] bcast_S500000_S500000x1_0 (select (cmpi .slt g (broadcastInDim S500000 ![] bcast_S_S500000 (constantI S_ 32 0#32))) (addi g (broadcastInDim S500000 ![] bcast_S_S500000 (constantI S_ 32 50000#32))) g)

/-- The index column of a look-up in a table of 100 rows. -/
def colT (g : IVec S500000 32) : IVec S500000x1 32 :=
  broadcastInDim S500000x1 ![0] bcast_S500000_S500000x1_0 (select (cmpi .slt g (broadcastInDim S500000 ![] bcast_S_S500000 (constantI S_ 32 0#32))) (addi g (broadcastInDim S500000 ![] bcast_S_S500000 (constantI S_ 32 100#32))) g)

theorem col_apply (g : IVec S500000 32) (e : Fin 500000) : col g (ix2 e 0) = g (ix1 e) := by
  refine congrArg g (funext fun a => ?_)
  match a with
  | ⟨0, _⟩ => rfl

theorem colI_apply (g : IVec S500000 32) (hg : ∀ e, (g (ix1 e)).toNat < 50000) (e : Fin 500000) : colI g (ix2 e 0) = g (ix1 e) := by
  refine (col_apply _ e).trans ?_
  exact Routing.wrap_of_lt _ _ (by have := hg e; omega)

theorem colT_apply (g : IVec S500000 32) (hg : ∀ e, (g (ix1 e)).toNat < 100) (e : Fin 500000) : colT g (ix2 e 0) = g (ix1 e) := by
  refine (col_apply _ e).trans ?_
  exact Routing.wrap_of_lt _ _ (by have := hg e; omega)

theorem toInt_of (x : BitVec 32) (n : ℕ) (h : x.toNat = n) (hn : n < 2 ^ 31) : x.toInt = (n : ℤ) := by
  rw [BitVec.toInt_eq_toNat_of_lt (by omega), h]

/-- The tags' degrees, at least one. -/
def degTV (dst : IVec S500000 32) : FVec Ideal S100 .f32 :=
  maximumf (Host.scatterAdd scatter_S100_S500000x1_S500000_n_0_0_1 (broadcastInDim S100 ![] bcast_S_S100 (constant S_ .f32 0x00000000#32)) (col dst) (broadcastInDim S500000 ![] bcast_S_S500000 (constant S_ .f32 0x3F800000#32))) (broadcastInDim S100 ![] bcast_S_S100 (constant S_ .f32 0x3F800000#32))

/-- The items' degrees, at least one. -/
def degIV (src : IVec S500000 32) : FVec Ideal S50000 .f32 :=
  maximumf (Host.scatterAdd scatter_S50000_S500000x1_S500000_n_0_0_1 (broadcastInDim S50000 ![] bcast_S_S50000 (constant S_ .f32 0x00000000#32)) (col src) (broadcastInDim S500000 ![] bcast_S_S500000 (constant S_ .f32 0x3F800000#32))) (broadcastInDim S50000 ![] bcast_S_S50000 (constant S_ .f32 0x3F800000#32))

/-- Look-ups of rows. -/
def takeIV (h : FVec Ideal S50000x128 .f32) (idx : IVec S500000x1 32) : FVec Ideal S500000x128 .f32 :=
  select (broadcastInDim S500000x128 ![0] bcast_S500000_S500000x128_0 (Host.reduce IntOp.andi (andi (cmpi .sge idx (broadcastInDim S500000x1 ![] bcast_S_S500000x1 (constantI S_ 32 0#32))) (cmpi .sle idx (broadcastInDim S500000x1 ![0, 1] bcast_S1x1_S500000x1_0_1 (broadcastInDim S1x1 ![1] bcast_S1_S1x1_1 (constantI S1 32 49999#32))))) (constantI S_ 1 1#1) reducesTo_S500000x1_S500000_d1 h_S_)) (Host.gather gather_S50000x128_S500000x1_S500000x128_1_0_n_n_0_1_1128 h idx) (broadcastInDim S500000x128 ![] bcast_S_S500000x128 (constant S_ .f32 0x7FC00000#32))

def takeTV (h : FVec Ideal S100x128 .f32) (idx : IVec S500000x1 32) : FVec Ideal S500000x128 .f32 :=
  select (broadcastInDim S500000x128 ![0] bcast_S500000_S500000x128_0 (Host.reduce IntOp.andi (andi (cmpi .sge idx (broadcastInDim S500000x1 ![] bcast_S_S500000x1 (constantI S_ 32 0#32))) (cmpi .sle idx (broadcastInDim S500000x1 ![0, 1] bcast_S1x1_S500000x1_0_1 (broadcastInDim S1x1 ![1] bcast_S1_S1x1_1 (constantI S1 32 99#32))))) (constantI S_ 1 1#1) reducesTo_S500000x1_S500000_d1 h_S_)) (Host.gather gather_S100x128_S500000x1_S500000x128_1_0_n_n_0_1_1128 h idx) (broadcastInDim S500000x128 ![] bcast_S_S500000x128 (constant S_ .f32 0x7FC00000#32))

/-- The sums over a tag's edges, and over an item's. -/
def sumTV (dst : IVec S500000 32) (u : FVec Ideal S500000x128 .f32) : FVec Ideal S100x128 .f32 :=
  Host.scatterAdd scatter_S100x128_S500000x1_S500000x128_1_0_0_1 (broadcastInDim S100x128 ![] bcast_S_S100x128 (constant S_ .f32 0x00000000#32)) (col dst) u

def sumIV (src : IVec S500000 32) (u : FVec Ideal S500000x128 .f32) : FVec Ideal S50000x128 .f32 :=
  Host.scatterAdd scatter_S50000x128_S500000x1_S500000x128_1_0_0_1 (broadcastInDim S50000x128 ![] bcast_S_S50000x128 (constant S_ .f32 0x00000000#32)) (col src) u

/-- A layer's new tags, from the sums. -/
def linTV (ht s : FVec Ideal S100x128 .f32) (deg : FVec Ideal S100 .f32) (ws wn : FVec Ideal S128x128 .f32) (b : FVec Ideal S128 .f32) : FVec Ideal S100x128 .f32 :=
  addf (addf (Host.dotGeneral dot_S100x128_S128x128_S100x128_1_0_0_1_n_n none ht ws)
    (Host.dotGeneral dot_S100x128_S128x128_S100x128_1_0_0_1_n_n none (Host.divf s (broadcastInDim S100x128 ![0, 1] bcast_S100x1_S100x128_0_1 (broadcastInDim S100x1 ![0] bcast_S100_S100x1_0 deg))) wn))
    (broadcastInDim S100x128 ![0, 1] bcast_S1x128_S100x128_0_1 (broadcastInDim S1x128 ![1] bcast_S128_S1x128_1 b))

/-- A layer's new items before the layer norm, from the sums. -/
def linIV (h s : FVec Ideal S50000x128 .f32) (deg : FVec Ideal S50000 .f32) (ws wn : FVec Ideal S128x128 .f32) (b : FVec Ideal S128 .f32) : FVec Ideal S50000x128 .f32 :=
  addf (addf (Host.dotGeneral dot_S50000x128_S128x128_S50000x128_1_0_0_1_n_n none h ws)
    (Host.dotGeneral dot_S50000x128_S128x128_S50000x128_1_0_0_1_n_n none (Host.divf s (broadcastInDim S50000x128 ![0, 1] bcast_S50000x1_S50000x128_0_1 (broadcastInDim S50000x1 ![0] bcast_S50000_S50000x1_0 deg))) wn))
    (broadcastInDim S50000x128 ![0, 1] bcast_S1x128_S50000x128_0_1 (broadcastInDim S1x128 ![1] bcast_S128_S1x128_1 b))

/-- A row less its mean. -/
def centV (x : FVec Ideal S50000x128 .f32) : FVec Ideal S50000x128 .f32 :=
  subf x (broadcastInDim S50000x128 ![0, 1] bcast_S50000x1_S50000x128_0_1 (Host.divf (broadcastInDim S50000x1 ![0] bcast_S50000_S50000x1_0 (Host.reduceAdd x (constant S_ .f32 0x00000000#32) reducesTo_S50000x128_S50000_d1 h_S_)) (broadcastInDim S50000x1 ![] bcast_S_S50000x1 (constant S_ .f32 0x43000000#32))))

/-- The number of a row's entries. -/
def numV : FVec Ideal S_ .f32 := subf (constant S_ .f32 0x43000000#32) (sitofp .f32 (constantI S_ 32 0#32))

/-- The rows' variances. -/
def varV (c : FVec Ideal S50000x128 .f32) : FVec Ideal S50000x1 .f32 :=
  select (broadcastInDim S50000x1 ![] bcast_S_S50000x1 (cmpf .ogt numV (constant S_ .f32 0x00000000#32))) (Host.divf (broadcastInDim S50000x1 ![0] bcast_S50000_S50000x1_0 (Host.reduceAdd (mulf c c) (constant S_ .f32 0x00000000#32) reducesTo_S50000x128_S50000_d1 h_S_)) (broadcastInDim S50000x1 ![] bcast_S_S50000x1 numV)) (broadcastInDim S50000x1 ![] bcast_S_S50000x1 (id (constant S_ .f32 0x7FC00000#32)))

/-- The layer norm, from the centred rows and their variances. -/
def scaleV (c : FVec Ideal S50000x128 .f32) (v : FVec Ideal S50000x1 .f32) (g b : FVec Ideal S128 .f32) : FVec Ideal S50000x128 .f32 :=
  addf (mulf (Host.divf c (broadcastInDim S50000x128 ![0, 1] bcast_S50000x1_S50000x128_0_1 (Host.sqrt (addf v (broadcastInDim S50000x1 ![] bcast_S_S50000x1 (constant S_ .f32 0x3727C5AC#32)))))) (broadcastInDim S50000x128 ![0, 1] bcast_S1x128_S50000x128_0_1 (broadcastInDim S1x128 ![1] bcast_S128_S1x128_1 g))) (broadcastInDim S50000x128 ![0, 1] bcast_S1x128_S50000x128_0_1 (broadcastInDim S1x128 ![1] bcast_S128_S1x128_1 b))

/-- The product with the last weights. -/
def lastV (h : FVec Ideal S50000x128 .f32) (w : FVec Ideal S128x128 .f32) : FVec Ideal S50000x128 .f32 :=
  Host.dotGeneral dot_S50000x128_S128x128_S50000x128_1_0_0_1_n_n none h w

/-- The leaky rectifier. -/
def leakV (o : FVec Ideal S50000x128 .f32) : FVec Ideal S50000x128 .f32 :=
  select (cmpf .oge o (broadcastInDim S50000x128 ![] bcast_S_S50000x128 (constant S_ .f32 0x00000000#32))) o (mulf (broadcastInDim S50000x128 ![] bcast_S_S50000x128 (constant S_ .f32 0x3C23D70A#32)) o)

/-! ## Read at an index -/

theorem linTV_apply (ht s : FVec Ideal S100x128 .f32) (deg : FVec Ideal S100 .f32) (ws wn : FVec Ideal S128x128 .f32) (b : FVec Ideal S128 .f32) (t : Fin 100) (k : Fin 128) :
    linTV ht s deg ws wn b (ix2 t k)
      = (∑ j : Fin 128, ht (ix2 t j) * ws (ix2 j k)) + (∑ j : Fin 128, Ideal.div (s (ix2 t j)) (deg (ix1 t)) * wn (ix2 j k)) + b (ix1 k) := by
  pointwise [linTV]

theorem linIV_apply (h s : FVec Ideal S50000x128 .f32) (deg : FVec Ideal S50000 .f32) (ws wn : FVec Ideal S128x128 .f32) (b : FVec Ideal S128 .f32) (r : Fin 50000) (k : Fin 128) :
    linIV h s deg ws wn b (ix2 r k)
      = (∑ j : Fin 128, h (ix2 r j) * ws (ix2 j k)) + (∑ j : Fin 128, Ideal.div (s (ix2 r j)) (deg (ix1 r)) * wn (ix2 j k)) + b (ix1 k) := by
  pointwise [linIV]

theorem centV_apply (x : FVec Ideal S50000x128 .f32) (r : Fin 50000) (k : Fin 128) :
    centV x (ix2 r k) = x (ix2 r k) - Ideal.div (∑ j : Fin 128, x (ix2 r j)) (Ideal.ofBits .f32 0x43000000#32) := by
  pointwise [centV]

theorem scaleV_apply (c : FVec Ideal S50000x128 .f32) (v : FVec Ideal S50000x1 .f32) (g b : FVec Ideal S128 .f32) (r : Fin 50000) (k : Fin 128) :
    scaleV c v g b (ix2 r k) = Ideal.div (c (ix2 r k)) (Ideal.sqrt (v (ix2 r 0) + Ideal.ofBits .f32 0x3727C5AC#32)) * g (ix1 k) + b (ix1 k) := by
  pointwise [scaleV]

theorem lastV_apply (h : FVec Ideal S50000x128 .f32) (w : FVec Ideal S128x128 .f32) (r : Fin 50000) (k : Fin 128) :
    lastV h w (ix2 r k) = ∑ j : Fin 128, h (ix2 r j) * w (ix2 j k) := by
  pointwise [lastV]

theorem numV_apply (i : S_.Idx) : numV i = ((128 : ℝ) : EReal) := by
  show Ideal.ofBits .f32 0x43000000#32 - (((0#32 : BitVec 32).toInt : ℝ) : EReal) = _
  rw [ofBits_128]
  norm_num

theorem varV_apply (c : FVec Ideal S50000x128 .f32) (r : Fin 50000) :
    varV c (ix2 r 0) = Ideal.div (∑ j : Fin 128, c (ix2 r j) * c (ix2 r j)) ((128 : ℝ) : EReal) := by
  have h : broadcastInDim S50000x1 ![] bcast_S_S50000x1 (cmpf .ogt numV (constant S_ .f32 0x00000000#32)) (ix2 r 0) = 1#1 := by
    show Ideal.cmp .ogt (numV _) (Ideal.ofBits .f32 0x00000000#32) = 1#1
    rw [numV_apply, Ideal.ofBits_zero_f32]
    unfold Ideal.cmp
    simp
  refine (select_one _ _ _ _ h).trans ?_
  have h2 : broadcastInDim S50000x1 ![] bcast_S_S50000x1 numV (ix2 r 0) = ((128 : ℝ) : EReal) := numV_apply _
  generalize broadcastInDim S50000x1 ![] bcast_S_S50000x1 numV = n at h2 ⊢
  have : Host.divf (broadcastInDim S50000x1 ![0] bcast_S50000_S50000x1_0 (Host.reduceAdd (mulf c c) (constant S_ .f32 0x00000000#32) reducesTo_S50000x128_S50000_d1 h_S_)) n (ix2 r 0)
      = Ideal.div (∑ j : Fin 128, c (ix2 r j) * c (ix2 r j)) (n (ix2 r 0)) := by
    pointwise
  rw [this, h2]

end Cert.Proof

end
-- ==== Proof.Unique.lean ====
/-
  The look-ups by the unique items: where the items are 0, 1, 2, … in order, the unique items and their inverse are the same
  numbers, and the rows taken by them are the table's own.
-/
module

public import proofs.«01_k».proof.Proof.Terms
public import proofs.«01_k».proof.Proof.Gen.ReferenceIdeal.Run
public import Idealize.ShloMosaic.Lib.SortPrefix
public import Idealize.ShloMosaic.Lib.Routing.OpsSet
public import Idealize.ShloMosaic.Lib.Routing.OpsOrder
public import Idealize.ShloMosaic.Lib.Routing.Words
public import Idealize.ShloMosaic.Lib.WordArith

@[expose] public section

noncomputable section

namespace Cert.Proof

open Cert.ReferenceIdeal Cert.ReferenceIdeal.Gen Cert.ReferenceIdeal.Value
open Idealize.ShloMosaic Idealize.ShloMosaic.StableHlo

/-- The numbers 0, 1, 2, … in order. -/
def InOrder (x : IVec S50000 32) : Prop := ∀ i : Fin 50000, x (ix1 i) = BitVec.ofNat 32 i.val

theorem InOrder.toNat {x : IVec S50000 32} (h : InOrder x) (i : Fin 50000) : (x (ix1 i)).toNat = i.val := by
  rw [h i, BitVec.toNat_ofNat]
  have := i.isLt
  omega

/-- The index column of a look-up by items. -/
def colU (g : IVec S50000 32) : IVec S50000x1 32 :=
  broadcastInDim S50000x1 ![0] bcast_S50000_S50000x1_0 (select (cmpi .slt g (broadcastInDim S50000 ![] bcast_S_S50000 (constantI S_ 32 0#32))) (addi g (broadcastInDim S50000 ![] bcast_S_S50000 (constantI S_ 32 50000#32))) g)

theorem colU_apply (g : IVec S50000 32) (hg : ∀ i, (g (ix1 i)).toNat < 2 ^ 31) (i : Fin 50000) : colU g (ix2 i 0) = g (ix1 i) := by
  have hb : colU g (ix2 i 0) = select (cmpi .slt g (broadcastInDim S50000 ![] bcast_S_S50000 (constantI S_ 32 0#32))) (addi g (broadcastInDim S50000 ![] bcast_S_S50000 (constantI S_ 32 50000#32))) g (ix1 i) := by
    refine congrArg (select (cmpi .slt g (broadcastInDim S50000 ![] bcast_S_S50000 (constantI S_ 32 0#32))) (addi g (broadcastInDim S50000 ![] bcast_S_S50000 (constantI S_ 32 50000#32))) g) (funext fun a => ?_)
    match a with
    | ⟨0, _⟩ => rfl
  exact hb.trans (Routing.wrap_of_lt _ _ (hg i))

theorem InOrder.col {g : IVec S50000 32} (h : InOrder g) (i : Fin 50000) : colU g (ix2 i 0) = BitVec.ofNat 32 i.val :=
  (colU_apply g (fun k => by rw [h.toNat]; have := k.isLt; omega) i).trans (h i)

/-! ## The sort -/

theorem slt_of_lt (a b : ℕ) (ha : a < 50000) (hb : b < 50000) :
    (IntOp.cmpi .slt (BitVec.ofNat 32 a) (BitVec.ofNat 32 b) == 1#1) = decide (a < b) := by
  have h : IntOp.cmpi .slt (BitVec.ofNat 32 a) (BitVec.ofNat 32 b) = BitVec.ofBool (decide (a < b)) := by
    show BitVec.ofBool ((BitVec.ofNat 32 a).slt (BitVec.ofNat 32 b)) = _
    rw [BitVec.slt_eq_decide, StableHlo.Predicate.toInt_ofNat_small _ (by omega), StableHlo.Predicate.toInt_ofNat_small _ (by omega)]
    congr 1
    exact decide_eq_decide.2 (by omega)
  rw [h]
  cases decide (a < b) <;> rfl

theorem sortedFrom_lt {n : ℕ} (k : Fin n) : sortedFrom (fun a b : Fin n => decide (a.val < b.val)) k = k := by
  have hB : StrictTotalBefore (fun a b : Fin n => decide (a.val < b.val)) := ⟨fun a => by simp, fun a b c h1 h2 => by
    rw [decide_eq_true_iff] at *; omega, fun a b h => by
    have : a.val ≠ b.val := fun e => h (Fin.ext e)
    rw [decide_eq_true_iff, decide_eq_true_iff]; omega⟩
  exact hB.sortedFrom_eq_of_prefix (le_refl n) id (fun a b h => h) (fun i j h => decide_eq_false (by have : i.val < j.val := h; simp only [id]; omega))
    (fun i p h => absurd rfl (h p)) k

theorem order_of_sorted (x y : IVec S50000 32) (hx : InOrder x) : (Host.sort2 S50000 0 comparator_i32_i32_d0 x y).2 = y := by
  funext j
  obtain ⟨k, rfl⟩ : ∃ k : Fin 50000, j = ix1 k := ⟨j 0, eq_ix1 j⟩
  have ha : ∀ q : Fin 50000, (ix1 k : S50000.Idx).along 0 q = ix1 q := fun q => by
    funext a
    match a with
    | ⟨0, _⟩ => exact Function.update_self ..
  have hB : (fun a b : Fin 50000 => comparator_i32_i32_d0 (x ((ix1 k : S50000.Idx).along 0 a), y ((ix1 k : S50000.Idx).along 0 a)) (x ((ix1 k : S50000.Idx).along 0 b), y ((ix1 k : S50000.Idx).along 0 b)) == 1#1)
      = fun a b : Fin 50000 => decide (a.val < b.val) := by
    funext a b
    rw [ha, ha]
    show (IntOp.cmpi .slt (x (ix1 a)) (x (ix1 b)) == 1#1) = _
    rw [hx, hx]
    exact slt_of_lt _ _ a.isLt b.isLt
  refine (congrArg (fun B : Fin 50000 → Fin 50000 → Bool => y ((ix1 k : S50000.Idx).along 0 (sortedFrom B k : Fin 50000))) hB).trans ?_
  exact (congrArg (fun q : Fin 50000 => y ((ix1 k : S50000.Idx).along 0 q)) (sortedFrom_lt k)).trans (congrArg y (ha k))

/-! ## The mask of the first occurrences -/

theorem ori_fold {ι : Type} (f : ι → BitVec 1) (hf : ∀ n, f n = 1#1) (l : List ι) (r : BitVec 1) (h : r = 1#1 ∨ l ≠ []) :
    l.foldl (fun r n => IntOp.ori r (f n)) r = 1#1 := by
  have h1 : ∀ b : BitVec 1, IntOp.ori b 1#1 = 1#1 := by decide
  induction l generalizing r with
  | nil => exact h.resolve_right fun e => e rfl
  | cons n l ih => rw [List.foldl_cons]; exact ih _ (.inl (by rw [hf, h1]))

theorem drop_none (k : S49999.Idx) : reducesTo_S49999_S49999_d.drop k = k := by
  funext b
  match b with
  | ⟨0, _⟩ => rfl

/-- The disjunction over no axes of a mask of ones. -/
theorem ori_ones (x : IVec S49999 1) (hx : ∀ k, x k = 1#1) (k : S49999.Idx) :
    (Host.reduce IntOp.ori x (constantI S_ 1 0#1) reducesTo_S49999_S49999_d h_S_ : IVec S49999 1) k = 1#1 := by
  refine ori_fold (fun n => x (S49999.rowMajor.symm n)) (fun n => hx _) _ _ (.inr fun e => ?_)
  have hm : S49999.rowMajor k ∈ (List.finRange S49999.numel).filter (fun n => decide (reducesTo_S49999_S49999_d.drop (S49999.rowMajor.symm n) = k)) :=
    List.mem_filter.2 ⟨List.mem_finRange _, decide_eq_true (by rw [Equiv.symm_apply_apply, drop_none])⟩
  rw [e] at hm
  exact absurd hm (List.not_mem_nil)

/-! ## Look-ups by numbers in order -/

/-- A look-up of numbers in order by numbers in order. -/
theorem take_in_order {x g : IVec S50000 32} (hx : InOrder x) (hg : InOrder g) :
    InOrder (Host.gather gather_S50000_S50000x1_S50000_n_0_n_n_0_1_1 x (colU g)) := fun i => by
  have h := Routing.gather_take1 gather_S50000_S50000x1_S50000_n_0_n_n_0_1_1 rfl rfl rfl rfl x (colU g) i i (by rw [vix2]; exact hg.col i) (by decide)
  rw [vix1] at h
  exact h.trans (hx i)

/-- The rows taken from a table of 50000 rows, one for each item. -/
def rowsV (x : FVec Ideal S50000x128 .f32) (idx : IVec S50000x1 32) : FVec Ideal S50000x128 .f32 :=
  select (broadcastInDim S50000x128 ![0] bcast_S50000_S50000x128_0 (Host.reduce IntOp.andi (andi (cmpi .sge idx (broadcastInDim S50000x1 ![] bcast_S_S50000x1 (constantI S_ 32 0#32))) (cmpi .sle idx (broadcastInDim S50000x1 ![0, 1] bcast_S1x1_S50000x1_0_1 (broadcastInDim S1x1 ![1] bcast_S1_S1x1_1 (constantI S1 32 49999#32))))) (constantI S_ 1 1#1) reducesTo_S50000x1_S50000_d1 h_S_)) (Host.gather gather_S50000x128_S50000x1_S50000x128_1_0_n_n_0_1_1128 x idx) (broadcastInDim S50000x128 ![] bcast_S_S50000x128 (constant S_ .f32 0x7FC00000#32))

/-- Rows taken by numbers in order are the table's. -/
theorem take_rows (x : FVec Ideal S50000x128 .f32) {g : IVec S50000 32} (hg : InOrder g) :
    rowsV x (colU g)
      = x := by
  funext j
  obtain ⟨e, k, rfl⟩ : ∃ (e : Fin 50000) (k : Fin 128), j = ix2 e k := ⟨j 0, j 1, eq_ix2 j⟩
  have hm : broadcastInDim S50000x128 ![0] bcast_S50000_S50000x128_0 (Host.reduce IntOp.andi (andi (cmpi .sge (colU g) (broadcastInDim S50000x1 ![] bcast_S_S50000x1 (constantI S_ 32 0#32))) (cmpi .sle (colU g) (broadcastInDim S50000x1 ![0, 1] bcast_S1x1_S50000x1_0_1 (broadcastInDim S1x1 ![1] bcast_S1_S1x1_1 (constantI S1 32 49999#32))))) (constantI S_ 1 1#1) reducesTo_S50000x1_S50000_d1 h_S_) (ix2 e k) = 1#1 := by
    refine Host.reduce_andi_one _ _ _ _ _ rfl fun i => ?_
    obtain ⟨f, z, rfl⟩ : ∃ (f : Fin 50000) (z : Fin 1), i = ix2 f z := ⟨i 0, i 1, eq_ix2 i⟩
    obtain rfl : z = 0 := Subsingleton.elim _ _
    show IntOp.andi (IntOp.cmpi .sge (colU g (ix2 f 0)) 0#32) (IntOp.cmpi .sle (colU g (ix2 f 0)) 49999#32) = 1#1
    exact in_bounds _ _ (by decide) (by rw [hg.col, BitVec.toNat_ofNat]; have := f.isLt; omega)
  refine (select_one _ _ _ _ hm).trans ?_
  have h := Routing.gather_row gather_S50000x128_S50000x1_S50000x128_1_0_n_n_0_1_1128 rfl rfl rfl rfl rfl x (colU g) e k e
    (by rw [vix2]; exact hg.col e) (by decide)
  rw [vix2] at h
  exact h

theorem sum_tail (n : ℕ) : ((List.range (n + 1)).map fun k => if k = 0 then 0 else 1).sum = n := by
  induction n with
  | zero => rfl
  | succ n ih => rw [List.range_succ, List.map_append, List.sum_append, ih]; simp

theorem select_zero {s : Shape} {α : Type} (m : IVec s 1) (a b : s.Idx → α) (i : s.Idx) (h : m i = 0#1) : select m a b i = b i := by
  show Scalar.select (m i) (a i) (b i) = b i
  rw [h]
  rfl

/-! ## The unique items and their inverse -/

variable {V : Valuation τ sig (Elt Ideal)} (hV : InOrder (V (Proc.devRef .tc main_arg0)))
include hV

theorem flat_at (i : Fin 50000) : (res_main_call0_call0_v1 V : IVec S50000 32) (ix1 i) = (V (Proc.devRef .tc main_arg0) : IVec S50000 32) (ix1 i) := by
  pointwise [res_main_call0_call0_v1]
  exact congrArg (fun q : Fin 50000 => (V (Proc.devRef .tc main_arg0) : IVec S50000 32) (ix1 q)) (if_neg (by decide))

theorem order_in : InOrder (res_main_v35_2 V) := fun i => by
  have h : (res_main_v35_2 V : IVec S50000 32) = res_main_call0_call0_v2 V :=
    order_of_sorted _ _ fun k => (flat_at hV k).trans (hV k)
  rw [h]
  rfl

theorem sorted_in : InOrder (res_main_v35_0 V) := take_in_order hV (order_in hV)

theorem mask_one (j : S50000.Idx) : (res_main_v35_1 V : IVec S50000 1) j = 1#1 := by
  refine Routing.scatter_forall _ _ (fun b => b = 1#1) (fun _ _ _ h => h) _ _ _ (fun _ => rfl) (fun k => ori_ones _ (fun q => ?_) k) j
  obtain ⟨i, rfl⟩ : ∃ i : Fin 49999, q = ix1 i := ⟨q 0, eq_ix1 q⟩
  have hi := i.isLt
  have e1 : extractStridedSlice S49999 ![1] (res_main_v35_0 V : IVec S50000 32) slices_S50000_S49999_1 (ix1 i) = BitVec.ofNat 32 (i.val + 1) := by
    refine Eq.trans ?_ (sorted_in hV ⟨i.val + 1, by omega⟩)
    refine congrArg (res_main_v35_0 V : IVec S50000 32) (funext fun a => Fin.ext ?_)
    match a with
    | ⟨0, _⟩ => exact Nat.add_comm 1 i.val
  have e0 : extractStridedSlice S49999 ![0] (res_main_v35_0 V : IVec S50000 32) slices_S50000_S49999_0 (ix1 i) = BitVec.ofNat 32 i.val := by
    refine Eq.trans ?_ (sorted_in hV ⟨i.val, by omega⟩)
    refine congrArg (res_main_v35_0 V : IVec S50000 32) (funext fun a => Fin.ext ?_)
    match a with
    | ⟨0, _⟩ => exact Nat.zero_add i.val
  show IntOp.cmpi .ne (extractStridedSlice S49999 ![1] (res_main_v35_0 V : IVec S50000 32) slices_S50000_S49999_1 (ix1 i)) (extractStridedSlice S49999 ![0] (res_main_v35_0 V : IVec S50000 32) slices_S50000_S49999_0 (ix1 i)) = 1#1
  rw [e1, e0]
  show BitVec.ofBool (BitVec.ofNat 32 (i.val + 1) != BitVec.ofNat 32 i.val) = 1#1
  rw [show (BitVec.ofNat 32 (i.val + 1) != BitVec.ofNat 32 i.val) = true from bne_iff_ne.2 fun e => by
    have := congrArg BitVec.toNat e
    rw [BitVec.toNat_ofNat, BitVec.toNat_ofNat] at this
    omega]
  rfl

theorem cumsum_at (i : Fin 50000) : (res_main_v36 V : IVec S50000 32) (ix1 i) = BitVec.ofNat 32 (i.val + 1) := by
  have h := Routing.cumsum1 (N := 50000) (Nm1 := 49999) rfl (extui 32 (res_main_v35_1 V) natLt_1_32) (fun _ => 1) (fun k => by
      show ((res_main_v35_1 V : IVec S50000 1) _).setWidth 32 = _
      rw [mask_one hV]; rfl) (broadcastInDim S_ ![] bcast_S_S_ (constantI S_ 32 0#32)) rfl reduceWindows_S50000_S50000_w50000s1p49999_0 h_S_ i
  rw [vix1] at h
  refine h.trans ?_
  rw [List.map_const', List.sum_replicate, List.length_range, smul_eq_mul, mul_one]

theorem places_at (i : Fin 50000) : (res_main_v46 V : IVec S50000 32) (ix1 i) = BitVec.ofNat 32 i.val := by
  have hs : ∀ k : Fin 50000, (Host.scatter scatter_S50000_S50000x1_S50000_n_0_0_1 IntOp.addi (broadcastInDim S50000 ![] bcast_S_S50000 (constantI S_ 32 0#32)) (colU (res_main_v36 V)) (broadcastInDim S50000 ![] bcast_S_S50000 (constantI S_ 32 1#32)) : IVec S50000 32) (ValueIdx.ix1 k)
      = BitVec.ofNat 32 (if k.val = 0 then 0 else 1) := fun k => by
    refine (Routing.scatter_hist scatter_S50000_S50000x1_S50000_n_0_0_1 rfl rfl rfl _ (fun _ => rfl) (colU (res_main_v36 V)) _ (fun _ => rfl) (fun i => i + 1)
      (fun i => by
        rw [vix2]
        exact (colU_apply _ (fun q => by rw [cumsum_at hV, BitVec.toNat_ofNat]; have := q.isLt; omega) i).trans (cumsum_at hV i))
      (fun i => by have := i.isLt; omega) k).trans ?_
    refine congrArg (BitVec.ofNat 32) ?_
    have hk := k.isLt
    rw [← Routing.card_filter_fin]
    by_cases h0 : k.val = 0
    · rw [if_pos h0, Finset.card_eq_zero, Finset.filter_eq_empty_iff]
      intro i _
      omega
    · rw [if_neg h0, Finset.card_eq_one]
      refine ⟨⟨k.val - 1, by omega⟩, ?_⟩
      ext i
      simp only [Finset.mem_filter, Finset.mem_univ, true_and, Finset.mem_singleton, Fin.ext_iff]
      omega
  have h := Routing.cumsum1 (N := 50000) (Nm1 := 49999) rfl _ (fun k => if k = 0 then 0 else 1) hs (broadcastInDim S_ ![] bcast_S_S_ (constantI S_ 32 0#32)) rfl reduceWindows_S50000_S50000_w50000s1p49999_0 h_S_ i
  rw [vix1] at h
  refine h.trans ?_
  refine congrArg (BitVec.ofNat 32) ?_
  exact sum_tail i.val

theorem count_at (j : S_.Idx) : (Host.reduce IntOp.addi (extui 32 (res_main_v35_1 V) natLt_1_32) (constantI S_ 32 0#32) reducesTo_S50000_S_d0 h_S_ : IVec S_ 32) j = 50000#32 := by
  have h := Routing.reduce_sum (N := 50000) (extui 32 (res_main_v35_1 V) natLt_1_32) (fun _ => 1) (fun k => by
      show ((res_main_v35_1 V : IVec S50000 1) _).setWidth 32 = _
      rw [mask_one hV]; rfl) reducesTo_S50000_S_d0 h_S_
  rw [List.map_const', List.sum_replicate, List.length_range, smul_eq_mul, mul_one] at h
  have hj : j = ValueIdx.ix0 := funext fun a => a.elim0
  rw [hj]
  exact h

theorem quot_at (i : Fin 50000) : (res_main_call3_v2 V : IVec S50000 32) (ix1 i) = BitVec.ofNat 32 i.val := by
  show IntOp.divsi .host ((res_main_v46 V : IVec S50000 32) (ix1 i)) 1#32 = _
  rw [WordArith.divsi_one, places_at hV]

theorem rem_at (i : Fin 50000) : (res_main_call4_v4 V : IVec S50000 32) (ix1 i) = BitVec.ofNat 32 i.val := by
  have hi := i.isLt
  show IntOp.remsi .host (Scalar.select (IntOp.andi _ (IntOp.cmpi .ne (IntOp.remsi .host ((res_main_v46 V : IVec S50000 32) (ix1 i)) 1#32) 0#32)) _ ((res_main_call3_v2 V : IVec S50000 32) (ix1 i))) 50000#32 = _
  rw [WordArith.remsi_one, show IntOp.cmpi .ne (0#32) 0#32 = 0#1 from rfl]
  have h0 : ∀ b : BitVec 1, IntOp.andi b 0#1 = 0#1 := by decide
  rw [h0, quot_at hV]
  show IntOp.remsi .host (BitVec.ofNat 32 i.val) (BitVec.ofNat 32 50000) = _
  rw [Routing.remsi_word .host (by omega) (by decide) (by decide), Nat.mod_eq_of_lt hi]

theorem pick_in : InOrder (res_main_v55 V) := fun i => by
  have hi := i.isLt
  have h1 : IntOp.cmpi .sge (BitVec.ofNat 32 i.val) 50000#32 = 0#1 := by
    show BitVec.ofBool ((50000#32).sle (BitVec.ofNat 32 i.val)) = _
    rw [BitVec.sle_eq_decide, StableHlo.Predicate.toInt_ofNat_small i.val (by omega), StableHlo.Predicate.toInt_ofNat_small 50000 (by decide)]
    rw [decide_eq_false (by omega)]
    rfl
  have h2 : IntOp.cmpi .slt (BitVec.ofNat 32 i.val) 0#32 = 0#1 := by
    show BitVec.ofBool ((BitVec.ofNat 32 i.val).slt 0#32) = _
    rw [BitVec.slt_eq_decide, StableHlo.Predicate.toInt_ofNat_small _ (by omega), show (0#32).toInt = 0 from by decide]
    rw [decide_eq_false (by omega)]
    rfl
  have h0 : ∀ b : BitVec 1, IntOp.andi 0#1 b = 0#1 := by decide
  unfold res_main_v55
  refine (select_zero _ _ _ _ ?_).trans ((select_zero _ _ _ _ ?_).trans (rem_at hV i))
  · have hc : (Host.reduce IntOp.addi (extui 32 (res_main_v35_1 V) natLt_1_32) (constantI S_ 32 0#32) reducesTo_S50000_S_d0 h_S_ : IVec S_ 32) = fun _ => 50000#32 := funext (count_at hV)
    rw [hc]
    exact h1
  · refine Eq.trans (congrArg (fun b => IntOp.andi b _) ?_) (h0 _)
    show IntOp.cmpi .ne (IntOp.cmpi .slt ((res_main_call4_v4 V : IVec S50000 32) (ix1 i)) 0#32) 0#1 = 0#1
    rw [rem_at hV, h2]
    rfl

theorem unique_in : InOrder (res_main_v62 V) := take_in_order (sorted_in hV) (pick_in hV)

theorem inverse_in : InOrder (res_main_v73 V) := fun i => by
  have h := (Routing.scatter_set scatter_S50000_S50000x1_S50000_n_0_0_1 rfl rfl rfl (broadcastInDim S50000 ![] bcast_S_S50000 (constantI S_ 32 0#32)) (colU (res_main_v35_2 V))
    (subi (res_main_v36 V) (broadcastInDim S50000 ![] bcast_S_S50000 (constantI S_ 32 1#32))) id (fun k => by rw [vix2]; exact (order_in hV).col k)
    (fun k => by have := k.isLt; simp only [id]; omega) i (BitVec.ofNat 32 i.val) (fun k hk => by
      rw [vix1]
      show IntOp.subi ((res_main_v36 V : IVec S50000 32) (ix1 k)) 1#32 = _
      rw [cumsum_at hV, show k = i from Fin.ext hk]
      apply BitVec.eq_of_toNat_eq
      have := i.isLt
      show (BitVec.ofNat 32 (i.val + 1) - 1#32).toNat = _
      rw [BitVec.toNat_sub, BitVec.toNat_ofNat, BitVec.toNat_ofNat, BitVec.toNat_ofNat]
      omega)).1 ⟨i, rfl⟩
  rw [vix1] at h
  exact h

/-- The rows taken by the unique items are the table's. -/
theorem table_rows : (res_main_v74 V : FVec Ideal S50000x128 .f32) = V (Proc.devRef .tc main_arg3) := take_rows _ (unique_in hV)

end Cert.Proof

end
-- ==== Proof.RefVal.lean ====
/-
  The reference's result: at every item and feature, the network's.
-/
module

public import proofs.«01_k».proof.Proof.Unique
public import proofs.«01_k».proof.Proof.Gen.ReferenceIdeal.Run

@[expose] public section

noncomputable section

namespace Cert.Proof

open Cert.ReferenceIdeal Cert.ReferenceIdeal.Gen Cert.ReferenceIdeal.Value
open Idealize.ShloMosaic

/-- The edge lists are the network's. -/
structure Edges (p : Net) (src dst : IVec S500000 32) : Prop where
  src : ∀ e : Fin 500000, (src (ix1 e)).toNat = p.src e
  src_lt : ∀ e, p.src e < 50000
  dst : ∀ e : Fin 500000, (dst (ix1 e)).toNat = (p.dst e).val

section
variable {p : Net} {src dst : IVec S500000 32} (h : Edges p src dst)
include h

theorem col_src (e : Fin 500000) : (col src (ix2 e 0)).toInt = (p.src e : ℤ) := by
  rw [col_apply]; exact toInt_of _ _ (h.src e) (by have := h.src_lt e; omega)

theorem col_dst (e : Fin 500000) : (col dst (ix2 e 0)).toInt = ((p.dst e).val : ℤ) := by
  rw [col_apply]; exact toInt_of _ _ (h.dst e) (by have := (p.dst e).isLt; omega)

theorem filter_dst (t : Fin 100) : (Finset.univ.filter fun e => (p.dst e).val = t.val) = Finset.univ.filter fun e => p.dst e = t :=
  Finset.filter_congr fun _ _ => Fin.ext_iff.symm

theorem degTV_at (t : Fin 100) : degTV dst (ix1 t) = ((p.degT t : ℝ) : EReal) := by
  have e1 := ones_100 (col dst) (fun e => (p.dst e).val) (col_dst h) t
  show max _ (Ideal.ofBits .f32 0x3F800000#32) = _
  rw [e1, filter_dst h, p.card_tag h.src_lt, Ideal.ofBits_one_f32]
  exact coe_max' _ 1

theorem degIV_at (r : Fin 50000) : degIV src (ix1 r) = ((p.degI r.val : ℝ) : EReal) := by
  have e1 := ones_50000 (col src) p.src (col_src h) r
  show max _ (Ideal.ofBits .f32 0x3F800000#32) = _
  rw [e1, p.card_item, Ideal.ofBits_one_f32]
  exact coe_max' _ 1

theorem takeIV_at (x : FVec Ideal S50000x128 .f32) (X : ℕ → Fin 128 → EReal) (hx : ∀ r k, (x (ix2 r k) : EReal) = X r.val k) (e : Fin 500000) (k : Fin 128) :
    (takeIV x (colI src) (ix2 e k) : EReal) = X (p.src e) k := by
  have hlt : ∀ e, (src (ix1 e)).toNat < 50000 := fun e => by rw [h.src]; exact h.src_lt e
  exact (take_50000 x (colI src) p.src (fun e => by rw [colI_apply src hlt]; exact h.src e) h.src_lt e k).trans (hx _ k)

theorem takeTV_at (x : FVec Ideal S100x128 .f32) (X : Fin 100 → Fin 128 → EReal) (hx : ∀ t k, (x (ix2 t k) : EReal) = X t k) (e : Fin 500000) (k : Fin 128) :
    (takeTV x (colT dst) (ix2 e k) : EReal) = X (p.dst e) k := by
  have hlt : ∀ e, (dst (ix1 e)).toNat < 100 := fun e => by rw [h.dst]; exact (p.dst e).isLt
  exact (take_100 x (colT dst) (fun e => (p.dst e).val) (fun e => by rw [colT_apply dst hlt]; exact h.dst e) (fun e => (p.dst e).isLt) e k).trans (hx _ k)

theorem sumTV_at (x : FVec Ideal S50000x128 .f32) (X : ℕ → Fin 128 → EReal) (hx : ∀ r k, (x (ix2 r k) : EReal) = X r.val k) (t : Fin 100) (k : Fin 128) :
    (sumTV dst (takeIV x (colI src)) (ix2 t k) : EReal) = p.aggT X t k := by
  refine (rows_100 (col dst) _ (fun e => (p.dst e).val) (fun e k => X (p.src e) k) (col_dst h) (takeIV_at h x X hx) t k).trans ?_
  rw [filter_dst h, p.sum_tag h.src_lt (fun r => X r k)]
  rfl

theorem sumIV_at (x : FVec Ideal S100x128 .f32) (X : Fin 100 → Fin 128 → EReal) (hx : ∀ t k, (x (ix2 t k) : EReal) = X t k) (r : Fin 50000) (k : Fin 128) :
    (sumIV src (takeTV x (colT dst)) (ix2 r k) : EReal) = ∑ t, (p.cnt r.val t : EReal) * X t k := by
  refine (rows_50000 (col src) _ p.src (fun e k => X (p.dst e) k) (col_src h) (takeTV_at h x X hx) r k).trans ?_
  rw [p.sum_item (fun t => X t k)]

/-- A layer's new tags. -/
theorem newT_at (l : Fin 4) (x : FVec Ideal S50000x128 .f32) (X : ℕ → Fin 128 → EReal) (hx : ∀ r k, (x (ix2 r k) : EReal) = X r.val k)
    (y : FVec Ideal S100x128 .f32) (Y : Fin 100 → Fin 128 → EReal) (hy : ∀ t k, (y (ix2 t k) : EReal) = Y t k)
    (ws wn : FVec Ideal S128x128 .f32) (b : FVec Ideal S128 .f32) (hws : ∀ j k, (ws (ix2 j k) : EReal) = p.wsa l j k)
    (hwn : ∀ j k, (wn (ix2 j k) : EReal) = p.wna l j k) (hb : ∀ k, (b (ix1 k) : EReal) = p.ba l k) (t : Fin 100) (k : Fin 128) :
    (linTV y (sumTV dst (takeIV x (colI src))) (degTV dst) ws wn b (ix2 t k) : EReal) = p.newT l X Y t k := by
  rw [linTV_apply, degTV_at h, hb]
  simp only [sumTV_at h x X hx, hy, hws, hwn]
  rfl

/-- A layer's new items before the layer norm. -/
theorem lin_at (l : Fin 4) (x : FVec Ideal S50000x128 .f32) (X : ℕ → Fin 128 → EReal) (hx : ∀ r k, (x (ix2 r k) : EReal) = X r.val k)
    (y : FVec Ideal S100x128 .f32) (Y : Fin 100 → Fin 128 → EReal) (hy : ∀ t k, (y (ix2 t k) : EReal) = Y t k)
    (ws wn : FVec Ideal S128x128 .f32) (b : FVec Ideal S128 .f32) (hws : ∀ j k, (ws (ix2 j k) : EReal) = p.wsr l j k)
    (hwn : ∀ j k, (wn (ix2 j k) : EReal) = ((p.wnr l j k : ℝ) : EReal)) (hb : ∀ k, (b (ix1 k) : EReal) = p.br l k) (r : Fin 50000) (k : Fin 128) :
    (linIV x (sumIV src (takeTV y (colT dst))) (degIV src) ws wn b (ix2 r k) : EReal) = p.linE l X Y r.val k := by
  rw [linIV_apply, degIV_at h, hb]
  simp only [sumIV_at h y Y hy, hx, hws, hwn]
  rfl

end

/-- The layer norm. -/
theorem norm_at (p : Net) (l : Fin 4) (x : FVec Ideal S50000x128 .f32) (X : ℕ → Fin 128 → EReal) (hx : ∀ r k, (x (ix2 r k) : EReal) = X r.val k)
    (g b : FVec Ideal S128 .f32) (hg : ∀ k, (g (ix1 k) : EReal) = p.g l k) (hb : ∀ k, (b (ix1 k) : EReal) = p.be l k) (r : Fin 50000) (k : Fin 128) :
    (scaleV (centV x) (varV (centV x)) g b (ix2 r k) : EReal) = p.norm l (X r.val) k := by
  have hc : ∀ k, (centV x (ix2 r k) : EReal) = X r.val k - Net.mean (X r.val) := fun k => by
    rw [centV_apply, ofBits_128]
    simp only [hx]
    rfl
  have hv : (varV (centV x) (ix2 r 0) : EReal) = Net.var (X r.val) := by
    rw [varV_apply]
    simp only [hc]
    rfl
  rw [scaleV_apply, hc, hv, hg, hb, ofBits_eps, div_sqrt _ (Net.var_eps_pos _)]
  rfl

/-- A layer's new items, from the rows before the layer norm. -/
theorem newI_at (p : Net) (l : Fin 4) (x : FVec Ideal S50000x128 .f32) (X : ℕ → Fin 128 → EReal) (Y : Fin 100 → Fin 128 → EReal)
    (hx : ∀ r k, (x (ix2 r k) : EReal) = p.linE l X Y r.val k)
    (g b : FVec Ideal S128 .f32) (hg : ∀ k, (g (ix1 k) : EReal) = p.g l k) (hb : ∀ k, (b (ix1 k) : EReal) = p.be l k) (r : Fin 50000) (k : Fin 128) :
    (scaleV (centV x) (varV (centV x)) g b (ix2 r k) : EReal) = p.newI l X Y r.val k :=
  (norm_at p l x (p.linE l X Y) hx g b hg hb r k).trans (p.norm_linE l X Y r.val k)

/-- The last product and the leaky rectifier. -/
theorem out_at (p : Net) (x : FVec Ideal S50000x128 .f32) (hx : ∀ r k, (x (ix2 r k) : EReal) = p.hI 4 r.val k)
    (w : FVec Ideal S128x128 .f32) (hw : ∀ j k, (w (ix2 j k) : EReal) = p.wf j k) (r : Fin 50000) (k : Fin 128) :
    (leakV (lastV x w) (ix2 r k) : EReal) = p.out r.val k := by
  have ho : (lastV x w (ix2 r k) : EReal) = ∑ j, p.hI 4 r.val j * p.wf j k := by
    rw [lastV_apply]
    simp only [hx, hw]
  show Scalar.select (Ideal.cmp .oge (lastV x w (ix2 r k)) (Ideal.ofBits .f32 0x00000000#32)) (lastV x w (ix2 r k) : EReal)
    ((Ideal.ofBits .f32 0x3C23D70A#32 : EReal) * lastV x w (ix2 r k)) = _
  rw [ho, Ideal.ofBits_zero_f32, ofBits_slope]
  unfold Net.out Ideal.cmp
  by_cases hz : 0 ≤ ∑ j, p.hI 4 r.val j * p.wf j k
  · simp [hz, Scalar.select]
  · simp [hz, Scalar.select]

/-! ## The weights of a layer -/

theorem mat_0 (w : FVec Ideal S4x128x128 .f32) (j k : Fin 128) :
    (shapeCast S128x128 (extractStridedSlice S1x128x128 ![0, 0, 0] w slices_S4x128x128_S1x128x128_0_0_0) shapeCasts_S1x128x128_S128x128 : FVec Ideal S128x128 .f32) (ix2 j k) = w (ix3 0 j k) := by
  pointwise

theorem row_0 (w : FVec Ideal S4x128 .f32) (k : Fin 128) :
    (shapeCast S128 (extractStridedSlice S1x128 ![0, 0] w slices_S4x128_S1x128_0_0) shapeCasts_S1x128_S128 : FVec Ideal S128 .f32) (ix1 k) = w (ix2 0 k) := by
  pointwise

theorem mat_1 (w : FVec Ideal S4x128x128 .f32) (j k : Fin 128) :
    (shapeCast S128x128 (extractStridedSlice S1x128x128 ![1, 0, 0] w slices_S4x128x128_S1x128x128_1_0_0) shapeCasts_S1x128x128_S128x128 : FVec Ideal S128x128 .f32) (ix2 j k) = w (ix3 1 j k) := by
  pointwise

theorem row_1 (w : FVec Ideal S4x128 .f32) (k : Fin 128) :
    (shapeCast S128 (extractStridedSlice S1x128 ![1, 0] w slices_S4x128_S1x128_1_0) shapeCasts_S1x128_S128 : FVec Ideal S128 .f32) (ix1 k) = w (ix2 1 k) := by
  pointwise

theorem mat_2 (w : FVec Ideal S4x128x128 .f32) (j k : Fin 128) :
    (shapeCast S128x128 (extractStridedSlice S1x128x128 ![2, 0, 0] w slices_S4x128x128_S1x128x128_2_0_0) shapeCasts_S1x128x128_S128x128 : FVec Ideal S128x128 .f32) (ix2 j k) = w (ix3 2 j k) := by
  pointwise

theorem row_2 (w : FVec Ideal S4x128 .f32) (k : Fin 128) :
    (shapeCast S128 (extractStridedSlice S1x128 ![2, 0] w slices_S4x128_S1x128_2_0) shapeCasts_S1x128_S128 : FVec Ideal S128 .f32) (ix1 k) = w (ix2 2 k) := by
  pointwise

theorem mat_3 (w : FVec Ideal S4x128x128 .f32) (j k : Fin 128) :
    (shapeCast S128x128 (extractStridedSlice S1x128x128 ![3, 0, 0] w slices_S4x128x128_S1x128x128_3_0_0) shapeCasts_S1x128x128_S128x128 : FVec Ideal S128x128 .f32) (ix2 j k) = w (ix3 3 j k) := by
  pointwise

theorem row_3 (w : FVec Ideal S4x128 .f32) (k : Fin 128) :
    (shapeCast S128 (extractStridedSlice S1x128 ![3, 0] w slices_S4x128_S1x128_3_0) shapeCasts_S1x128_S128 : FVec Ideal S128 .f32) (ix1 k) = w (ix2 3 k) := by
  pointwise

/-! ## The four layers -/

section
variable (V : Valuation τ sig (Elt Ideal))

/-- The reference's arguments are the network `p`, and its items are in order. -/
structure RFits (p : Net) (V : Valuation τ sig (Elt Ideal)) : Prop extends
  Fits p (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) where
  items : InOrder (V (Proc.devRef .tc main_arg0))

variable {V} {p : Net} (h : RFits p V)
include h

theorem edges_of : Edges p (V (Proc.devRef .tc main_arg1)) (V (Proc.devRef .tc main_arg2)) := ⟨h.src, h.src_lt, h.dst⟩

theorem items_0 (r : Fin 50000) (k : Fin 128) : ((res_main_v74 V : FVec Ideal S50000x128 .f32) (ix2 r k) : EReal) = p.hI 0 r.val k :=
  (congrFun (table_rows h.items) (ix2 r k)).trans (h.it r k)

theorem tags_0 (t : Fin 100) (k : Fin 128) : ((V (Proc.devRef .tc main_arg4) : FVec Ideal S100x128 .f32) (ix2 t k) : EReal) = p.hT 0 t k := h.tt t k

theorem tags_1 (t : Fin 100) (k : Fin 128) : ((res_main_v87 V : FVec Ideal S100x128 .f32) (ix2 t k) : EReal) = p.hT 1 t k :=
  newT_at (edges_of h) 0 _ (p.hI 0) (items_0 h) _ (p.hT 0) (tags_0 h) _ _ _ (fun j k => (mat_0 _ j k).trans (h.wsa 0 j k)) (fun j k => (mat_0 _ j k).trans (h.wna 0 j k)) (fun k => (row_0 _ k).trans (h.ba 0 k)) t k

theorem lins_0 (r : Fin 50000) (k : Fin 128) : ((res_main_v106 V : FVec Ideal S50000x128 .f32) (ix2 r k) : EReal) = p.linE 0 (p.hI 0) (p.hT 0) r.val k :=
  lin_at (edges_of h) 0 _ (p.hI 0) (items_0 h) _ (p.hT 0) (tags_0 h) _ _ _ (fun j k => (mat_0 _ j k).trans (h.wsr 0 j k)) (fun j k => (mat_0 _ j k).trans (h.wnr 0 j k)) (fun k => (row_0 _ k).trans (h.br 0 k)) r k

theorem items_1 (r : Fin 50000) (k : Fin 128) : ((res_main_v128 V : FVec Ideal S50000x128 .f32) (ix2 r k) : EReal) = p.hI 1 r.val k :=
  newI_at p 0 _ (p.hI 0) (p.hT 0) (lins_0 h) _ _ (fun k => (row_0 _ k).trans (h.g 0 k)) (fun k => (row_0 _ k).trans (h.be 0 k)) r k

theorem tags_2 (t : Fin 100) (k : Fin 128) : ((res_main_v141 V : FVec Ideal S100x128 .f32) (ix2 t k) : EReal) = p.hT 2 t k :=
  newT_at (edges_of h) 1 _ (p.hI 1) (items_1 h) _ (p.hT 1) (tags_1 h) _ _ _ (fun j k => (mat_1 _ j k).trans (h.wsa 1 j k)) (fun j k => (mat_1 _ j k).trans (h.wna 1 j k)) (fun k => (row_1 _ k).trans (h.ba 1 k)) t k

theorem lins_1 (r : Fin 50000) (k : Fin 128) : ((res_main_v160 V : FVec Ideal S50000x128 .f32) (ix2 r k) : EReal) = p.linE 1 (p.hI 1) (p.hT 1) r.val k :=
  lin_at (edges_of h) 1 _ (p.hI 1) (items_1 h) _ (p.hT 1) (tags_1 h) _ _ _ (fun j k => (mat_1 _ j k).trans (h.wsr 1 j k)) (fun j k => (mat_1 _ j k).trans (h.wnr 1 j k)) (fun k => (row_1 _ k).trans (h.br 1 k)) r k

theorem items_2 (r : Fin 50000) (k : Fin 128) : ((res_main_v182 V : FVec Ideal S50000x128 .f32) (ix2 r k) : EReal) = p.hI 2 r.val k :=
  newI_at p 1 _ (p.hI 1) (p.hT 1) (lins_1 h) _ _ (fun k => (row_1 _ k).trans (h.g 1 k)) (fun k => (row_1 _ k).trans (h.be 1 k)) r k

theorem tags_3 (t : Fin 100) (k : Fin 128) : ((res_main_v195 V : FVec Ideal S100x128 .f32) (ix2 t k) : EReal) = p.hT 3 t k :=
  newT_at (edges_of h) 2 _ (p.hI 2) (items_2 h) _ (p.hT 2) (tags_2 h) _ _ _ (fun j k => (mat_2 _ j k).trans (h.wsa 2 j k)) (fun j k => (mat_2 _ j k).trans (h.wna 2 j k)) (fun k => (row_2 _ k).trans (h.ba 2 k)) t k

theorem lins_2 (r : Fin 50000) (k : Fin 128) : ((res_main_v214 V : FVec Ideal S50000x128 .f32) (ix2 r k) : EReal) = p.linE 2 (p.hI 2) (p.hT 2) r.val k :=
  lin_at (edges_of h) 2 _ (p.hI 2) (items_2 h) _ (p.hT 2) (tags_2 h) _ _ _ (fun j k => (mat_2 _ j k).trans (h.wsr 2 j k)) (fun j k => (mat_2 _ j k).trans (h.wnr 2 j k)) (fun k => (row_2 _ k).trans (h.br 2 k)) r k

theorem items_3 (r : Fin 50000) (k : Fin 128) : ((res_main_v236 V : FVec Ideal S50000x128 .f32) (ix2 r k) : EReal) = p.hI 3 r.val k :=
  newI_at p 2 _ (p.hI 2) (p.hT 2) (lins_2 h) _ _ (fun k => (row_2 _ k).trans (h.g 2 k)) (fun k => (row_2 _ k).trans (h.be 2 k)) r k

theorem lins_3 (r : Fin 50000) (k : Fin 128) : ((res_main_v268 V : FVec Ideal S50000x128 .f32) (ix2 r k) : EReal) = p.linE 3 (p.hI 3) (p.hT 3) r.val k :=
  lin_at (edges_of h) 3 _ (p.hI 3) (items_3 h) _ (p.hT 3) (tags_3 h) _ _ _ (fun j k => (mat_3 _ j k).trans (h.wsr 3 j k)) (fun j k => (mat_3 _ j k).trans (h.wnr 3 j k)) (fun k => (row_3 _ k).trans (h.br 3 k)) r k

/-- The reference's result. -/
theorem reference_at (r : Fin 50000) (k : Fin 128) : (rowsV (leakV (res_main_v291 V)) (res_main_call21_v5 V) (ix2 r k) : EReal) = p.out r.val k :=
  (congrFun (take_rows _ (inverse_in h.items)) (ix2 r k)).trans <|
  out_at p _ (newI_at p 3 _ (p.hI 3) (p.hT 3) (lins_3 h) _ _ (fun k => (row_3 _ k).trans (h.g 3 k)) (fun k => (row_3 _ k).trans (h.be 3 k))) _ h.wf r k

end

end Cert.Proof

end
-- ==== Proof.lean ====
/-
  The proof of the claims of proofs.«01_k».proof.Defs: the frames of the kernel, in bits and over the extended reals, the
  frame of the reference, and the equality of the kernel's and the reference's results.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_edges_in_range
public import proofs.«01_k».proof.Proof.Gen.Pre_items_in_order_edges_in_range_weights_finite
public import proofs.«01_k».proof.Proof.Same
public import proofs.«01_k».proof.Proof.Value
public import proofs.«01_k».proof.Proof.RefVal
public import Idealize.ShloMosaic.Adequacy
public import Idealize.ShloMosaic.Init

@[expose] public section

noncomputable section

namespace Cert.Proof

open Idealize.ShloMosaic Idealize.SL.Sem

/-- A run leaves the fourteen arguments as they were. -/
theorem arguments_kept {F : FTy → Type} [FloatOps F] [∀ e, Nonempty (Elt F e)]
    (m : (ℓ : Loc Cert.KernelIdeal.nD Cert.KernelIdeal.τ Cert.KernelIdeal.sig) → Buf (Elt F) ℓ) (d : Dev Cert.KernelIdeal.nD)
    {r : PUnit × MemSt Cert.KernelIdeal.nD Cert.KernelIdeal.τ Cert.KernelIdeal.sig (Elt F)} (h : QC m r) :
    r.2.mem ((d.tc : Thread Cert.KernelIdeal.nD Cert.KernelIdeal.τ).loc Cert.KernelIdeal.main_arg0) = m ((d.tc : Thread Cert.KernelIdeal.nD Cert.KernelIdeal.τ).loc Cert.KernelIdeal.main_arg0) ∧
    r.2.mem ((d.tc : Thread Cert.KernelIdeal.nD Cert.KernelIdeal.τ).loc Cert.KernelIdeal.main_arg1) = m ((d.tc : Thread Cert.KernelIdeal.nD Cert.KernelIdeal.τ).loc Cert.KernelIdeal.main_arg1) ∧
    r.2.mem ((d.tc : Thread Cert.KernelIdeal.nD Cert.KernelIdeal.τ).loc Cert.KernelIdeal.main_arg2) = m ((d.tc : Thread Cert.KernelIdeal.nD Cert.KernelIdeal.τ).loc Cert.KernelIdeal.main_arg2) ∧
    r.2.mem ((d.tc : Thread Cert.KernelIdeal.nD Cert.KernelIdeal.τ).loc Cert.KernelIdeal.main_arg3) = m ((d.tc : Thread Cert.KernelIdeal.nD Cert.KernelIdeal.τ).loc Cert.KernelIdeal.main_arg3) ∧
    r.2.mem ((d.tc : Thread Cert.KernelIdeal.nD Cert.KernelIdeal.τ).loc Cert.KernelIdeal.main_arg4) = m ((d.tc : Thread Cert.KernelIdeal.nD Cert.KernelIdeal.τ).loc Cert.KernelIdeal.main_arg4) ∧
    r.2.mem ((d.tc : Thread Cert.KernelIdeal.nD Cert.KernelIdeal.τ).loc Cert.KernelIdeal.main_arg5) = m ((d.tc : Thread Cert.KernelIdeal.nD Cert.KernelIdeal.τ).loc Cert.KernelIdeal.main_arg5) ∧
    r.2.mem ((d.tc : Thread Cert.KernelIdeal.nD Cert.KernelIdeal.τ).loc Cert.KernelIdeal.main_arg6) = m ((d.tc : Thread Cert.KernelIdeal.nD Cert.KernelIdeal.τ).loc Cert.KernelIdeal.main_arg6) ∧
    r.2.mem ((d.tc : Thread Cert.KernelIdeal.nD Cert.KernelIdeal.τ).loc Cert.KernelIdeal.main_arg7) = m ((d.tc : Thread Cert.KernelIdeal.nD Cert.KernelIdeal.τ).loc Cert.KernelIdeal.main_arg7) ∧
    r.2.mem ((d.tc : Thread Cert.KernelIdeal.nD Cert.KernelIdeal.τ).loc Cert.KernelIdeal.main_arg8) = m ((d.tc : Thread Cert.KernelIdeal.nD Cert.KernelIdeal.τ).loc Cert.KernelIdeal.main_arg8) ∧
    r.2.mem ((d.tc : Thread Cert.KernelIdeal.nD Cert.KernelIdeal.τ).loc Cert.KernelIdeal.main_arg9) = m ((d.tc : Thread Cert.KernelIdeal.nD Cert.KernelIdeal.τ).loc Cert.KernelIdeal.main_arg9) ∧
    r.2.mem ((d.tc : Thread Cert.KernelIdeal.nD Cert.KernelIdeal.τ).loc Cert.KernelIdeal.main_arg10) = m ((d.tc : Thread Cert.KernelIdeal.nD Cert.KernelIdeal.τ).loc Cert.KernelIdeal.main_arg10) ∧
    r.2.mem ((d.tc : Thread Cert.KernelIdeal.nD Cert.KernelIdeal.τ).loc Cert.KernelIdeal.main_arg11) = m ((d.tc : Thread Cert.KernelIdeal.nD Cert.KernelIdeal.τ).loc Cert.KernelIdeal.main_arg11) ∧
    r.2.mem ((d.tc : Thread Cert.KernelIdeal.nD Cert.KernelIdeal.τ).loc Cert.KernelIdeal.main_arg12) = m ((d.tc : Thread Cert.KernelIdeal.nD Cert.KernelIdeal.τ).loc Cert.KernelIdeal.main_arg12) ∧
    r.2.mem ((d.tc : Thread Cert.KernelIdeal.nD Cert.KernelIdeal.τ).loc Cert.KernelIdeal.main_arg13) = m ((d.tc : Thread Cert.KernelIdeal.nD Cert.KernelIdeal.τ).loc Cert.KernelIdeal.main_arg13) :=
  ⟨kept m d h Cert.KernelIdeal.main_arg0 (by decide) (by decide) (by decide),
    kept m d h Cert.KernelIdeal.main_arg1 (by decide) (by decide) (by decide),
    kept m d h Cert.KernelIdeal.main_arg2 (by decide) (by decide) (by decide),
    kept m d h Cert.KernelIdeal.main_arg3 (by decide) (by decide) (by decide),
    kept m d h Cert.KernelIdeal.main_arg4 (by decide) (by decide) (by decide),
    kept m d h Cert.KernelIdeal.main_arg5 (by decide) (by decide) (by decide),
    kept m d h Cert.KernelIdeal.main_arg6 (by decide) (by decide) (by decide),
    kept m d h Cert.KernelIdeal.main_arg7 (by decide) (by decide) (by decide),
    kept m d h Cert.KernelIdeal.main_arg8 (by decide) (by decide) (by decide),
    kept m d h Cert.KernelIdeal.main_arg9 (by decide) (by decide) (by decide),
    kept m d h Cert.KernelIdeal.main_arg10 (by decide) (by decide) (by decide),
    kept m d h Cert.KernelIdeal.main_arg11 (by decide) (by decide) (by decide),
    kept m d h Cert.KernelIdeal.main_arg12 (by decide) (by decide) (by decide),
    kept m d h Cert.KernelIdeal.main_arg13 (by decide) (by decide) (by decide)⟩

/-- From any memory, in bits: the kernel ends, faults nowhere, leaves every argument as it was and every semaphore at zero. -/
theorem frame_kernel : Cert.quiescent_Kernel (hKernel := Cert.Kernel.Gen.facts) (hPre_edges_in_range := Cert.Pre_edges_in_range.Gen.facts) := by
  intro m ρ _
  rw [defs_same, threads_same]
  exact (θ_run Cert.KernelIdeal.defs _ _).mono (fun _ h => ⟨fun c => arguments_kept m c h, h.2⟩) (run_main (F := Bits) m ρ)

/-- The same over the extended reals. -/
theorem frame_ideal : Cert.quiescent_KernelIdeal (hKernelIdeal := Cert.KernelIdeal.Gen.facts) (hPre_edges_in_range := Cert.Pre_edges_in_range.Gen.facts) :=
  fun m ρ _ => (θ_run Cert.KernelIdeal.defs _ _).mono (fun _ h => ⟨fun c => arguments_kept m c h, h.2⟩) (run_main (F := Ideal) m ρ)

/-- The same, under the precondition of the values. -/
theorem frame_ideal_in_order : Cert.quiescent_KernelIdeal_pre_items_in_order_edges_in_range_weights_finite (hKernelIdeal := Cert.KernelIdeal.Gen.facts)
    (hPre_items_in_order_edges_in_range_weights_finite := Cert.Pre_items_in_order_edges_in_range_weights_finite.Gen.facts) :=
  fun m ρ _ => (θ_run Cert.KernelIdeal.defs _ _).mono (fun _ h => ⟨fun c => arguments_kept m c h, h.2⟩) (run_main (F := Ideal) m ρ)

/-- The reference, over the extended reals. -/
theorem frame_reference : Cert.quiescent_ReferenceIdeal (hReferenceIdeal := Cert.ReferenceIdeal.Gen.facts)
    (hPre_edges_in_range := Cert.Pre_edges_in_range.Gen.facts) := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- The same, under the precondition of the values. -/
theorem frame_reference_in_order : Cert.quiescent_ReferenceIdeal_pre_items_in_order_edges_in_range_weights_finite (hReferenceIdeal := Cert.ReferenceIdeal.Gen.facts)
    (hPre_items_in_order_edges_in_range_weights_finite := Cert.Pre_items_in_order_edges_in_range_weights_finite.Gen.facts) := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- The reference's arguments, equal to the kernel's, are the network that the kernel's are. -/
theorem fits_reference {p : Net} {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} {c : Dev Cert.KernelIdeal.nD} (h : KFits p m c)
    (h0 : InOrder (m ((c.tc : Thread Cert.KernelIdeal.nD Cert.KernelIdeal.τ).loc Cert.KernelIdeal.main_arg0)))
    (h0' : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    : RFits p (StableHlo.launchContents m' c) := by
  refine ⟨?_, ?_⟩
  · show Fits p (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13))
    rw [h1, h2, h3, h4, h5, h6, h7, h8, h9, h10, h11, h12, h13]
    exact h
  · show InOrder (m' ((c.tc : Thread Cert.ReferenceIdeal.nD Cert.ReferenceIdeal.τ).loc Cert.ReferenceIdeal.main_arg0))
    rw [h0']
    exact h0

/-- The kernel's result is the reference's, element by element: both are the network's four layers, on the counts of the
    edges in the kernel and edge by edge in the reference. -/
theorem values : Cert.algebraic_KernelIdeal_ReferenceIdeal_pre_items_in_order_edges_in_range_weights_finite (hKernelIdeal := Cert.KernelIdeal.Gen.facts)
    (hReferenceIdeal := Cert.ReferenceIdeal.Gen.facts)
    (hPre_items_in_order_edges_in_range_weights_finite := Cert.Pre_items_in_order_edges_in_range_weights_finite.Gen.facts) := by
  intro m ρ m' ρ' hpre hm
  refine ⟨fun c => rowsV (leakV (Cert.ReferenceIdeal.Value.res_main_v291 (StableHlo.launchContents m' c))) (Cert.ReferenceIdeal.Value.res_main_call21_v5 (StableHlo.launchContents m' c)), ?_,
    (θ_run Cert.ReferenceIdeal.defs _ _).mono (fun _ h c => h c) (Cert.ReferenceIdeal.Value.run (F := Ideal) m' ρ')⟩
  refine (θ_run Cert.KernelIdeal.defs _ _).mono (fun r h c => ⟨?_, arguments_kept m c h⟩) (run_main (F := Ideal) m ρ)
  have hk := fits_of_pre _ _ _ _ _ _ _ _ _ _ _ _ _ _ (hpre c)
  obtain ⟨h0, h1, h2, h3, h4, h5, h6, h7, h8, h9, h10, h11, h12, h13⟩ := hm c
  have hr := fits_reference hk (items_of_pre _ _ _ _ _ _ _ _ _ _ _ _ _ _ (hpre c)) h0 h1 h2 h3 h4 h5 h6 h7 h8 h9 h10 h11 h12 h13
  funext j
  obtain ⟨i, k, rfl⟩ : ∃ (i : Fin 50000) (k : Fin 128), j = ix2 i k := ⟨j 0, j 1, eq_ix2 j⟩
  exact (kernel_at m c hk h i k).trans (reference_at hr i k).symm

theorem claim : Cert.Claim := ⟨Cert.Kernel.Gen.facts, Cert.KernelIdeal.Gen.facts, Cert.ReferenceIdeal.Gen.facts, Cert.Pre_edges_in_range.Gen.facts,
  Cert.Pre_items_in_order_edges_in_range_weights_finite.Gen.facts, frame_kernel, frame_ideal, frame_ideal_in_order, frame_reference, frame_reference_in_order, trivial, values⟩

end Cert.Proof

end
